-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)) (v1 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v22)) (v1 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_v25) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S24576x3072 : Shape := ⟨2, ![24576, 3072]⟩
abbrev S8192x1024 : Shape := ⟨2, ![8192, 1024]⟩
abbrev S_ : Shape := ⟨0, ![]⟩

class Facts : Prop where
  slices_S24576x3072_S8192x1024_0_0 : S24576x3072.Slices ![0, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S24576x3072 .f32) : IVec S_ 1 :=
  let main_v0 : FVec F S8192x1024 .f32 := (extractStridedSlice S8192x1024 ![0, 0] · slices_S24576x3072_S8192x1024_0_0) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Pre_routed.lean ====
abbrev S24576x1024 : Shape := ⟨2, ![24576, 1024]⟩
abbrev S416x1x256 : Shape := ⟨3, ![416, 1, 256]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S416x1x256 : S_.BroadcastsInDim S416x1x256 (![] : Fin 0 → Fin S416x1x256.rank)
  reducesTo_S416x1x256_S_d0_1_2 : S416x1x256.ReducesTo [0, 1, 2] S_
  h_S_ : 0 < S_.numel
  bcast_S_S416 : S_.BroadcastsInDim S416 (![] : Fin 0 → Fin S416.rank)
  reducesTo_S416_S_d0 : S416.ReducesTo [0] S_

variable [Facts]

def fn {F : FTy → Type} [FloatOps F] (main_arg0 : FVec F S24576x1024 .f32) (main_arg1 : IVec S416x1x256 32) (main_arg2 : IVec S416 32) (main_arg3 : IVec S1 32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 32 := constantI S_ 32 0#32
  let main_v0 : IVec S416x1x256 32 := broadcastInDim S416x1x256 ![] bcast_S_S416x1x256 main_c
  let main_v1 : IVec S416x1x256 1 := cmpi .sge main_arg1 main_v0
  let main_c_0 : IVec S_ 1 := constantI S_ 1 1#1
  let main_v2 : IVec S_ 1 := (fun x v => Host.reduce IntOp.andi x v reducesTo_S416x1x256_S_d0_1_2 h_S_) main_v1 main_c_0
  let main_c_1 : IVec S_ 32 := constantI S_ 32 24576#32
  let main_v3 : IVec S416x1x256 32 := broadcastInDim S416x1x256 ![] bcast_S_S416x1x256 main_c_1
  let main_v4 : IVec S416x1x256 1 := cmpi .slt main_arg1 main_v3
  let main_c_2 : IVec S_ 1 := constantI S_ 1 1#1
  let main_v5 : IVec S_ 1 := (fun x v => Host.reduce IntOp.andi x v reducesTo_S416x1x256_S_d0_1_2 h_S_) main_v4 main_c_2
  let main_v6 : IVec S_ 1 := andi main_v2 main_v5
  let main_c_3 : IVec S_ 32 := constantI S_ 32 0#32
  let main_v7 : IVec S416 32 := broadcastInDim S416 ![] bcast_S_S416 main_c_3
  let main_v8 : IVec S416 1 := cmpi .sge main_arg2 main_v7
  let main_c_4 : IVec S_ 1 := constantI S_ 1 1#1
  let main_v9 : IVec S_ 1 := (fun x v => Host.reduce IntOp.andi x v reducesTo_S416_S_d0 h_S_) main_v8 main_c_4
  let main_v10 : IVec S_ 1 := andi main_v6 main_v9
  let main_c_5 : IVec S_ 32 := constantI S_ 32 32#32
  let main_v11 : IVec S416 32 := broadcastInDim S416 ![] bcast_S_S416 main_c_5
  let main_v12 : IVec S416 1 := cmpi .slt main_arg2 main_v11
  let main_c_6 : IVec S_ 1 := constantI S_ 1 1#1
  let main_v13 : IVec S_ 1 := (fun x v => Host.reduce IntOp.andi x v reducesTo_S416_S_d0 h_S_) main_v12 main_c_6
  let main_v14 : IVec S_ 1 := andi main_v10 main_v13
  main_v14
-- ==== Kernel.lean ====
abbrev S24576x3072 : Shape := ⟨2, ![24576, 3072]⟩
abbrev S8192x512 : Shape := ⟨2, ![8192, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S24576x3072, .f32⟩
  | .hbm, ⟨1, _⟩ => ⟨S8192x512, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .bf16⟩
  | .local _ .vmem, ⟨7, _⟩ => ⟨S256x128, .bf16⟩
  | _, _ => ⟨S24576x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S24576x3072 : Shape := ⟨2, ![24576, 3072]⟩
abbrev S8192x512 : Shape := ⟨2, ![8192, 512]⟩
abbrev S32x256x8x64 : Shape := ⟨4, ![32, 256, 8, 64]⟩
abbrev S32x8x256x64 : Shape := ⟨4, ![32, 8, 256, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S24576x3072, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S32x256x8x64, .f32⟩
  | .hbm, ⟨5, _⟩ => ⟨S32x8x256x64, .f32⟩
  | .hbm, ⟨6, _⟩ => ⟨S32x256x8x64, .f32⟩
  | .hbm, ⟨7, _⟩ => ⟨S32x8x256x64, .f32⟩
  | .hbm, ⟨8, _⟩ => ⟨S32x256x8x64, .f32⟩
  | .hbm, ⟨9, _⟩ => ⟨S32x8x256x64, .f32⟩
  | .hbm, ⟨10, _⟩ => ⟨S32x8x256x256, .f32⟩
  | .hbm, ⟨11, _⟩ => ⟨S_, .f32⟩
  | .hbm, ⟨12, _⟩ => ⟨S32x8x256x256, .f32⟩
  | .hbm, ⟨13, _⟩ => ⟨S32x8x256x256, .f32⟩
  | .hbm, ⟨14, _⟩ => ⟨S_, .f32⟩
  | .hbm, ⟨15, _⟩ => ⟨S32x8x256, .f32⟩
  | .hbm, ⟨16, _⟩ => ⟨S_, .f32⟩
  | .hbm, ⟨17, _⟩ => ⟨S32x8x256, .f32⟩
  | .hbm, ⟨18, _⟩ => ⟨S32x8x256, .f32⟩
  | .hbm, ⟨19, _⟩ => ⟨S32x8x256x1, .f32⟩
  | .hbm, ⟨20, _⟩ => ⟨S32x8x256x256, .f32⟩
  | .hbm, ⟨21, _⟩ => ⟨S32x8x256x256, .f32⟩
  | .hbm, ⟨22, _⟩ => ⟨S32x8x256x256, .f32⟩
  | .hbm, ⟨23, _⟩ => ⟨S_, .f32⟩
  | .hbm, ⟨24, _⟩ => ⟨S32x8x256, .f32⟩
  | .hbm, ⟨25, _⟩ => ⟨S32x8x256x1, .f32⟩
  | .hbm, ⟨26, _⟩ => ⟨S32x8x256x256, .f32⟩
  | .hbm, ⟨27, _⟩ => ⟨S32x8x256x256, .f32⟩
  | .hbm, ⟨28, _⟩ => ⟨S32x8x256x64, .f32⟩
  | .hbm, ⟨29, _⟩ => ⟨S32x256x8x64, .f32⟩
  | .hbm, ⟨30, _⟩ => ⟨S8192x512, .f32⟩
  | .hbm, ⟨31, _⟩ => ⟨S8192x512, .bf16⟩
  | _, _ => ⟨S24576x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel2.lean ====
abbrev S24576x1024 : Shape := ⟨2, ![24576, 1024]⟩
abbrev S416x1x256 : Shape := ⟨3, ![416, 1, 256]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S106496x1024 : Shape := ⟨2, ![106496, 1024]⟩
abbrev S1x1x256 : Shape := ⟨3, ![1, 1, 256]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1024 : Shape := ⟨2, ![256, 1024]⟩
abbrev S1024x2048 : Shape := ⟨2, ![1024, 2048]⟩
abbrev S1024x1024 : Shape := ⟨2, ![1024, 1024]⟩
abbrev S_ : Shape := ⟨0, ![]⟩
abbrev S1x1x1 : Shape := ⟨3, ![1, 1, 1]⟩
abbrev S1x1024 : Shape := ⟨2, ![1, 1024]⟩
abbrev S256x2048 : Shape := ⟨2, ![256, 2048]⟩
abbrev S1x2048 : Shape := ⟨2, ![1, 2048]⟩

abbrev nBuf : Space → Nat
  | .hbm => 7
  | .vmem => 13
  | .smem => 4
  | _ => 0

abbrev bufTy : (tb : Table) → Fin (tcTables nBuf tb) → BufTy
  | .hbm, ⟨0, _⟩ => ⟨S24576x1024, .f32⟩
  | .hbm, ⟨1, _⟩ => ⟨S416x1x256, .i32⟩
  | .hbm, ⟨2, _⟩ => ⟨S32x1024x2048, .f32⟩
  | .hbm, ⟨3, _⟩ => ⟨S32x1x2048, .f32⟩
  | .hbm, ⟨4, _⟩ => ⟨S32x1024x1024, .f32⟩
  | .hbm, ⟨5, _⟩ => ⟨S32x1x1024, .f32⟩
  | .hbm, ⟨6, _⟩ => ⟨S106496x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x2048, .bf16⟩
  | .local _ .vmem, ⟨12, _⟩ => ⟨S1024x1024, .bf16⟩
  | .local _ .smem, ⟨0, _⟩ => ⟨S416, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg2 : Ref sig .tc := ⟨.smem, 0, rfl⟩
abbrev main_arg3 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![416], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_2 : BitVec 32 := 0#32
  let c256_i32 : BitVec 32 := 256#32
  let v8 : BitVec 32 := Scalar.addi c0_i32_2 c256_i32
  let c1_i32 : BitVec 32 := 1#32
  ⟨c0_i32_2, v8, c1_i32⟩
def k0_off2 (k0_t1 : Fin k0_t1_loop.trips) : Fin 3 → Nat :=
  let c0_32 : Index := 0#32
  let c0_33 : Index := 0#32
  let c0_i32_2 : BitVec 32 := 0#32
  let c1_i32 : BitVec 32 := 1#32
  let arg14 : BitVec 32 := Scf.iv c0_i32_2 c1_i32 k0_t1
  let v52 : Index := Scalar.indexCast arg14
  ![0, 0, v52.toNat]
def k0_off3 (k0_t1 : Fin k0_t1_loop.trips) : Fin 2 → Nat :=
  let c0_i32_2 : BitVec 32 := 0#32
  let c1_i32 : BitVec 32 := 1#32
  let arg14 : BitVec 32 := Scf.iv c0_i32_2 c1_i32 k0_t1
  let c0_i32_34 : BitVec 32 := 0#32
  ![arg14.toNat, 0]
def k0_off4 (v53 : BitVec 32) : Fin 2 → Nat :=
  let c0_i32_35 : BitVec 32 := 0#32
  ![v53.toNat, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v53 : BitVec 32) : Prop :=
  (∀ (k0_h1 : k0_cond1 i v0 = 1#1), ∀ a, (k0_off4 v53) a + S1x1024.size a ≤ S24576x1024.size a)
theorem k0_off4_inb : ∀ (i : grid0.Coords) (v0 : BitVec 32) (v53 : BitVec 32) (k0_hw1 : k0_chk1 i v0 v53), ∀ (k0_h1 : k0_cond1 i v0 = 1#1), ∀ a, (k0_off4 v53) a + S1x1024.size a ≤ S24576x1024.size a := fun i v0 v53 k0_hw1 k0_h1 => k0_hw1 k0_h1

def k0_off5 (i : grid0.Coords) : Fin 1 → Nat :=
  let arg0 : BitVec 32 := BitVec.ofNat 32 (i 0).val
  let v9 : Index := Scalar.indexCast arg0
  ![v9.toNat]
def k0_off6 (i : grid0.Coords) : Fin 1 → Nat :=
  let arg0 : BitVec 32 := BitVec.ofNat 32 (i 0).val
  let c1_i32_4 : BitVec 32 := 1#32
  let v11 : BitVec 32 := Scalar.subi arg0 c1_i32_4
  let c0_i32_5 : BitVec 32 := 0#32
  let v12 : BitVec 32 := Scalar.maxsi v11 c0_i32_5
  let v13 : Index := Scalar.indexCast v12
  ![v13.toNat]
@[reducible] def k0_t2_loop : Scf.Loop 32 :=
  let c0_i32_8 : BitVec 32 := 0#32
  let c256_i32_9 : BitVec 32 := 256#32
  let v20 : BitVec 32 := Scalar.addi c0_i32_8 c256_i32_9
  let c1_i32_10 : BitVec 32 := 1#32
  ⟨c0_i32_8, v20, c1_i32_10⟩
def k0_off7 (k0_t2 : Fin k0_t2_loop.trips) : Fin 3 → Nat :=
  let c0_32 : Index := 0#32
  let c0_33 : Index := 0#32
  let c0_i32_8 : BitVec 32 := 0#32
  let c1_i32_10 : BitVec 32 := 1#32
  let arg14 : BitVec 32 := Scf.iv c0_i32_8 c1_i32_10 k0_t2
  let v52 : Index := Scalar.indexCast arg14
  ![0, 0, v52.toNat]
def k0_off8 (k0_t2 : Fin k0_t2_loop.trips) : Fin 2 → Nat :=
  let c0_i32_8 : BitVec 32 := 0#32
  let c1_i32_10 : BitVec 32 := 1#32
  let arg14 : BitVec 32 := Scf.iv c0_i32_8 c1_i32_10 k0_t2
  let c0_i32_34 : BitVec 32 := 0#32
  ![arg14.toNat, 0]
def k0_off9 (v53 : BitVec 32) : Fin 2 → Nat :=
  let c0_i32_35 : BitVec 32 := 0#32
  ![v53.toNat, 0]

def k0_chk2 (i : grid0.Coords) (v0 : BitVec 32) (v53 : BitVec 32) : Prop :=
  (∀ (k0_h1 : k0_cond1 i v0 = 1#1), ∀ a, (k0_off9 v53) a + S1x1024.size a ≤ S24576x1024.size a)
theorem k0_off9_inb : ∀ (i : grid0.Coords) (v0 : BitVec 32) (v53 : BitVec 32) (k0_hw2 : k0_chk2 i v0 v53), ∀ (k0_h1 : k0_cond1 i v0 = 1#1), ∀ a, (k0_off9 v53) a + S1x1024.size a ≤ S24576x1024.size a := fun i v0 v53 k0_hw2 k0_h1 => k0_hw2 k0_h1

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S24576x1024 : Shape := ⟨2, ![24576, 1024]⟩
abbrev S416x1x256 : Shape := ⟨3, ![416, 1, 256]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S416x256 : Shape := ⟨2, ![416, 256]⟩
abbrev S_ : Shape := ⟨0, ![]⟩
abbrev S416x256x1 : Shape := ⟨3, ![416, 256, 1]⟩
abbrev S416x256x1024 : Shape := ⟨3, ![416, 256, 1024]⟩
abbrev S416x1 : Shape := ⟨2, ![416, 1]⟩
abbrev S416x1024x2048 : Shape := ⟨3, ![416, 1024, 2048]⟩
abbrev S416x256x2048 : Shape := ⟨3, ![416, 256, 2048]⟩
abbrev S416x1x2048 : Shape := ⟨3, ![416, 1, 2048]⟩
abbrev S416x1024x1024 : Shape := ⟨3, ![416, 1024, 1024]⟩
abbrev S416x1x1024 : Shape := ⟨3, ![416, 1, 1024]⟩
abbrev S416x1x1 : Shape := ⟨3, ![416, 1, 1]⟩
abbrev S106496x1024 : Shape := ⟨2, ![106496, 1024]⟩

abbrev nBuf : Space → Nat
  | .hbm => 100
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S416x1x256, .i32⟩
  | .hbm, ⟨2, _⟩ => ⟨S416, .i32⟩
  | .hbm, ⟨3, _⟩ => ⟨S1, .i32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S416x256, .i32⟩
  | .hbm, ⟨9, _⟩ => ⟨S_, .i32⟩
  | .hbm, ⟨10, _⟩ => ⟨S416x256, .i32⟩
  | .hbm, ⟨11, _⟩ => ⟨S416x256, .i1⟩
  | .hbm, ⟨12, _⟩ => ⟨S_, .i32⟩
  | .hbm, ⟨13, _⟩ => ⟨S416x256, .i32⟩
  | .hbm, ⟨14, _⟩ => ⟨S416x256, .i32⟩
  | .hbm, ⟨15, _⟩ => ⟨S416x256, .i32⟩
  | .hbm, ⟨16, _⟩ => ⟨S416x256x1, .i32⟩
  | .hbm, ⟨17, _⟩ => ⟨S416x256x1024, .f32⟩
  | .hbm, ⟨18, _⟩ => ⟨S_, .i32⟩
  | .hbm, ⟨19, _⟩ => ⟨S416, .i32⟩
  | .hbm, ⟨20, _⟩ => ⟨S416, .i1⟩
  | .hbm, ⟨21, _⟩ => ⟨S_, .i32⟩
  | .hbm, ⟨22, _⟩ => ⟨S416, .i32⟩
  | .hbm, ⟨23, _⟩ => ⟨S416, .i32⟩
  | .hbm, ⟨24, _⟩ => ⟨S416, .i32⟩
  | .hbm, ⟨25, _⟩ => ⟨S416x1, .i32⟩
  | .hbm, ⟨26, _⟩ => ⟨S416x1024x2048, .f32⟩
  | .hbm, ⟨27, _⟩ => ⟨S416x256x2048, .f32⟩
  | .hbm, ⟨28, _⟩ => ⟨S_, .i32⟩
  | .hbm, ⟨29, _⟩ => ⟨S416, .i32⟩
  | .hbm, ⟨30, _⟩ => ⟨S416, .i1⟩
  | .hbm, ⟨31, _⟩ => ⟨S_, .i32⟩
  | .hbm, ⟨32, _⟩ => ⟨S416, .i32⟩
  | .hbm, ⟨33, _⟩ => ⟨S416, .i32⟩
  | .hbm, ⟨34, _⟩ => ⟨S416, .i32⟩
  | .hbm, ⟨35, _⟩ => ⟨S416x1, .i32⟩
  | .hbm, ⟨36, _⟩ => ⟨S416x1x2048, .f32⟩
  | .hbm, ⟨37, _⟩ => ⟨S416x256x2048, .f32⟩
  | .hbm, ⟨38, _⟩ => ⟨S416x256x2048, .f32⟩
  | .hbm, ⟨39, _⟩ => ⟨S416x256x1024, .f32⟩
  | .hbm, ⟨40, _⟩ => ⟨S416x256x1024, .f32⟩
  | .hbm, ⟨41, _⟩ => ⟨S_, .f32⟩
  | .hbm, ⟨42, _⟩ => ⟨S416x256x1024, .f32⟩
  | .hbm, ⟨43, _⟩ => ⟨S416x256x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S416x256x1024, .f32⟩
  | .hbm, ⟨48, _⟩ => ⟨S416x256x1024, .f32⟩
  | .hbm, ⟨49, _⟩ => ⟨S_, .f32⟩
  | .hbm, ⟨50, _⟩ => ⟨S416x256x1024, .f32⟩
  | .hbm, ⟨51, _⟩ => ⟨S416x256x1024, .f32⟩
  | .hbm, ⟨52, _⟩ => ⟨S_, .f32⟩
  | .hbm, ⟨53, _⟩ => ⟨S416x256x1024, .f32⟩
  | .hbm, ⟨54, _⟩ => ⟨S416x256x1024, .f32⟩
  | .hbm, ⟨55, _⟩ => ⟨S416x256x1024, .f32⟩
  | .hbm, ⟨56, _⟩ => ⟨S416x256x1024, .f32⟩
  | .hbm, ⟨57, _⟩ => ⟨S_, .f32⟩
  | .hbm, ⟨58, _⟩ => ⟨S416x256x1024, .f32⟩
  | .hbm, ⟨59, _⟩ => ⟨S416x256x1024, .f32⟩
  | .hbm, ⟨60, _⟩ => ⟨S_, .f32⟩
  | .hbm, ⟨61, _⟩ => ⟨S416x256x1024, .f32⟩
  | .hbm, ⟨62, _⟩ => ⟨S416x256x1024, .f32⟩
  | .hbm, ⟨63, _⟩ => ⟨S416x256x1024, .f32⟩
  | .hbm, ⟨64, _⟩ => ⟨S_, .f32⟩
  | .hbm, ⟨65, _⟩ => ⟨S416x256x1024, .f32⟩
  | .hbm, ⟨66, _⟩ => ⟨S416x256x1024, .f32⟩
  | .hbm, ⟨67, _⟩ => ⟨S416x256x1024, .f32⟩
  | .hbm, ⟨68, _⟩ => ⟨S_, .i32⟩
  | .hbm, ⟨69, _⟩ => ⟨S416, .i32⟩
  | .hbm, ⟨70, _⟩ => ⟨S416, .i1⟩
  | .hbm, ⟨71, _⟩ => ⟨S_, .i32⟩
  | .hbm, ⟨72, _⟩ => ⟨S416, .i32⟩
  | .hbm, ⟨73, _⟩ => ⟨S416, .i32⟩
  | .hbm, ⟨74, _⟩ => ⟨S416, .i32⟩
  | .hbm, ⟨75, _⟩ => ⟨S416x1, .i32⟩
  | .hbm, ⟨76, _⟩ => ⟨S416x1024x1024, .f32⟩
  | .hbm, ⟨77, _⟩ => ⟨S416x256x1024, .f32⟩
  | .hbm, ⟨78, _⟩ => ⟨S_, .i32⟩
  | .hbm, ⟨79, _⟩ => ⟨S416, .i32⟩
  | .hbm, ⟨80, _⟩ => ⟨S416, .i1⟩
  | .hbm, ⟨81, _⟩ => ⟨S_, .i32⟩
  | .hbm, ⟨82, _⟩ => ⟨S416, .i32⟩
  | .hbm, ⟨83, _⟩ => ⟨S416, .i32⟩
  | .hbm, ⟨84, _⟩ => ⟨S416, .i32⟩
  | .hbm, ⟨85, _⟩ => ⟨S416x1, .i32⟩
  | .hbm, ⟨86, _⟩ => ⟨S416x1x1024, .f32⟩
  | .hbm, ⟨87, _⟩ => ⟨S416x256x1024, .f32⟩
  | .hbm, ⟨88, _⟩ => ⟨S416x256x1024, .f32⟩
  | .hbm, ⟨89, _⟩ => ⟨S416, .i32⟩
  | .hbm, ⟨90, _⟩ => ⟨S_, .i32⟩
  | .hbm, ⟨91, _⟩ => ⟨S416, .i32⟩
  | .hbm, ⟨92, _⟩ => ⟨S416, .i1⟩
  | .hbm, ⟨93, _⟩ => ⟨S416x1x1, .i1⟩
  | .hbm, ⟨94, _⟩ => ⟨S_, .f32⟩
  | .hbm, ⟨95, _⟩ => ⟨S_, .f32⟩
  | .hbm, ⟨96, _⟩ => ⟨S416x256x1024, .i1⟩
  | .hbm, ⟨97, _⟩ => ⟨S416x256x1024, .f32⟩
  | .hbm, ⟨98, _⟩ => ⟨S416x256x1024, .f32⟩
  | .hbm, ⟨99, _⟩ => ⟨S106496x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Kernel3.lean ====
abbrev S24576x1024 : Shape := ⟨2, ![24576, 1024]⟩
abbrev S1024 : Shape := ⟨1, ![1024]⟩
abbrev S8x1x6144 : Shape := ⟨3, ![8, 1, 6144]⟩
abbrev S1024x3072 : Shape := ⟨2, ![1024, 3072]⟩
abbrev S1x1024 : Shape := ⟨2, ![1, 1024]⟩
abbrev S24576x3072 : Shape := ⟨2, ![24576, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S24576x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S256x3072, .f32⟩
  | .local _ .vmem, ⟨9, _⟩ => ⟨S256x3072, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S24576x1024 : Shape := ⟨2, ![24576, 1024]⟩
abbrev S1024 : Shape := ⟨1, ![1024]⟩
abbrev S8x1x6144 : Shape := ⟨3, ![8, 1, 6144]⟩
abbrev S1024x3072 : Shape := ⟨2, ![1024, 3072]⟩
abbrev S8192x1024 : Shape := ⟨2, ![8192, 1024]⟩
abbrev S32x256x1024 : Shape := ⟨3, ![32, 256, 1024]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S16384x1024 : Shape := ⟨2, ![16384, 1024]⟩
abbrev S4x4096x1024 : Shape := ⟨3, ![4, 4096, 1024]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S4x4096x3072 : Shape := ⟨3, ![4, 4096, 3072]⟩
abbrev S8192x3072 : Shape := ⟨2, ![8192, 3072]⟩
abbrev S16384x3072 : Shape := ⟨2, ![16384, 3072]⟩
abbrev S24576x3072 : Shape := ⟨2, ![24576, 3072]⟩

abbrev nBuf : Space → Nat
  | .hbm => 65
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S8x1x6144, .f32⟩
  | .hbm, ⟨3, _⟩ => ⟨S1024x3072, .f32⟩
  | .hbm, ⟨4, _⟩ => ⟨S8192x1024, .f32⟩
  | .hbm, ⟨5, _⟩ => ⟨S32x256x1024, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x3072, .f32⟩
  | .hbm, ⟨33, _⟩ => ⟨S16384x1024, .f32⟩
  | .hbm, ⟨34, _⟩ => ⟨S4x4096x1024, .f32⟩
  | .hbm, ⟨35, _⟩ => ⟨S4x1x6144, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x3072, .f32⟩
  | .hbm, ⟨62, _⟩ => ⟨S8192x3072, .f32⟩
  | .hbm, ⟨63, _⟩ => ⟨S16384x3072, .f32⟩
  | .hbm, ⟨64, _⟩ => ⟨S24576x3072, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel4.lean ====
abbrev S24576x1024 : Shape := ⟨2, ![24576, 1024]⟩
abbrev S1024 : Shape := ⟨1, ![1024]⟩
abbrev S8x1x6144 : Shape := ⟨3, ![8, 1, 6144]⟩
abbrev S1024x3584 : Shape := ⟨2, ![1024, 3584]⟩
abbrev S1x1024 : Shape := ⟨2, ![1, 1024]⟩
abbrev S24576x3584 : Shape := ⟨2, ![24576, 3584]⟩
abbrev S256x1024 : Shape := ⟨2, ![256, 1024]⟩
abbrev S1x1x1024 : Shape := ⟨3, ![1, 1, 1024]⟩
abbrev S256x3584 : Shape := ⟨2, ![256, 3584]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S8x1x6144, .f32⟩
  | .hbm, ⟨3, _⟩ => ⟨S1024x3584, .f32⟩
  | .hbm, ⟨4, _⟩ => ⟨S1024x3584, .bf16⟩
  | .hbm, ⟨5, _⟩ => ⟨S1x1024, .f32⟩
  | .hbm, ⟨6, _⟩ => ⟨S24576x3584, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3584, .bf16⟩
  | .local _ .vmem, ⟨8, _⟩ => ⟨S256x3584, .f32⟩
  | .local _ .vmem, ⟨9, _⟩ => ⟨S256x3584, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S24576x1024 : Shape := ⟨2, ![24576, 1024]⟩
abbrev S1024 : Shape := ⟨1, ![1024]⟩
abbrev S8x1x6144 : Shape := ⟨3, ![8, 1, 6144]⟩
abbrev S1024x3584 : Shape := ⟨2, ![1024, 3584]⟩
abbrev S8192x1024 : Shape := ⟨2, ![8192, 1024]⟩
abbrev S32x256x1024 : Shape := ⟨3, ![32, 256, 1024]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3584 : Shape := ⟨3, ![32, 256, 3584]⟩
abbrev S16384x1024 : Shape := ⟨2, ![16384, 1024]⟩
abbrev S4x4096x1024 : Shape := ⟨3, ![4, 4096, 1024]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S4x4096x3584 : Shape := ⟨3, ![4, 4096, 3584]⟩
abbrev S8192x3584 : Shape := ⟨2, ![8192, 3584]⟩
abbrev S16384x3584 : Shape := ⟨2, ![16384, 3584]⟩
abbrev S24576x3584 : Shape := ⟨2, ![24576, 3584]⟩

abbrev nBuf : Space → Nat
  | .hbm => 65
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S8x1x6144, .f32⟩
  | .hbm, ⟨3, _⟩ => ⟨S1024x3584, .f32⟩
  | .hbm, ⟨4, _⟩ => ⟨S8192x1024, .f32⟩
  | .hbm, ⟨5, _⟩ => ⟨S32x256x1024, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S32x256x3584, .f32⟩
  | .hbm, ⟨33, _⟩ => ⟨S16384x1024, .f32⟩
  | .hbm, ⟨34, _⟩ => ⟨S4x4096x1024, .f32⟩
  | .hbm, ⟨35, _⟩ => ⟨S4x1x6144, .f32⟩
  | .hbm, ⟨36, _⟩ => ⟨S4x1x1024, .f32⟩
  | .hbm, ⟨37, _⟩ => ⟨S4x1x1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x3584, .f32⟩
  | .hbm, ⟨62, _⟩ => ⟨S8192x3584, .f32⟩
  | .hbm, ⟨63, _⟩ => ⟨S16384x3584, .f32⟩
  | .hbm, ⟨64, _⟩ => ⟨S24576x3584, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel5.lean ====
abbrev S24576x512 : Shape := ⟨2, ![24576, 512]⟩
abbrev S1024x1024 : Shape := ⟨2, ![1024, 1024]⟩
abbrev S24576x1024 : Shape := ⟨2, ![24576, 1024]⟩
abbrev S8x1x6144 : Shape := ⟨3, ![8, 1, 6144]⟩
abbrev S256x512 : Shape := ⟨2, ![256, 512]⟩
abbrev S256x1024 : Shape := ⟨2, ![256, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S1024x1024, .f32⟩
  | .hbm, ⟨3, _⟩ => ⟨S24576x1024, .f32⟩
  | .hbm, ⟨4, _⟩ => ⟨S8x1x6144, .f32⟩
  | .hbm, ⟨5, _⟩ => ⟨S1024x1024, .bf16⟩
  | .hbm, ⟨6, _⟩ => ⟨S24576x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | _, _ => ⟨S24576x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32 : BitVec 32 := 2#32
  let c0_i32_8 : BitVec 32 := 0#32
  ![v20.toNat, c0_i32_7.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S24576x512 : Shape := ⟨2, ![24576, 512]⟩
abbrev S1024x1024 : Shape := ⟨2, ![1024, 1024]⟩
abbrev S24576x1024 : Shape := ⟨2, ![24576, 1024]⟩
abbrev S8x1x6144 : Shape := ⟨3, ![8, 1, 6144]⟩
abbrev S8192x1024 : Shape := ⟨2, ![8192, 1024]⟩
abbrev S32x256x1024 : Shape := ⟨3, ![32, 256, 1024]⟩
abbrev S1x1x6144 : Shape := ⟨3, ![1, 1, 6144]⟩
abbrev S1x1x1024 : Shape := ⟨3, ![1, 1, 1024]⟩
abbrev S16384x1024 : Shape := ⟨2, ![16384, 1024]⟩
abbrev S4x4096x1024 : Shape := ⟨3, ![4, 4096, 1024]⟩
abbrev S4x1x6144 : Shape := ⟨3, ![4, 1, 6144]⟩
abbrev S4x1x1024 : Shape := ⟨3, ![4, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S24576x512, .bf16⟩
  | .hbm, ⟨1, _⟩ => ⟨S24576x512, .bf16⟩
  | .hbm, ⟨2, _⟩ => ⟨S1024x1024, .f32⟩
  | .hbm, ⟨3, _⟩ => ⟨S24576x1024, .f32⟩
  | .hbm, ⟨4, _⟩ => ⟨S8x1x6144, .f32⟩
  | .hbm, ⟨5, _⟩ => ⟨S24576x1024, .bf16⟩
  | .hbm, ⟨6, _⟩ => ⟨S24576x1024, .f32⟩
  | .hbm, ⟨7, _⟩ => ⟨S8192x1024, .f32⟩
  | .hbm, ⟨8, _⟩ => ⟨S32x256x1024, .f32⟩
  | .hbm, ⟨9, _⟩ => ⟨S8192x1024, .f32⟩
  | .hbm, ⟨10, _⟩ => ⟨S32x256x1024, .f32⟩
  | .hbm, ⟨11, _⟩ => ⟨S1x1x6144, .f32⟩
  | .hbm, ⟨12, _⟩ => ⟨S1x1x1024, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S32x256x1024, .f32⟩
  | .hbm, ⟨17, _⟩ => ⟨S16384x1024, .f32⟩
  | .hbm, ⟨18, _⟩ => ⟨S4x4096x1024, .f32⟩
  | .hbm, ⟨19, _⟩ => ⟨S16384x1024, .f32⟩
  | .hbm, ⟨20, _⟩ => ⟨S4x4096x1024, .f32⟩
  | .hbm, ⟨21, _⟩ => ⟨S4x1x6144, .f32⟩
  | .hbm, ⟨22, _⟩ => ⟨S4x1x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S8192x1024, .f32⟩
  | .hbm, ⟨28, _⟩ => ⟨S16384x1024, .f32⟩
  | .hbm, ⟨29, _⟩ => ⟨S24576x1024, .f32⟩
  | _, _ => ⟨S24576x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel6.lean ====
abbrev S24576x1024 : Shape := ⟨2, ![24576, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S8192x1024 : Shape := ⟨2, ![8192, 1024]⟩
abbrev S32x256x1024 : Shape := ⟨3, ![32, 256, 1024]⟩
abbrev S16384x1024 : Shape := ⟨2, ![16384, 1024]⟩
abbrev S4x4096x1024 : Shape := ⟨3, ![4, 4096, 1024]⟩

abbrev nBuf : Space → Nat
  | .hbm => 8
  | .vmem => 5
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S1x1024, .f32⟩
  | .hbm, ⟨3, _⟩ => ⟨S24576x1024, .f32⟩
  | .hbm, ⟨4, _⟩ => ⟨S8192x1024, .f32⟩
  | .hbm, ⟨5, _⟩ => ⟨S32x256x1024, .f32⟩
  | .hbm, ⟨6, _⟩ => ⟨S16384x1024, .f32⟩
  | .hbm, ⟨7, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S24576x1024 : Shape := ⟨2, ![24576, 1024]⟩
abbrev S1024 : Shape := ⟨1, ![1024]⟩
abbrev S8192x1024 : Shape := ⟨2, ![8192, 1024]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S16384x1024 : Shape := ⟨2, ![16384, 1024]⟩
abbrev S4x4096x1024 : Shape := ⟨3, ![4, 4096, 1024]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S24576x1024, .f32⟩
  | .hbm, ⟨1, _⟩ => ⟨S1024, .f32⟩
  | .hbm, ⟨2, _⟩ => ⟨S8192x1024, .f32⟩
  | .hbm, ⟨3, _⟩ => ⟨S32x256x1024, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S16384x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel7.lean ====
abbrev S32x256x1024 : Shape := ⟨3, ![32, 256, 1024]⟩
abbrev S4x4096x1024 : Shape := ⟨3, ![4, 4096, 1024]⟩
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S2x1024x3072 : Shape := ⟨3, ![2, 1024, 3072]⟩
abbrev S8192x1024 : Shape := ⟨2, ![8192, 1024]⟩
abbrev S16384x1024 : Shape := ⟨2, ![16384, 1024]⟩
abbrev S24576x1024 : Shape := ⟨2, ![24576, 1024]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S4x8x1x6144 : Shape := ⟨4, ![4, 8, 1, 6144]⟩
abbrev S1x8x1x6144 : Shape := ⟨4, ![1, 8, 1, 6144]⟩
abbrev S8x1x6144 : Shape := ⟨3, ![8, 1, 6144]⟩
abbrev S1x1024x3072 : Shape := ⟨3, ![1, 1024, 3072]⟩
abbrev S1024x3072 : Shape := ⟨2, ![1024, 3072]⟩
abbrev S24576x3072 : Shape := ⟨2, ![24576, 3072]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S8192x512 : Shape := ⟨2, ![8192, 512]⟩
abbrev S32x256x8x64 : Shape := ⟨4, ![32, 256, 8, 64]⟩
abbrev S32x8x256x64 : Shape := ⟨4, ![32, 8, 256, 64]⟩

abbrev nBuf : Space → Nat
  | .hbm => 37
  | .vmem => 17
  | .smem => 0
  | _ => 0

abbrev bufTy : (tb : Table) → Fin (tcTables nBuf tb) → BufTy
  | .hbm, ⟨0, _⟩ => ⟨S32x256x1024, .f32⟩
  | .hbm, ⟨1, _⟩ => ⟨S4x4096x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024x6144, .f32⟩
  | .hbm, ⟨6, _⟩ => ⟨S4x6144, .f32⟩
  | .hbm, ⟨7, _⟩ => ⟨S2x1024x3072, .f32⟩
  | .hbm, ⟨8, _⟩ => ⟨S8192x1024, .f32⟩
  | .hbm, ⟨9, _⟩ => ⟨S16384x1024, .f32⟩
  | .hbm, ⟨10, _⟩ => ⟨S24576x1024, .f32⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S_, .i32⟩
  | .hbm, ⟨17, _⟩ => ⟨S1, .i32⟩
  | .hbm, ⟨18, _⟩ => ⟨S8x1024, .f32⟩
  | .hbm, ⟨19, _⟩ => ⟨S4x1x6144, .f32⟩
  | .hbm, ⟨20, _⟩ => ⟨S4x8x6144, .f32⟩
  | .hbm, ⟨21, _⟩ => ⟨S4x8x1x6144, .f32⟩
  | .hbm, ⟨22, _⟩ => ⟨S1x1024, .f32⟩
  | .hbm, ⟨23, _⟩ => ⟨S1024, .f32⟩
  | .hbm, ⟨24, _⟩ => ⟨S1x8x1x6144, .f32⟩
  | .hbm, ⟨25, _⟩ => ⟨S8x1x6144, .f32⟩
  | .hbm, ⟨26, _⟩ => ⟨S1x1024x3072, .f32⟩
  | .hbm, ⟨27, _⟩ => ⟨S1024x3072, .f32⟩
  | .hbm, ⟨28, _⟩ => ⟨S1024x3072, .bf16⟩
  | .hbm, ⟨29, _⟩ => ⟨S1x1024, .f32⟩
  | .hbm, ⟨30, _⟩ => ⟨S24576x3072, .f32⟩
  | .hbm, ⟨31, _⟩ => ⟨S8192x512, .f32⟩
  | .hbm, ⟨32, _⟩ => ⟨S32x256x8x64, .f32⟩
  | .hbm, ⟨33, _⟩ => ⟨S32x8x256x64, .f32⟩
  | .hbm, ⟨34, _⟩ => ⟨S8192x512, .f32⟩
  | .hbm, ⟨35, _⟩ => ⟨S32x256x8x64, .f32⟩
  | .hbm, ⟨36, _⟩ => ⟨S32x8x256x64, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x3072, .bf16⟩
  | .local _ .vmem, ⟨15, _⟩ => ⟨S256x3072, .f32⟩
  | .local _ .vmem, ⟨16, _⟩ => ⟨S256x3072, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc1_transform_3 (i : grid1.Coords) : Fin 3 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference7Ideal.lean ====
abbrev S32x256x1024 : Shape := ⟨3, ![32, 256, 1024]⟩
abbrev S4x4096x1024 : Shape := ⟨3, ![4, 4096, 1024]⟩
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S2x1024x3072 : Shape := ⟨3, ![2, 1024, 3072]⟩
abbrev S_ : Shape := ⟨0, ![]⟩
abbrev S4x1x1x6144 : Shape := ⟨4, ![4, 1, 1, 6144]⟩
abbrev S1x1x1x6144 : Shape := ⟨4, ![1, 1, 1, 6144]⟩
abbrev S1x1x6144 : Shape := ⟨3, ![1, 1, 6144]⟩
abbrev S1x1x1024 : Shape := ⟨3, ![1, 1, 1024]⟩
abbrev S1x1024 : Shape := ⟨2, ![1, 1024]⟩
abbrev S32x256 : Shape := ⟨2, ![32, 256]⟩
abbrev S32x256x1 : Shape := ⟨3, ![32, 256, 1]⟩
abbrev S1x1024x3072 : Shape := ⟨3, ![1, 1024, 3072]⟩
abbrev S1024x3072 : Shape := ⟨2, ![1024, 3072]⟩
abbrev S32x256x3072 : Shape := ⟨3, ![32, 256, 3072]⟩
abbrev S32x256x512 : Shape := ⟨3, ![32, 256, 512]⟩
abbrev S32x256x8x64 : Shape := ⟨4, ![32, 256, 8, 64]⟩
abbrev S32x8x256x64 : Shape := ⟨4, ![32, 8, 256, 64]⟩

abbrev nBuf : Space → Nat
  | .hbm => 60
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x4096x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024x6144, .f32⟩
  | .hbm, ⟨6, _⟩ => ⟨S4x6144, .f32⟩
  | .hbm, ⟨7, _⟩ => ⟨S2x1024x3072, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S4x6144, .f32⟩
  | .hbm, ⟨18, _⟩ => ⟨S4x6144, .f32⟩
  | .hbm, ⟨19, _⟩ => ⟨S4x1x1x6144, .f32⟩
  | .hbm, ⟨20, _⟩ => ⟨S1x1x1x6144, .f32⟩
  | .hbm, ⟨21, _⟩ => ⟨S1x1x6144, .f32⟩
  | .hbm, ⟨22, _⟩ => ⟨S1x1x1024, .f32⟩
  | .hbm, ⟨23, _⟩ => ⟨S1x1x1x6144, .f32⟩
  | .hbm, ⟨24, _⟩ => ⟨S1x1x6144, .f32⟩
  | .hbm, ⟨25, _⟩ => ⟨S1x1x1024, .f32⟩
  | .hbm, ⟨26, _⟩ => ⟨S1x1024, .f32⟩
  | .hbm, ⟨27, _⟩ => ⟨S1024, .f32⟩
  | .hbm, ⟨28, _⟩ => ⟨S32x256x1024, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S32x256x1, .f32⟩
  | .hbm, ⟨39, _⟩ => ⟨S32x256x1024, .f32⟩
  | .hbm, ⟨40, _⟩ => ⟨S32x256x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S1x1x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | .hbm, ⟨51, _⟩ => ⟨S1x1024x3072, .f32⟩
  | .hbm, ⟨52, _⟩ => ⟨S1024x3072, .f32⟩
  | .hbm, ⟨53, _⟩ => ⟨S32x256x3072, .f32⟩
  | .hbm, ⟨54, _⟩ => ⟨S32x256x512, .f32⟩
  | .hbm, ⟨55, _⟩ => ⟨S32x256x8x64, .f32⟩
  | .hbm, ⟨56, _⟩ => ⟨S32x8x256x64, .f32⟩
  | .hbm, ⟨57, _⟩ => ⟨S32x256x512, .f32⟩
  | .hbm, ⟨58, _⟩ => ⟨S32x256x8x64, .f32⟩
  | .hbm, ⟨59, _⟩ => ⟨S32x8x256x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Kernel8.lean ====
abbrev S24576x3072 : Shape := ⟨2, ![24576, 3072]⟩
abbrev S3x512 : Shape := ⟨2, ![3, 512]⟩
abbrev S24576x512 : Shape := ⟨2, ![24576, 512]⟩
abbrev S256x512 : Shape := ⟨2, ![256, 512]⟩
abbrev S8x512 : Shape := ⟨2, ![8, 512]⟩
abbrev S1x512 : Shape := ⟨2, ![1, 512]⟩

abbrev nBuf : Space → Nat
  | .hbm => 3
  | .vmem => 17
  | .smem => 0
  | _ => 0

abbrev bufTy : (tb : Table) → Fin (tcTables nBuf tb) → BufTy
  | .hbm, ⟨0, _⟩ => ⟨S24576x3072, .f32⟩
  | .hbm, ⟨1, _⟩ => ⟨S3x512, .f32⟩
  | .hbm, ⟨2, _⟩ => ⟨S24576x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S256x512, .bf16⟩
  | .local _ .vmem, ⟨16, _⟩ => ⟨S256x512, .bf16⟩
  | _, _ => ⟨S24576x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c3071_i32 : BitVec 32 := 3071#32
  let v2 : BitVec 32 := Scalar.minsi v1 c3071_i32
  let c4_i32 : BitVec 32 := 4#32
  let c0_i32 : BitVec 32 := 0#32
  ![v2.toNat, c4_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c3071_i32 : BitVec 32 := 3071#32
  let v2 : BitVec 32 := Scalar.minsi v1 c3071_i32
  let c5_i32 : BitVec 32 := 5#32
  let c0_i32 : BitVec 32 := 0#32
  ![v2.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S24576x3072 : Shape := ⟨2, ![24576, 3072]⟩
abbrev S3x512 : Shape := ⟨2, ![3, 512]⟩
abbrev S8192x1536 : Shape := ⟨2, ![8192, 1536]⟩
abbrev S32x256x1536 : Shape := ⟨3, ![32, 256, 1536]⟩
abbrev S32x256x512 : Shape := ⟨3, ![32, 256, 512]⟩
abbrev S_ : Shape := ⟨0, ![]⟩
abbrev S32x258x512 : Shape := ⟨3, ![32, 258, 512]⟩
abbrev S1x512 : Shape := ⟨2, ![1, 512]⟩
abbrev S512 : Shape := ⟨1, ![512]⟩
abbrev S1x1x512 : Shape := ⟨3, ![1, 1, 512]⟩
abbrev S16384x1536 : Shape := ⟨2, ![16384, 1536]⟩
abbrev S4x4096x1536 : Shape := ⟨3, ![4, 4096, 1536]⟩
abbrev S4x4096x512 : Shape := ⟨3, ![4, 4096, 512]⟩
abbrev S4x4098x512 : Shape := ⟨3, ![4, 4098, 512]⟩
abbrev S8192x512 : Shape := ⟨2, ![8192, 512]⟩
abbrev S16384x512 : Shape := ⟨2, ![16384, 512]⟩
abbrev S24576x512 : Shape := ⟨2, ![24576, 512]⟩

abbrev nBuf : Space → Nat
  | .hbm => 66
  | .vmem => 0
  | .smem => 0
  | _ => 0

abbrev bufTy : (tb : Table) → Fin (tcTables nBuf tb) → BufTy
  | .hbm, ⟨0, _⟩ => ⟨S24576x3072, .f32⟩
  | .hbm, ⟨1, _⟩ => ⟨S3x512, .f32⟩
  | .hbm, ⟨2, _⟩ => ⟨S8192x1536, .f32⟩
  | .hbm, ⟨3, _⟩ => ⟨S32x256x1536, .f32⟩
  | .hbm, ⟨4, _⟩ => ⟨S32x256x512, .f32⟩
  | .hbm, ⟨5, _⟩ => ⟨S32x256x512, .f32⟩
  | .hbm, ⟨6, _⟩ => ⟨S32x256x512, .f32⟩
  | .hbm, ⟨7, _⟩ => ⟨S32x256x512, .f32⟩
  | .hbm, ⟨8, _⟩ => ⟨S_, .i32⟩
  | .hbm, ⟨9, _⟩ => ⟨S_, .f32⟩
  | .hbm, ⟨10, _⟩ => ⟨S32x258x512, .f32⟩
  | .hbm, ⟨11, _⟩ => ⟨S32x256x512, .f32⟩
  | .hbm, ⟨12, _⟩ => ⟨S1x512, .f32⟩
  | .hbm, ⟨13, _⟩ => ⟨S512, .f32⟩
  | .hbm, ⟨14, _⟩ => ⟨S1x1x512, .f32⟩
  | .hbm, ⟨15, _⟩ => ⟨S32x256x512, .f32⟩
  | .hbm, ⟨16, _⟩ => ⟨S32x256x512, .f32⟩
  | .hbm, ⟨17, _⟩ => ⟨S32x256x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S32x256x512, .f32⟩
  | .hbm, ⟨22, _⟩ => ⟨S32x256x512, .f32⟩
  | .hbm, ⟨23, _⟩ => ⟨S32x256x512, .f32⟩
  | .hbm, ⟨24, _⟩ => ⟨S32x256x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S32x256x512, .f32⟩
  | .hbm, ⟨29, _⟩ => ⟨S32x256x512, .f32⟩
  | .hbm, ⟨30, _⟩ => ⟨S32x256x512, .f32⟩
  | .hbm, ⟨31, _⟩ => ⟨S32x256x512, .f32⟩
  | .hbm, ⟨32, _⟩ => ⟨S16384x1536, .f32⟩
  | .hbm, ⟨33, _⟩ => ⟨S4x4096x1536, .f32⟩
  | .hbm, ⟨34, _⟩ => ⟨S4x4096x512, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S_, .i32⟩
  | .hbm, ⟨39, _⟩ => ⟨S_, .f32⟩
  | .hbm, ⟨40, _⟩ => ⟨S4x4098x512, .f32⟩
  | .hbm, ⟨41, _⟩ => ⟨S4x4096x512, .f32⟩
  | .hbm, ⟨42, _⟩ => ⟨S1x512, .f32⟩
  | .hbm, ⟨43, _⟩ => ⟨S512, .f32⟩
  | .hbm, ⟨44, _⟩ => ⟨S1x1x512, .f32⟩
  | .hbm, ⟨45, _⟩ => ⟨S4x4096x512, .f32⟩
  | .hbm, ⟨46, _⟩ => ⟨S4x4096x512, .f32⟩
  | .hbm, ⟨47, _⟩ => ⟨S4x4096x512, .f32⟩
  | .hbm, ⟨48, _⟩ => ⟨S1x512, .f32⟩
  | .hbm, ⟨49, _⟩ => ⟨S512, .f32⟩
  | .hbm, ⟨50, _⟩ => ⟨S1x1x512, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S1x512, .f32⟩
  | .hbm, ⟨56, _⟩ => ⟨S512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S4x4096x512, .f32⟩
  | .hbm, ⟨62, _⟩ => ⟨S8192x512, .f32⟩
  | .hbm, ⟨63, _⟩ => ⟨S16384x512, .f32⟩
  | .hbm, ⟨64, _⟩ => ⟨S24576x512, .f32⟩
  | .hbm, ⟨65, _⟩ => ⟨S24576x512, .bf16⟩
  | _, _ => ⟨S24576x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c_0 : Ref sig .tc := ⟨.hbm, 38, rfl⟩
abbrev main_call1_v0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩

abbrev nD : Nat := 1
abbrev τ : Topo := Topo.v7x

variable {F : FTy → Type} [FloatOps F]
-- ==== Kernel9.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩
abbrev S4x8x1x6144 : Shape := ⟨4, ![4, 8, 1, 6144]⟩
abbrev S4x5x1x6144 : Shape := ⟨4, ![4, 5, 1, 6144]⟩

abbrev nBuf : Space → Nat
  | .hbm => 16
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .hbm, ⟨14, _⟩ => ⟨S4x8x1x6144, .f32⟩
  | .hbm, ⟨15, _⟩ => ⟨S4x5x1x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x1x1x6144 : Shape := ⟨4, ![4, 1, 1, 6144]⟩
abbrev S4x6144x4 : Shape := ⟨3, ![4, 6144, 4]⟩
abbrev S4x4x6144 : Shape := ⟨3, ![4, 4, 6144]⟩
abbrev S4x1x6144 : Shape := ⟨3, ![4, 1, 6144]⟩
abbrev S4x4x1x6144 : Shape := ⟨4, ![4, 4, 1, 6144]⟩
abbrev S4x5x1x6144 : Shape := ⟨4, ![4, 5, 1, 6144]⟩

abbrev nBuf : Space → Nat
  | .hbm => 32
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S4x6144, .f32⟩
  | .hbm, ⟨14, _⟩ => ⟨S4x6144, .f32⟩
  | .hbm, ⟨15, _⟩ => ⟨S4x1x1x6144, .f32⟩
  | .hbm, ⟨16, _⟩ => ⟨S4x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x6144x4, .f32⟩
  | .hbm, ⟨26, _⟩ => ⟨S4x4x6144, .f32⟩
  | .hbm, ⟨27, _⟩ => ⟨S4x1x6144, .f32⟩
  | .hbm, ⟨28, _⟩ => ⟨S4x4x6144, .f32⟩
  | .hbm, ⟨29, _⟩ => ⟨S4x4x6144, .f32⟩
  | .hbm, ⟨30, _⟩ => ⟨S4x4x1x6144, .f32⟩
  | .hbm, ⟨31, _⟩ => ⟨S4x5x1x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Proof.Ctx.Softmax.lean ====
/- SOFTMAX OVER THE EXTENDED REALS, in the two orders that matter here: dividing each weight by the row's sum before the
   weighted sum of the values, or dividing the weighted sum once. Where the scores are real numbers the row's sum is a
   positive real number, and the two agree whatever the values are. -/
module

public import Idealize.ShloMosaic.PureOps.Ideal
public import Idealize.ShloMosaic.Lib.IdealHost
public import Idealize.ShloMosaic.Lib.Pointwise

@[expose] public section

noncomputable section

namespace Cert.Softmax

open Idealize.ShloMosaic

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, by rw [EReal.coe_mul]⟩

theorem IsReal.add {x y : EReal} (hx : IsReal x) (hy : IsReal y) : IsReal (x + y) := by
  obtain ⟨a, rfl⟩ := hx
  obtain ⟨b, rfl⟩ := hy
  exact ⟨a + b, by rw [EReal.coe_add]⟩

theorem IsReal.sum {ι : Type} (s : Finset ι) (f : ι → EReal) (hf : ∀ i, IsReal (f i)) : IsReal (∑ i ∈ s, f i) := by
  classical
  refine Finset.induction_on s ⟨0, by simp⟩ fun a s ha ih => ?_
  rw [Finset.sum_insert ha]
  exact (hf a).add ih

/-- The pattern of −∞ is the least extended real. -/
theorem ofBits_negInf : Ideal.ofBits .f32 0xFF800000#32 = (⊥ : EReal) := by simp [Ideal.ofBits, Ideal.ieee]

/-- The pattern of +∞ is the greatest extended real. -/
theorem ofBits_posInf : Ideal.ofBits .f32 0x7F800000#32 = (⊤ : EReal) := by simp [Ideal.ofBits, Ideal.ieee]

/-- An extended real of finite magnitude is a real number. -/
theorem isReal_of_abs_lt {x : EReal} (h : max x (-x) < ⊤) : IsReal x := by
  induction x using EReal.rec with
  | bot => simp at h
  | coe r => exact ⟨r, rfl⟩
  | top => simp at h

/-- The pattern of 1/8. -/
theorem ofBits_eighth : Ideal.ofBits .f32 0x3E000000#32 = ((1 / 8 : ℝ) : EReal) := by
  simp [Ideal.ofBits, Ideal.ieee, -EReal.coe_mul]
  norm_num

/-- The greatest of a row of real numbers, folded from −∞, is a real number. -/
theorem isReal_fold_max {n : ℕ} (s : Fin (n + 1) → EReal) (hs : ∀ k, IsReal (s k)) :
    IsReal (Finset.univ.fold max ⊥ s) := by
  classical
  have key : ∀ t : Finset (Fin (n + 1)), t.fold max ⊥ s = ⊥ ∧ t = ∅ ∨ IsReal (t.fold max ⊥ s) := by
    intro t
    refine Finset.induction_on t (Or.inl ⟨rfl, rfl⟩) fun a t ha ih => Or.inr ?_
    rw [Finset.fold_insert ha]
    rcases ih with ⟨h, -⟩ | h
    · rw [h, max_bot_right]; exact hs a
    · rcases max_choice (s a) (t.fold max ⊥ s) with e | e <;> rw [e]
      · exact hs a
      · exact h
  rcases key Finset.univ with ⟨-, h⟩ | h
  · exact absurd (h ▸ Finset.mem_univ (0 : Fin (n + 1)) : (0 : Fin (n + 1)) ∈ (∅ : Finset (Fin (n + 1)))) (Finset.notMem_empty _)
  · exact h

/-- A finite sum of real numbers, taken among the extended reals. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The sum of a row's exponentials, each less the same real number, is a positive real number. -/
theorem sum_exp_pos {n : ℕ} (s : Fin (n + 1) → EReal) (hs : ∀ k, IsReal (s k)) (M : EReal) (hM : IsReal M) :
    ∃ r : ℝ, 0 < r ∧ ∑ k, Ideal.exp (s k - M) = r := by
  obtain ⟨b, rfl⟩ := hM
  choose a ha using hs
  refine ⟨∑ k, Real.exp (a k - b), Finset.sum_pos (fun k _ => Real.exp_pos _) ⟨0, Finset.mem_univ _⟩, ?_⟩
  rw [coe_sum]
  refine Finset.sum_congr rfl fun k _ => ?_
  rw [ha k, ← EReal.coe_sub]
  rfl

/-- Multiplying by a nonnegative real number goes into a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  refine Finset.induction_on s (by simp) fun a s ha ih => ?_
  rw [Finset.sum_insert ha, Finset.sum_insert ha, ← ih]
  exact EReal.right_distrib_of_nonneg_of_ne_top (by exact_mod_cast hr) (EReal.coe_ne_top r) _ _

/-- Dividing a weighted sum by a positive real number divides each weight. -/
theorem div_sum_mul {n : ℕ} (e v : Fin n → EReal) (d : EReal) (hd : ∃ r : ℝ, 0 < r ∧ d = r) :
    Ideal.div (∑ k, e k * v k) d = ∑ k, Ideal.div (e k) d * v k := by
  obtain ⟨r, hr, rfl⟩ := hd
  rw [Ideal.div_coe hr.ne', sum_mul_coe _ _ (by positivity)]
  refine Finset.sum_congr rfl fun k _ => ?_
  rw [Ideal.div_coe hr.ne', mul_assoc, mul_assoc, mul_comm (v k)]

/-- One element of an attention: a row of scores, a column of values, the softmax weights written plainly. -/
def attend {n : ℕ} (s v : Fin n → EReal) : EReal :=
  ∑ k, Ideal.div (Ideal.exp (s k - Finset.univ.fold max ⊥ s)) (∑ j, Ideal.exp (s j - Finset.univ.fold max ⊥ s)) * v k

/-- The unnormalised order computes the same element where the scores are real numbers. -/
theorem attend_eq {n : ℕ} (s v : Fin (n + 1) → EReal) (hs : ∀ k, IsReal (s k)) :
    Ideal.div (∑ k, Ideal.exp (s k - Finset.univ.fold max ⊥ s) * v k) (∑ j, Ideal.exp (s j - Finset.univ.fold max ⊥ s))
      = attend s v :=
  div_sum_mul _ v _ (sum_exp_pos s hs _ (isReal_fold_max s hs))

end Cert.Softmax
-- ==== Proof.Ctx.Block.lean ====
/- What ONE GRID POINT of the context attention computes: a block of 256 query rows and 128 lanes, two heads side by side,
   read at an index as the attention of the head that the lane belongs to. The scores are formed over all 128 lanes with the
   other head's lanes of the query set to zero, and the sum of the weighted values is divided once. -/
module

public import proofs.«01_k».proof.Proof.Gen.KernelIdeal.Frame
public import proofs.«01_k».proof.Proof.Ctx.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen Cert.Softmax

/-- The lane mask: set on the first head's 64 lanes. -/
theorem mask_first : ∀ x : Fin 128, IntOp.cmpi .slt (BitVec.ofNat 32 x.val) 64#32 = if x.val < 64 then 1#1 else 0#1 := by
  decide +kernel

/-- Its complement: set on the second head's lanes. -/
theorem mask_second : ∀ x : Fin 128,
    IntOp.xori (IntOp.cmpi .slt (BitVec.ofNat 32 x.val) 64#32) 1#1 = if x.val < 64 then 0#1 else 1#1 := by
  decide +kernel

/-- A sum over the lanes masked to the first head is the sum over its lanes. -/
theorem sum_first (f : Fin 128 → EReal) :
    ∑ x : Fin 128, Scalar.select (IntOp.cmpi .slt (BitVec.ofNat 32 x.val) 64#32) (f x) 0
      = ∑ d : Fin 64, f ⟨d.val, by omega⟩ := by
  rw [Fin.sum_univ_two_halves 64 64 rfl]
  have h1 : ∀ d : Fin 64, Scalar.select (IntOp.cmpi .slt (BitVec.ofNat 32 d.val) 64#32) (f ⟨d.val, by omega⟩) 0 = f ⟨d.val, by omega⟩ := fun d => by
    rw [mask_first ⟨d.val, by omega⟩, if_pos d.isLt]; rfl
  have h2 : ∀ d : Fin 64, Scalar.select (IntOp.cmpi .slt (BitVec.ofNat 32 (64 + d.val)) 64#32) (f ⟨64 + d.val, by omega⟩) 0 = 0 := fun d => by
    rw [mask_first ⟨64 + d.val, by omega⟩, if_neg (by show ¬ 64 + d.val < 64; omega)]; rfl
  simp only [h1, h2, Finset.sum_const_zero, add_zero]

/-- A sum over the lanes masked to the second head is the sum over its lanes. -/
theorem sum_second (f : Fin 128 → EReal) :
    ∑ x : Fin 128, Scalar.select (IntOp.xori (IntOp.cmpi .slt (BitVec.ofNat 32 x.val) 64#32) 1#1) (f x) 0
      = ∑ d : Fin 64, f ⟨64 + d.val, by omega⟩ := by
  rw [Fin.sum_univ_two_halves 64 64 rfl]
  have h1 : ∀ d : Fin 64, Scalar.select (IntOp.xori (IntOp.cmpi .slt (BitVec.ofNat 32 d.val) 64#32) 1#1) (f ⟨d.val, by omega⟩) 0 = 0 := fun d => by
    rw [mask_second ⟨d.val, by omega⟩, if_pos d.isLt]; rfl
  have h2 : ∀ d : Fin 64, Scalar.select (IntOp.xori (IntOp.cmpi .slt (BitVec.ofNat 32 (64 + d.val)) 64#32) 1#1) (f ⟨64 + d.val, by omega⟩) 0 = f ⟨64 + d.val, by omega⟩ := fun d => by
    rw [mask_second ⟨64 + d.val, by omega⟩, if_neg (by show ¬ 64 + d.val < 64; omega)]; rfl
  simp only [h1, h2, Finset.sum_const_zero, zero_add]

/-- The scale, taken out of a sum of scaled products. -/
theorem sum_scaled (q k : Fin 64 → EReal) :
    ∑ d, q d * Ideal.ofBits .f32 0x3E000000#32 * k d = (∑ d, q d * k d) * Ideal.ofBits .f32 0x3E000000#32 := by
  rw [ofBits_eighth, sum_mul_coe _ _ (by norm_num)]
  refine Finset.sum_congr rfl fun d _ => ?_
  rw [mul_assoc, mul_comm _ (k d), mul_assoc]

/-- The score of block row `i` against key row `j`, in the head that lane `l` belongs to. -/
def blkScore (Q K : Vec Ideal S256x128 .f32) (i : Fin 256) (l : Fin 128) (j : Fin 256) : EReal :=
  (∑ d : Fin 64, Q (ix2 i ⟨l.val / 64 * 64 + d.val, by omega⟩) * K (ix2 j ⟨l.val / 64 * 64 + d.val, by omega⟩))
    * Ideal.ofBits .f32 0x3E000000#32

/-- Scores of real numbers are real numbers. -/
theorem blkScore_real (Q K : Vec Ideal S256x128 .f32) (hQ : ∀ y, IsReal (Q y)) (hK : ∀ y, IsReal (K y)) (i : Fin 256) (l : Fin 128)
    (j : Fin 256) : IsReal (blkScore Q K i l j) :=
  (IsReal.sum _ _ fun _ => (hQ _).mul (hK _)).mul ⟨_, ofBits_eighth⟩

/-- What the body stores, from the point's blocks of queries, keys and values. -/
abbrev blk (Q K V : Vec Ideal S256x128 .f32) : FVec Ideal S256x128 .bf16 :=
  k0_pay1 k0_pay5 (k0_pay6 Q K V) (k0_pay8 Q K) (k0_pay9 Q K V)

/-- The block at an index: the attention of the row's scores and the lane's values. -/
theorem blk_at (Q K V : Vec Ideal S256x128 .f32) (hQ : ∀ y, IsReal (Q y)) (hK : ∀ y, IsReal (K y)) (i : Fin 256) (l : Fin 128) :
    blk Q K V (ix2 i l) = attend (blkScore Q K i l) (fun j : Fin 256 => V (ix2 j l)) := by
  pointwise [k0_pay5, k0_pay6, k0_pay7, k0_pay9, k0_pay2, k0_pay3, k0_pay4, k0_pay1, k0_pay8, blk]
  have h1 : l.val < 64 → ∀ j : Fin 256, ∑ x : Fin 128, Scalar.select (IntOp.cmpi .slt (BitVec.ofNat 32 x.val) 64#32)
      (Q (ix2 i x) * Ideal.ofBits .f32 0x3E000000#32 * K (ix2 j x)) 0 = blkScore Q K i l j := fun hl j => by
    refine (sum_first fun x => Q (ix2 i x) * Ideal.ofBits .f32 0x3E000000#32 * K (ix2 j x)).trans ?_
    refine (sum_scaled (fun d => Q (ix2 i ⟨d.val, by omega⟩)) (fun d => K (ix2 j ⟨d.val, by omega⟩))).trans ?_
    have e : ∀ d : Fin 64, (⟨l.val / 64 * 64 + d.val, by omega⟩ : Fin 128) = ⟨d.val, by omega⟩ := fun d => Fin.ext (by show l.val / 64 * 64 + d.val = d.val; omega)
    simp only [blkScore, e]
  have h2 : ¬ l.val < 64 → ∀ j : Fin 256, ∑ x : Fin 128, Scalar.select (IntOp.xori (IntOp.cmpi .slt (BitVec.ofNat 32 x.val) 64#32) 1#1)
      (Q (ix2 i x) * Ideal.ofBits .f32 0x3E000000#32 * K (ix2 j x)) 0 = blkScore Q K i l j := fun hl j => by
    refine (sum_second fun x => Q (ix2 i x) * Ideal.ofBits .f32 0x3E000000#32 * K (ix2 j x)).trans ?_
    refine (sum_scaled (fun d => Q (ix2 i ⟨64 + d.val, by omega⟩)) (fun d => K (ix2 j ⟨64 + d.val, by omega⟩))).trans ?_
    have e : ∀ d : Fin 64, (⟨l.val / 64 * 64 + d.val, by omega⟩ : Fin 128) = ⟨64 + d.val, by omega⟩ := fun d => Fin.ext (by show l.val / 64 * 64 + d.val = 64 + d.val; omega)
    simp only [blkScore, e]
  rw [mask_first l, ofBits_negInf]
  by_cases hl : l.val < 64
  · rw [if_pos hl]
    simp only [h1 hl]
    exact attend_eq _ _ (blkScore_real Q K hQ hK i l)
  · rw [if_neg hl]
    simp only [h2 hl]
    exact attend_eq _ _ (blkScore_real Q K hQ hK i l)

end Cert.KernelIdeal.Value

end
-- ==== Proof.Ctx.Reference.lean ====
/- The context attention's REFERENCE, read at an index: the stages of its composed term (heads, scores, softmax weights,
   weighted values, heads joined again), each as a function of the stage before, and the result's element as the attention
   of one row of scores and one column of values. -/
module

public import proofs.«01_k».proof.Proof.Gen.ReferenceIdeal.Run
public import proofs.«01_k».proof.Proof.Ctx.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Value
open Cert.ReferenceIdeal Cert.ReferenceIdeal.Gen

/-- The queries, one matrix per sequence and head. -/
def queries (X : FVec Ideal S24576x3072 .f32) : FVec Ideal S32x8x256x64 .f32 :=
  transpose S32x8x256x64 [0, 2, 1, 3] (shapeCast S32x256x8x64 (extractStridedSlice S8192x512 ![0, 0] X slices_S24576x3072_S8192x512_0_0) shapeCasts_S8192x512_S32x256x8x64) transposes_S32x256x8x64_S32x8x256x64_0_2_1_3

/-- The keys, one matrix per sequence and head. -/
def keys (X : FVec Ideal S24576x3072 .f32) : FVec Ideal S32x8x256x64 .f32 :=
  transpose S32x8x256x64 [0, 2, 1, 3] (shapeCast S32x256x8x64 (extractStridedSlice S8192x512 ![0, 512] X slices_S24576x3072_S8192x512_0_512) shapeCasts_S8192x512_S32x256x8x64) transposes_S32x256x8x64_S32x8x256x64_0_2_1_3

/-- The values, one matrix per sequence and head. -/
def values (X : FVec Ideal S24576x3072 .f32) : FVec Ideal S32x8x256x64 .f32 :=
  transpose S32x8x256x64 [0, 2, 1, 3] (shapeCast S32x256x8x64 (extractStridedSlice S8192x512 ![0, 1024] X slices_S24576x3072_S8192x512_0_1024) shapeCasts_S8192x512_S32x256x8x64) transposes_S32x256x8x64_S32x8x256x64_0_2_1_3

/-- The scaled scores. -/
def scores (q k : FVec Ideal S32x8x256x64 .f32) : FVec Ideal S32x8x256x256 .f32 :=
  mulf (Host.dotGeneral dot_S32x8x256x64_S32x8x256x64_S32x8x256x256_3_3_2_2_01_01 none q k) (broadcastInDim S32x8x256x256 ![] bcast_S_S32x8x256x256 (constant S_ .f32 0x3E000000#32))

/-- Each row's greatest score. -/
def rowMax (S : FVec Ideal S32x8x256x256 .f32) : FVec Ideal S32x8x256 .f32 :=
  Host.reduce FloatOps.maximumf S (constant S_ .f32 0xFF800000#32) reducesTo_S32x8x256x256_S32x8x256_d3 h_S_

/-- The exponentials of the scores less a number of each row's, itself at least −∞. -/
def shifted (S : FVec Ideal S32x8x256x256 .f32) (M : FVec Ideal S32x8x256 .f32) : FVec Ideal S32x8x256x256 .f32 :=
  Host.exp (subf S (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) M))))

/-- The exponentials of the scores less their row's maximum. -/
def expos (S : FVec Ideal S32x8x256x256 .f32) : FVec Ideal S32x8x256x256 .f32 := shifted S (rowMax S)

/-- The softmax weights: the exponentials over their row's sum. -/
def weights (E : FVec Ideal S32x8x256x256 .f32) : FVec Ideal S32x8x256x256 .f32 :=
  Host.divf E (broadcastInDim S32x8x256x256 ![0, 1, 2, 3] bcast_S32x8x256x1_S32x8x256x256_0_1_2_3 (broadcastInDim S32x8x256x1 ![0, 1, 2] bcast_S32x8x256_S32x8x256x1_0_1_2 (Host.reduceAdd E (constant S_ .f32 0x00000000#32) reducesTo_S32x8x256x256_S32x8x256_d3 h_S_)))

/-- The weighted values, the heads joined again. -/
def joined (P : FVec Ideal S32x8x256x256 .f32) (V : FVec Ideal S32x8x256x64 .f32) : FVec Ideal S8192x512 .bf16 :=
  truncf .bf16 (shapeCast S8192x512 (transpose S32x256x8x64 [0, 2, 1, 3] (Host.dotGeneral dot_S32x8x256x256_S32x8x256x64_S32x8x256x64_3_2_2_3_01_01 none P V) transposes_S32x8x256x64_S32x256x8x64_0_2_1_3) shapeCasts_S32x256x8x64_S8192x512) bitsLt_bf16_f32

/-- The whole reference over the projected rows. -/
def REF (X : FVec Ideal S24576x3072 .f32) : FVec Ideal S8192x512 .bf16 :=
  joined (weights (expos (scores (queries X) (keys X)))) (values X)

/-- The generated result term is `REF` of the argument. -/
theorem res_eq (m : (ℓ : Loc nD τ sig) → Buf (Elt Ideal) ℓ) (c : Dev nD) :
    res_main_v26 m c = REF (m ((c.tc : Thread nD τ).loc main_arg0)) := rfl

theorem queries_at (X : FVec Ideal S24576x3072 .f32) (b : Fin 32) (h : Fin 8) (i : Fin 256) (d : Fin 64) :
    queries X (ix4 b h i d) = X (ix2 ⟨b.val * 256 + i.val, by omega⟩ ⟨h.val * 64 + d.val, by omega⟩) := by
  pointwise [queries]

theorem keys_at (X : FVec Ideal S24576x3072 .f32) (b : Fin 32) (h : Fin 8) (i : Fin 256) (d : Fin 64) :
    keys X (ix4 b h i d) = X (ix2 ⟨b.val * 256 + i.val, by omega⟩ ⟨512 + (h.val * 64 + d.val), by omega⟩) := by
  pointwise [keys]

theorem values_at (X : FVec Ideal S24576x3072 .f32) (b : Fin 32) (h : Fin 8) (i : Fin 256) (d : Fin 64) :
    values X (ix4 b h i d) = X (ix2 ⟨b.val * 256 + i.val, by omega⟩ ⟨1024 + (h.val * 64 + d.val), by omega⟩) := by
  pointwise [values]

theorem scores_at (q k : FVec Ideal S32x8x256x64 .f32) (b : Fin 32) (h : Fin 8) (i j : Fin 256) :
    scores q k (ix4 b h i j) = (∑ d : Fin 64, q (ix4 b h i d) * k (ix4 b h j d)) * Ideal.ofBits .f32 0x3E000000#32 := by
  pointwise [scores]

theorem rowMax_at (S : FVec Ideal S32x8x256x256 .f32) (b : Fin 32) (h : Fin 8) (i : Fin 256) :
    rowMax S (ix3 b h i) = Finset.univ.fold max (Ideal.ofBits .f32 0xFF800000#32) fun k : Fin 256 => S (ix4 b h i k) := by
  have hr : S32x8x256x256.Reduces [3] S32x8x256 := by decide
  refine (Host.reduce_eq_fold_single FloatOps.maximumf S _ reducesTo_S32x8x256x256_S32x8x256_d3 hr h_S_ (ix3 b h i)).trans ?_
  refine congrArg (fun f => Finset.univ.fold max (Ideal.ofBits .f32 0xFF800000#32) f) (funext fun k => congrArg S ?_)
  funext a
  fin_cases a <;> rfl

theorem shifted_at (S : FVec Ideal S32x8x256x256 .f32) (M : FVec Ideal S32x8x256 .f32) (b : Fin 32) (h : Fin 8) (i j : Fin 256) :
    shifted S M (ix4 b h i j) = Ideal.exp (S (ix4 b h i j) - max (Ideal.ofBits .f32 0xFF800000#32) (M (ix3 b h i))) := by
  pointwise [shifted]

theorem expos_at (S : FVec Ideal S32x8x256x256 .f32) (b : Fin 32) (h : Fin 8) (i j : Fin 256) :
    expos S (ix4 b h i j) = Ideal.exp (S (ix4 b h i j) - max (Ideal.ofBits .f32 0xFF800000#32)
      (Finset.univ.fold max (Ideal.ofBits .f32 0xFF800000#32) fun k : Fin 256 => S (ix4 b h i k))) := by
  rw [expos, shifted_at, rowMax_at]

theorem weights_at (E : FVec Ideal S32x8x256x256 .f32) (b : Fin 32) (h : Fin 8) (i j : Fin 256) :
    weights E (ix4 b h i j) = Ideal.div (E (ix4 b h i j)) (∑ k : Fin 256, E (ix4 b h i k)) := by
  pointwise [weights]

theorem joined_at (P : FVec Ideal S32x8x256x256 .f32) (V : FVec Ideal S32x8x256x64 .f32) (r : Fin 8192) (l : Fin 512) :
    joined P V (ix2 r l) = ∑ j : Fin 256, P (ix4 (⟨r.val / 256, by omega⟩ : Fin 32) (⟨l.val / 64, by omega⟩ : Fin 8) (⟨r.val % 256, by omega⟩ : Fin 256) j)
      * V (ix4 (⟨r.val / 256, by omega⟩ : Fin 32) (⟨l.val / 64, by omega⟩ : Fin 8) j (⟨l.val % 64, by omega⟩ : Fin 64)) := by
  pointwise [joined]

/-- The score of query row `r` against key row `j` of its sequence, in the head that column `l` belongs to. -/
def scoreAt (X : FVec Ideal S24576x3072 .f32) (r : Fin 8192) (l : Fin 512) (j : Fin 256) : EReal :=
  (∑ d : Fin 64, X (ix2 ⟨r.val, by omega⟩ ⟨l.val / 64 * 64 + d.val, by omega⟩)
    * X (ix2 ⟨r.val / 256 * 256 + j.val, by omega⟩ ⟨512 + (l.val / 64 * 64 + d.val), by omega⟩)) * Ideal.ofBits .f32 0x3E000000#32

/-- The reference at an index: the attention of the row's scores and the column's values. -/
theorem REF_at (X : FVec Ideal S24576x3072 .f32) (r : Fin 8192) (l : Fin 512) :
    REF X (ix2 r l) = Cert.Softmax.attend (scoreAt X r l)
      (fun j : Fin 256 => X (ix2 ⟨r.val / 256 * 256 + j.val, by omega⟩ ⟨1024 + l.val, by omega⟩)) := by
  have hs : ∀ j : Fin 256, scores (queries X) (keys X) (ix4 (⟨r.val / 256, by omega⟩ : Fin 32) (⟨l.val / 64, by omega⟩ : Fin 8) (⟨r.val % 256, by omega⟩ : Fin 256) j)
      = scoreAt X r l j := by
    intro j
    rw [scores_at, scoreAt]
    refine congrArg (· * _) (Finset.sum_congr rfl fun d _ => ?_)
    rw [queries_at, keys_at]
    refine Ideal.mul_congr (congrArg X ?_) rfl
    exact (ix2_inj ..).2 ⟨Fin.ext (by show r.val / 256 * 256 + r.val % 256 = r.val; omega), rfl⟩
  rw [REF, joined_at, Cert.Softmax.attend]
  refine Finset.sum_congr rfl fun j _ => ?_
  rw [weights_at, values_at]
  simp only [expos_at, hs, Cert.Softmax.ofBits_negInf, max_bot_left]
  refine Ideal.mul_congr rfl (congrArg X ?_)
  exact (ix2_inj ..).2 ⟨rfl, Fin.ext (by show 1024 + (l.val / 64 * 64 + l.val % 64) = 1024 + l.val; omega)⟩

end Cert.ReferenceIdeal.Value

end
-- ==== Proof.Ctx.Final.lean ====
/- The context attention's RESULT ARRAY against the reference: the blocks tile the array, and each block is the reference
   at the rows and lanes it sits at, where the queries and keys are finite. -/
module

public import proofs.«01_k».proof.Proof.Ctx.Block
public import proofs.«01_k».proof.Proof.Ctx.Reference
public import proofs.«01_k».proof.Proof.Gen.Pre_finite

@[expose] public section

set_option maxRecDepth 16384

noncomputable section

open Idealize.ShloMosaic Idealize.ShloMosaic.TcCoe Idealize.SL.Sem

namespace Cert.Pre_finite

/-- A conjunction of bits that is one has every bit one. -/
theorem all_of_fold_andi {ι : Type} (f : ι → BitVec 1) (s : Finset ι) (h : s.fold IntOp.andi 1#1 f = 1#1) : ∀ i ∈ s, f i = 1#1 := by
  classical
  revert h
  refine Finset.induction_on s (fun _ i hi => absurd hi (Finset.notMem_empty i)) fun a s ha ih h i hi => ?_
  rw [Finset.fold_insert ha] at h
  have hand : ∀ x y : BitVec 1, IntOp.andi x y = 1#1 → x = 1#1 ∧ y = 1#1 := by decide
  obtain ⟨h1, h2⟩ := hand _ _ h
  rcases Finset.mem_insert.mp hi with rfl | hi
  · exact h1
  · exact ih h2 i hi

/-- The same over every index of a finite type. -/
theorem all_of_fold_andi_univ {ι : Type} [Fintype ι] (f : ι → BitVec 1) (h : Finset.univ.fold IntOp.andi 1#1 f = 1#1) (i : ι) : f i = 1#1 :=
  all_of_fold_andi f Finset.univ h i (Finset.mem_univ i)

/-- What the precondition says: every query and every key is a real number. -/
theorem isReal_of_fn (X : FVec Ideal S24576x3072 .f32) (h : fn (F := Ideal) X = fun _ => 1#1) (r : Fin 8192) (l : Fin 1024) :
    Cert.Softmax.IsReal (X (ix2 ⟨r.val, by omega⟩ ⟨l.val, by omega⟩)) := by
  have h0 := congrFun h (fun a => a.elim0)
  pointwise [fn] at h0
  have h1 := all_of_fold_andi_univ _ h0 (r, l)
  refine Cert.Softmax.isReal_of_abs_lt ?_
  rw [← Cert.Softmax.ofBits_posInf]
  have hb : ∀ b : Bool, BitVec.ofBool b = 1#1 → b = true := by decide
  exact of_decide_eq_true (hb _ h1)

end Cert.Pre_finite

namespace Cert.KernelIdeal.Value
open Cert.KernelIdeal Cert.KernelIdeal.Gen Cert.Softmax

variable (m : (ℓ : Loc nD τ sig) → Buf (Elt Ideal) ℓ)

/-- The windows' block indices at every grid point. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, t.val % 4] ∧ t.val < 128 :=
  (by decide +kernel : ∀ t : Fin grid0.N, _)

/-- The projected rows. -/
abbrev rows (c : Dev nD) : FVec Ideal S24576x3072 .f32 := m ((c : Thread nD τ).loc main_arg0)

/-- One point's block is the reference at the array indices under it. -/
theorem point (c : Dev nD) (hX : ∀ (r : Fin 8192) (l : Fin 1024), IsReal (rows m c (ix2 ⟨r.val, by omega⟩ ⟨l.val, by omega⟩)))
    (t : Fin cfg0.N) (i : Fin 256) (l : Fin 128) :
    blk (iblk m c 0 t) (iblk m c 1 t) (iblk m c 2 t) (ix2 i l)
      = Cert.ReferenceIdeal.Value.REF (rows m c) (((cfg0.win 3).blk t).view.emb (ix2 i l)) := by
  obtain ⟨e0, e1, e2, e3, ht⟩ := idx t
  have hQ : ∀ i : Fin 256, ∀ l : Fin 128, iblk m c 0 t (ix2 i l)
      = rows m c (ix2 ⟨t.val / 4 * 256 + i.val, by omega⟩ ⟨t.val % 4 * 128 + l.val, by omega⟩) := fun i l => by
    blk_ext [iblk, V, idx t]
  have hK : ∀ i : Fin 256, ∀ l : Fin 128, iblk m c 1 t (ix2 i l)
      = rows m c (ix2 ⟨t.val / 4 * 256 + i.val, by omega⟩ ⟨512 + (t.val % 4 * 128 + l.val), by omega⟩) := fun i l => by
    blk_ext [iblk, V, idx t]
  have hV : ∀ i : Fin 256, ∀ l : Fin 128, iblk m c 2 t (ix2 i l)
      = rows m c (ix2 ⟨t.val / 4 * 256 + i.val, by omega⟩ ⟨1024 + (t.val % 4 * 128 + l.val), by omega⟩) := fun i l => by
    blk_ext [iblk, V, idx t]
  have hO : ((cfg0.win 3).blk t).view.emb (ix2 i l : S256x128.Idx)
      = (ix2 (⟨t.val / 4 * 256 + i.val, by omega⟩ : Fin 8192) (⟨t.val % 4 * 128 + l.val, by omega⟩ : Fin 512) : S8192x512.Idx) := by
    blk_ext [idx t]
  rw [hO]
  refine (blk_at _ _ _ (fun y => ?_) (fun y => ?_) i l).trans ?_
  · obtain ⟨a, b, rfl⟩ : ∃ (a : Fin 256) (b : Fin 128), y = ix2 a b := ⟨y 0, y 1, eq_ix2 y⟩
    exact (hQ a b) ▸ hX ⟨t.val / 4 * 256 + a.val, by omega⟩ ⟨t.val % 4 * 128 + b.val, by omega⟩
  · obtain ⟨a, b, rfl⟩ : ∃ (a : Fin 256) (b : Fin 128), y = ix2 a b := ⟨y 0, y 1, eq_ix2 y⟩
    exact (hK a b) ▸ hX ⟨t.val / 4 * 256 + a.val, by omega⟩ ⟨512 + (t.val % 4 * 128 + b.val), by omega⟩
  · refine Eq.trans ?_ (Cert.ReferenceIdeal.Value.REF_at (rows m c) _ _).symm
    refine congrArg₂ attend (funext fun j => ?_) (funext fun j => ?_)
    · rw [blkScore, Cert.ReferenceIdeal.Value.scoreAt]
      refine congrArg (· * _) (Finset.sum_congr rfl fun d _ => ?_)
      rw [hQ, hK]
      refine Ideal.mul_congr (congrArg (rows m c) ?_) (congrArg (rows m c) ?_) <;> idx_ext
    · rw [hV]
      refine congrArg (rows m c) ?_
      idx_ext

/-- The result array is the reference of the argument. -/
theorem final (c : Dev nD) (hX : ∀ (r : Fin 8192) (l : Fin 1024), IsReal (rows m c (ix2 ⟨r.val, by omega⟩ ⟨l.val, by omega⟩))) :
    (dats m 0 c).arrAt 3 cfg0.N = Cert.ReferenceIdeal.Value.REF (rows m c) := by
  refine (dats m 0 c).arrAt_eq_of_covers 3 _ (by decide +kernel) fun t _ y => ?_
  blk_simp
  rw [after0_3]
  frame_out
  obtain ⟨i, l, rfl⟩ : ∃ (i : Fin 256) (l : Fin 128), y = ix2 i l := ⟨y 0, y 1, eq_ix2 y⟩
  exact point m c hX t i l

end Cert.KernelIdeal.Value

end
-- ==== Proof.Ctx.Claims.lean ====
/-
  Context attention: the reference's frame and the value claim.
-/
module

public import proofs.«01_k».proof.Defs
public import proofs.«01_k».proof.Proof.Ctx.Final
public import proofs.«01_k».proof.Proof.Gen.ReferenceIdeal.Run
public import Idealize.ShloMosaic.Lib.Claim
public import Idealize.ShloMosaic.Lib.Quiescent

@[expose] public section

open Idealize.ShloMosaic Idealize.SL.Sem

namespace Cert.Proof

/-- The reference terminates and leaves its argument unchanged. -/
theorem ctx_frame_ref : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- Where the queries and keys are finite, the context attention's idealized kernel computes the reference. -/
theorem ctx_algebraic : Cert.algebraic_KernelIdeal_ReferenceIdeal_pre_finite := by
  intro m g m' g' hpre hagree
  refine ⟨fun c => Cert.ReferenceIdeal.Value.REF (Cert.KernelIdeal.Value.rows m c), ?_, ?_⟩
  · refine (θ_run Cert.KernelIdeal.defs _ _).mono (fun r h c => ⟨?_, h.2 c⟩)
      (θ_run_and (Cert.KernelIdeal.Gen.run_main m g) (Cert.KernelIdeal.Gen.unchanged m g))
    replace h := h.1
    exact ((h c).1 3).trans (Cert.KernelIdeal.Value.final m c fun r l => Cert.Pre_finite.isReal_of_fn _ (hpre c) r l)
  · refine (θ_run Cert.ReferenceIdeal.defs _ _).mono (fun r h c => ?_) (Cert.ReferenceIdeal.Value.run m' g')
    exact ⟨(h c).1.trans ((Cert.ReferenceIdeal.Value.res_eq m' c).trans (congrArg Cert.ReferenceIdeal.Value.REF (hagree c))), (h c).2⟩

end Cert.Proof

end
-- ==== Proof.Moe.Routed.lean ====
/-
  What the precondition says of the words, and the experts kernel's frame.
-/
module

public import proofs.«01_k».proof.Defs
public import proofs.«01_k».proof.Proof.Moe.Frame
public import proofs.«01_k».proof.Proof.Ctx.Final
public import proofs.«01_k».proof.Proof.Gen.Pre_routed
public import Idealize.ShloMosaic.Lib.Pointwise

@[expose] public section

set_option maxRecDepth 16384

noncomputable section

open Idealize.ShloMosaic Idealize.ShloMosaic.TcCoe Idealize.SL.Sem

namespace Cert.Pre_routed

variable {F : FTy → Type} [FloatOps F]

/-- A word between zero and a bound, both read signed, is below the bound read unsigned. -/
theorem toNat_lt {w : BitVec 32} {n : ℕ} (hn : n < 2 ^ 31) (h0 : IntOp.cmpi .sge w 0#32 = 1#1) (h1 : IntOp.cmpi .slt w (BitVec.ofNat 32 n) = 1#1) : w.toNat < n := by
  have hb : ∀ b : Bool, BitVec.ofBool b = 1#1 → b = true := by decide
  have e0 := of_decide_eq_true (hb _ h0)
  have e1 := of_decide_eq_true (hb _ h1)
  have hnn : (BitVec.ofNat 32 n).toInt = n := by
    rw [BitVec.toInt_eq_toNat_cond, BitVec.toNat_ofNat, Nat.mod_eq_of_lt (by omega)]; split <;> omega
  rw [hnn] at e1
  have hz : (0#32 : BitVec 32).toInt = 0 := by decide
  rw [hz] at e0
  rw [BitVec.toInt_eq_toNat_cond] at e0 e1
  have := w.isLt
  split at e0 <;> omega

/-- Every token word names a row, and every expert word an expert. -/
theorem words_of_fn (x0 : FVec F S24576x1024 .f32) (x1 : IVec S416x1x256 32) (x2 : IVec S416 32) (x3 : IVec S1 32) (x4 : FVec F S32x1024x2048 .f32)
    (x5 : FVec F S32x1x2048 .f32) (x6 : FVec F S32x1024x1024 .f32) (x7 : FVec F S32x1x1024 .f32)
    (h : fn (F := F) x0 x1 x2 x3 x4 x5 x6 x7 = fun _ => 1#1) : (∀ y, (x1 y).toNat < 24576) ∧ ∀ y, (x2 y).toNat < 32 := by
  have h0 := congrFun h (fun a => a.elim0)
  have hand : ∀ x y : BitVec 1, IntOp.andi x y = 1#1 → x = 1#1 ∧ y = 1#1 := by decide
  obtain ⟨h0, h3⟩ := hand _ _ h0
  obtain ⟨h0, h2⟩ := hand _ _ h0
  obtain ⟨h0, h1⟩ := hand _ _ h0
  pointwise [] at h0 h1 h2 h3
  have a0 := Cert.Pre_finite.all_of_fold_andi_univ _ h0
  have a1 := Cert.Pre_finite.all_of_fold_andi_univ _ h1
  have a2 := Cert.Pre_finite.all_of_fold_andi_univ _ h2
  have a3 := Cert.Pre_finite.all_of_fold_andi_univ _ h3
  refine ⟨fun y => ?_, fun y => ?_⟩
  · rw [eq_ix3 y]; exact toNat_lt (by decide) (a0 (y 0, y 1, y 2)) (a1 (y 0, y 1, y 2))
  · rw [eq_ix1 y]; exact toNat_lt (by decide) (a2 (y 0)) (a3 (y 0))

end Cert.Pre_routed

namespace Cert.Kernel2.Moe

open Cert.Kernel2

variable {F : FTy → Type} [FloatOps F]
variable (m : (ℓ : Loc nD τ sig) → Buf (Elt F) ℓ) (g : Dev nD → PrngReg)

/-- The precondition on every core's arguments. -/
abbrev Routed : Prop := ∀ c : Dev nD,
  Cert.Pre_routed.fn (F := F) (V m c main_arg0) (V m c main_arg1) (V m c main_arg2) (V m c main_arg3) (V m c main_arg4) (V m c main_arg5)
    (V m c main_arg6) (V m c main_arg7) = fun _ => 1#1

theorem fits_of (hp : Routed m) : Fits m where
  expert := (Cert.Pre_routed.words_of_fn _ _ _ _ _ _ _ _ (hp 0)).2
  token c := (Cert.Pre_routed.words_of_fn _ _ _ _ _ _ _ _ (hp c)).1

end Cert.Kernel2.Moe

namespace Cert.Proof

/-- The experts kernel terminates from every memory whose words are in range and leaves its arguments unchanged. -/
theorem moe_frame : Cert.quiescent_Kernel2 := fun m g hp =>
  (θ_run Cert.Kernel2.defs _ _).mono (fun _ hr => ⟨fun c => Cert.Kernel2.Moe.args_of m (Cert.Kernel2.Moe.fits_of m hp) hr.1 c, hr.2⟩)
    (Cert.Kernel2.Moe.run_main m g (Cert.Kernel2.Moe.fits_of m hp))

end Cert.Proof

end
-- ==== Proof.MoeIdeal.Words.lean ====
/-
  The gather of the experts kernel, its words: the loops run 256 trips, trip `k` reads token word `k`, copies the row of
  the activations the word names into row `k` of the row buffer. Here: the rows as memrefs, the gathered contents, and
  what a landed row holds.
-/
module

public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Loops
public import Idealize.ShloMosaic.Lib.Pipeline.FrameBody
public import Idealize.ShloMosaic.Lib.Batch
public import Idealize.ShloMosaic.Lib.Ring
public import Idealize.ShloMosaic.Lib.ViewIndex
public import Idealize.ShloMosaic.Lib.Pointwise
public import Idealize.ShloMosaic.Lib.Tactic

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem trips1 : k0_t1_loop.trips = 256 := by decide
theorem trips2 : k0_t2_loop.trips = 256 := by decide

/-- Trip `k` of the loop that issues the row copies. -/
abbrev trip1 (k : Fin 256) : Fin k0_t1_loop.trips := ⟨k.val, by rw [trips1]; exact k.isLt⟩

theorem off2_eq (t : Fin k0_t1_loop.trips) : k0_off2 t = ![0, 0, t.val] :=
  (by decide +kernel : ∀ t : Fin k0_t1_loop.trips, k0_off2 t = ![0, 0, t.val]) t

theorem off3_eq (t : Fin k0_t1_loop.trips) : k0_off3 t = ![t.val, 0] :=
  (by decide +kernel : ∀ t : Fin k0_t1_loop.trips, k0_off3 t = ![t.val, 0]) t

theorem off7_eq (t : Fin k0_t2_loop.trips) : k0_off7 t = ![0, 0, t.val] :=
  (by decide +kernel : ∀ t : Fin k0_t2_loop.trips, k0_off7 t = ![0, 0, t.val]) t

/-- The one index of a one-word shape. -/
abbrev i1 : S1x1x1.Idx := Shape.Idx.first (s := S1x1x1) (numel1_S1x1x1.symm ▸ Nat.one_pos)

/-- Token word `k` of a block of token words. -/
def tokW (x3 : S1x1x256.Idx → BitVec 32) (k : Fin 256) : BitVec 32 := x3 (ix3 0 0 k)

theorem i1_val (a : Fin 3) : (i1 a).val = 0 := by
  have h := (i1 a).isLt
  fin_cases a <;> exact Nat.lt_one_iff.mp h

theorem emb_off2 (t : Fin k0_t1_loop.trips) (h) :
    (Rect.unit (s := S1x1x256) (k0_off2 t) S1x1x1.size h).emb i1 = ix3 0 0 ⟨t.val, lt_of_lt_of_eq t.isLt trips1⟩ := by
  funext a; apply Fin.ext
  show (k0_off2 t) a + 1 * (i1 a).val = _
  rw [i1_val, off2_eq]; fin_cases a <;> simp [ix3]

theorem emb_off7 (t : Fin k0_t2_loop.trips) (h) :
    (Rect.unit (s := S1x1x256) (k0_off7 t) S1x1x1.size h).emb i1 = ix3 0 0 ⟨t.val, lt_of_lt_of_eq t.isLt trips2⟩ := by
  funext a; apply Fin.ext
  show (k0_off7 t) a + 1 * (i1 a).val = _
  rw [i1_val, off7_eq]; fin_cases a <;> simp [ix3]

/-- The activations and the row buffer. -/
abbrev hM : Memref sig .tc .hbm S24576x1024 .f32 := Memref.whole main_arg0
abbrev xM : Memref sig .tc .vmem S256x1024 .f32 := Memref.whole cc0_scratch0

/-- A token word names a row of the activations. -/
abbrev RowOK (w : BitVec 32) : Prop := ∀ a, k0_off4 w a + S1x1024.size a ≤ S24576x1024.size a

theorem rowOK_of {w : BitVec 32} (h : w.toNat < 24576) : RowOK w := by
  intro a; fin_cases a <;> simp [k0_off4, S1x1024, S24576x1024] <;> omega

/-- Row `k` of the row buffer, and the row of the activations word `w` names. -/
def dstRow (k : Fin 256) : Memref sig .tc .vmem S1x1024 .f32 :=
  xM.slice (Rect.unit (s := S256x1024) (k0_off3 (trip1 k)) S1x1024.size (k0_off3_inb (trip1 k))) (fun _ => rfl)

def srcRow (w : BitVec 32) (h : RowOK w) : Memref sig .tc .hbm S1x1024 .f32 :=
  hM.slice (Rect.unit (s := S24576x1024) (k0_off4 w) S1x1024.size h) (fun _ => rfl)

/-- The gathered rows: row `k` is the row of `hb` token word `k` names. -/
def gath (hb : S24576x1024.Idx → F .f32) (x3 : S1x1x256.Idx → BitVec 32) (hw : ∀ k, RowOK (tokW x3 k)) : S256x1024.Idx → F .f32 :=
  fun y => hb ((Rect.unit (s := S24576x1024) (k0_off4 (tokW x3 (y 0))) S1x1024.size (hw (y 0))).emb (ix2 0 (y 1)))

/-- Row `k`'s elements: those whose first coordinate is `k`. -/
theorem mem_dstRow (k : Fin 256) (y : S256x1024.Idx) : y ∈ (dstRow k).view.set ↔ y 0 = k := by
  unfold dstRow
  rw [show (xM.slice (Rect.unit (s := S256x1024) (k0_off3 (trip1 k)) S1x1024.size (k0_off3_inb (trip1 k))) (fun _ => rfl)).view.set
    = (Rect.unit (s := S256x1024) (k0_off3 (trip1 k)) S1x1024.size (k0_off3_inb (trip1 k))).set from View.set_slice_whole _ _, Rect.mem_set_unit]
  constructor
  · intro h
    have h0 := h 0
    rw [off3_eq] at h0
    apply Fin.ext
    simp [S1x1024] at h0; omega
  · intro h a
    rw [off3_eq]
    have hy := (y 1).isLt
    subst h
    fin_cases a
    · simp [S1x1024]
    · simp [S1x1024] at hy ⊢; omega

theorem gath_at (hb : S24576x1024.Idx → F .f32) (x3 : S1x1x256.Idx → BitVec 32) (hw : ∀ k, RowOK (tokW x3 k)) (k : Fin 256)
    (j : S1x1024.Idx) (y : S256x1024.Idx) (h0 : y 0 = k) (h1 : (y 1).val = (j 1).val) :
    hb ((Rect.unit (s := S24576x1024) (k0_off4 (tokW x3 k)) S1x1024.size (hw k)).emb j) = gath hb x3 hw y := by
  subst h0
  unfold gath
  congr 2
  funext a; apply Fin.ext
  fin_cases a
  · show (j 0).val = 0
    exact Nat.lt_one_iff.mp (j 0).isLt
  · exact h1.symm

/-- What a landed row holds: the gathered rows, on the row's elements. -/
theorem landed_eq (hb : S24576x1024.Idx → F .f32) (x3 : S1x1x256.Idx → BitVec 32) (hw : ∀ k, RowOK (tokW x3 k)) (k : Fin 256)
    (fd : S256x1024.Idx → F .f32) (y : S256x1024.Idx) (hy : y ∈ (dstRow k).view.set) :
    (dstRow k).view.write (Elt F) fd ((srcRow (tokW x3 k) (hw k)).view.read (Elt F) hb) Finset.univ y = gath hb x3 hw y := by
  have hk := (mem_dstRow k y).mp hy
  obtain ⟨j, rfl⟩ : ∃ j, (dstRow k).view.emb j = y := by
    obtain ⟨j, -, e⟩ := Finset.mem_map.mp hy; exact ⟨j, e⟩
  refine (View.write_emb_of_mem (Val := Elt F) (v := (dstRow k).view) fd _ (Finset.mem_univ j)).trans ?_
  refine gath_at hb x3 hw k j _ hk ?_
  show (k0_off3 (trip1 k)) 1 + 1 * (j 1).val = (j 1).val
  rw [off3_eq]; simp

end Cert.Kernel2Ideal.Moe

end
-- ==== Proof.MoeIdeal.Gather.lean ====
/-
  The gather of the experts kernel, its two loops: the first issues the 256 row copies on one semaphore, the second waits
  for each. The copies in flight are one batch of 256 deliveries: delivery `k` is row `k` of the row buffer at the gathered
  rows, and the share of the activations' row it read.
-/
module

public import proofs.«01_k».proof.Proof.MoeIdeal.Words

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One row copy's credit. -/
def NN : ℕ := (dstRow 0).view.dmaCredit

set_option backward.isDefEq.respectTransparency.types false in
theorem amount_row (k : Fin 256) : (dstRow k).view.amount (.dma cc0_scratch3.sem) = NN := rfl

theorem ret_bind' {α β : Type} {E : Type → Type} (a : α) (k : α → Prog E β) : (Prog.ret a).bind k = k a := rfl

set_option backward.isDefEq.respectTransparency.types false in
theorem credit_row (t : Fin k0_t2_loop.trips) :
    (xM.slice (Rect.unit (s := S256x1024) (k0_off8 t) S1x1024.size (k0_off8_inb t)) (fun _ => rfl)).view.dmaCredit = NN := rfl

theorem NN_pos : 0 < NN := by decide

section Loops

variable (c : Dev nD) (hb : S24576x1024.Idx → F .f32) (x3 : S1x1x256.Idx → BitVec 32) (hw : ∀ k, RowOK (tokW x3 k))

/-- Row `k` of the row buffer at contents `f`. -/
def rowAt (f : S256x1024.Idx → F .f32) (k : Fin 256) : sProp 𝕄 :=
  iprop((dstRow k).view.loc (c : Thread nD τ) ↦[(dstRow k).view.set]{fullShare} f)

/-- Share `k` of the activations, on the row token word `k` names, and off it. -/
def tokAt (k : Fin 256) : sProp 𝕄 :=
  iprop((srcRow (tokW x3 k) (hw k)).view.loc (c : Thread nD τ) ↦[(srcRow (tokW x3 k) (hw k)).view.set]{Transfers.shareTokN fullShare k.val} hb)

def tokRest (k : Fin 256) : sProp 𝕄 :=
  iprop((srcRow (tokW x3 k) (hw k)).view.loc (c : Thread nD τ) ↦[Finset.univ \ (srcRow (tokW x3 k) (hw k)).view.set]{Transfers.shareTokN fullShare k.val} hb)

/-- Delivery `k`. -/
def deliv (k : Fin 256) : sProp 𝕄 := iprop(rowAt c (gath hb x3 hw) k ∗ tokAt c hb x3 hw k)

set_option backward.isDefEq.respectTransparency.types false in
instance deliv_storable (k : Fin 256) : Storable (upEmb : UEmb _ 𝕄) (deliv c hb x3 hw k) := by
  unfold deliv rowAt tokAt; infer_instance

/-- The batch with `j` copies issued and `u` units of credit consumed. -/
abbrev batch (j u : ℕ) : sProp 𝕄 :=
  Transfers.Batch (countersEmb (U := Pipeline.UD sig nD τ)) (c : Thread nD τ) (.dma cc0_scratch3.sem) () NN (deliv c hb x3 hw) j u

/-- A copy's landing, from the row at any contents: its delivery. -/
theorem deliv_of (k : Fin 256) (fd : S256x1024.Idx → F .f32) :
    iprop(((dstRow k).view.loc (c : Thread nD τ) ↦[(dstRow k).view.set]{fullShare}
        ((dstRow k).view.write (Elt F) fd ((srcRow (tokW x3 k) (hw k)).view.read (Elt F) hb) Finset.univ))
      ∗ tokAt c hb x3 hw k) ⊢ (deliv c hb x3 hw k : sProp 𝕄) := by
  unfold deliv rowAt
  rw [pointsTo_congr (fun y hy => landed_eq hb x3 hw k fd y hy)]

/-- Copy `k` issued: its row and its share handed over, the batch grown by one. -/
theorem issue_rule (k : Fin 256) (f0 : S256x1024.Idx → F .f32) (h : RowOK (tokW x3 k)) {hs hd hse}
    (kk : PUnit → Prog (TpuEff nD τ sig (Elt F) Λ₀ .tc) Unit) (Q : Unit → sProp 𝕄) :
    iprop(tokAt c hb x3 hw k ∗ rowAt c f0 k ∗ batch c hb x3 hw k.val 0)
      ⊢ iprop((batch c hb x3 hw (k.val + 1) 0 -∗ wp frame (wpE (defs₀ (F := F)) Variants.none (c : Thread nD τ) none) Set.univ (kk ⟨⟩) Q)
        -∗ wp frame (wpE (defs₀ (F := F)) Variants.none (c : Thread nD τ) none) Set.univ
          (.op (.enqueueDmaAs (hM.slice (Rect.unit (s := S24576x1024) (k0_off4 (tokW x3 k)) S1x1024.size h) (fun _ => rfl))
            (.here (xM.slice (Rect.unit (s := S256x1024) (k0_off3 (trip1 k)) S1x1024.size (k0_off3_inb (trip1 k))) (fun _ => rfl)))
            .same (.dma cc0_scratch3.sem) hs hd hse) kk) Q) :=
  Transfers.wp_dmaBatch (countersEmb (U := Pipeline.UD sig nD τ)) Variants.none (c : Thread nD τ) none
    (defs := defs₀ (F := F)) (src := srcRow (tokW x3 k) (hw k)) (dst := dstRow k) (via := ReadAs.same)
    (fs := hb) (fd := f0) (q := Transfers.shareTokN fullShare k.val) (hsrc := hs) (hdst := hd) (hsem := hse) (k := kk) (Q := Q)
    () NN (amount_row k) subset_rfl k.isLt (Nat.zero_le _) (deliv_of c hb x3 hw k f0)

/-- A wait that is not the last: one copy's credit consumed. -/
theorem wait_rule (t : Fin k0_t2_loop.trips) (w : BitVec 32) (h) (u : ℕ) (hu : u + NN < NN * 256) {hs hd} (W : Waits sig Unit)
    (kk : PUnit → Prog (TpuEff nD τ sig (Elt F) Λ₀ .tc) Unit) (Q : Unit → sProp 𝕄) :
    iprop(batch c hb x3 hw 256 u ∗ owes (c : Thread nD τ) 0 W)
      ⊢ iprop((iprop(batch c hb x3 hw 256 (u + NN) ∗ owes (c : Thread nD τ) 0 (insert (SemLoc.dma cc0_scratch3.sem, ()) W))
          -∗ wp frame (wpE (defs₀ (F := F)) Variants.none (c : Thread nD τ) none) Set.univ (kk ⟨⟩) Q)
        -∗ wp frame (wpE (defs₀ (F := F)) Variants.none (c : Thread nD τ) none) Set.univ
          (.op (.waitDma2 cc0_scratch3.sem (hM.slice (Rect.unit (s := S24576x1024) (k0_off9 w) S1x1024.size h) (fun _ => rfl))
            (xM.slice (Rect.unit (s := S256x1024) (k0_off8 t) S1x1024.size (k0_off8_inb t)) (fun _ => rfl)) hs hd) kk) Q) :=
  Transfers.wp_waitBatch (countersEmb (U := Pipeline.UD sig nD τ)) Variants.none (c : Thread nD τ) none
    (defs := defs₀ (F := F)) (k := kk) (Q := Q) () (credit_row t) hu

/-- The last wait: every delivery, and the semaphore back at zero. -/
theorem wait_last_rule (t : Fin k0_t2_loop.trips) (w : BitVec 32) (h) (u : ℕ) (hu : u + NN = NN * 256) {hs hd} (W : Waits sig Unit)
    (kk : PUnit → Prog (TpuEff nD τ sig (Elt F) Λ₀ .tc) Unit) (Q : Unit → sProp 𝕄) :
    iprop(batch c hb x3 hw 256 u ∗ owes (c : Thread nD τ) 0 W)
      ⊢ iprop((iprop(bigSep Finset.univ (deliv c hb x3 hw) ∗ semVal ((c : Thread nD τ), SemLoc.dma cc0_scratch3.sem) 0
            ∗ owes (c : Thread nD τ) 0 (insert (SemLoc.dma cc0_scratch3.sem, ()) W))
          -∗ wp frame (wpE (defs₀ (F := F)) Variants.none (c : Thread nD τ) none) Set.univ (kk ⟨⟩) Q)
        -∗ wp frame (wpE (defs₀ (F := F)) Variants.none (c : Thread nD τ) none) Set.univ
          (.op (.waitDma2 cc0_scratch3.sem (hM.slice (Rect.unit (s := S24576x1024) (k0_off9 w) S1x1024.size h) (fun _ => rfl))
            (xM.slice (Rect.unit (s := S256x1024) (k0_off8 t) S1x1024.size (k0_off8_inb t)) (fun _ => rfl)) hs hd) kk) Q) :=
  Transfers.wp_waitBatchLast (countersEmb (U := Pipeline.UD sig nD τ)) Variants.none (c : Thread nD τ) none
    (defs := defs₀ (F := F)) (k := kk) (Q := Q) () (credit_row t) NN_pos hu

end Loops

section Issue

variable (c : Dev nD) (i : grid0.Coords) (arg1 : Memref sig .tc .smem S416 .i32) (harg1 : arg1.IsWhole) (arg2 : Memref sig .tc .smem S1 .i32) (harg2 : arg2.IsWhole) (arg3 : Memref sig .tc .smem S1x1x256 .i32) (harg3 : arg3.IsWhole)  (harg4 : hM.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)  (harg10 : xM.IsWhole) (arg11 : Memref sig .tc .vmem S1024x2048 .bf16) (harg11 : arg11.IsWhole) (arg12 : Memref sig .tc .vmem S1024x1024 .bf16) (harg12 : arg12.IsWhole)  (arg0 : BitVec 32) (v0 : Elt F .i32) (k0_h1 : k0_cond1 i v0 = 1#1)

/-- Before trip `k` of the issuing loop: the token words, the rows not yet handed over, the shares not yet handed over,
    the batch with `k` copies issued. -/
def issueAt (f3 : arg3.view.ty.Contents (Elt F)) (hb : S24576x1024.Idx → F .f32) (f0 : S256x1024.Idx → F .f32)
    (hw : ∀ k, RowOK (tokW (arg3.view.read (Elt F) f3) k)) (k : ℕ) (_ : Unit) : sProp 𝕄 :=
  iprop((arg3.view.loc (c : Thread nD τ) ↦[arg3.view.set]{fullShare} f3)
    ∗ bigSep (Ring.rangeSet 256 k 256) (rowAt c f0)
    ∗ bigSep (Ring.rangeSet 256 k 256) (tokAt c hb (arg3.view.read (Elt F) f3) hw)
    ∗ batch c hb (arg3.view.read (Elt F) f3) hw k 0)

theorem issue_step (f3 : arg3.view.ty.Contents (Elt F)) (hb : S24576x1024.Idx → F .f32) (f0 : S256x1024.Idx → F .f32)
    (hw : ∀ k, RowOK (tokW (arg3.view.read (Elt F) f3) k)) (t : Fin k0_t1_loop.trips) (acc : Unit) :
    issueAt c arg3 f3 hb f0 hw t.val acc ⊢ wp frame (wpE (defs₀ (F := F)) Variants.none (c : Thread nD τ) none) Set.univ
      (k0_t1_body i arg1 harg1 arg2 harg2 arg3 harg3 hM harg4 arg5 harg5 arg6 harg6 arg7 harg7 arg8 harg8 arg9 harg9 xM harg10 arg11 harg11 arg12 harg12 cc0_scratch3 arg0 v0 k0_h1 t acc) (issueAt c arg3 f3 hb f0 hw (t.val + 1)) := by
  obtain ⟨k, rfl⟩ : ∃ k : Fin 256, t = trip1 k := ⟨⟨t.val, lt_of_lt_of_eq t.isLt trips1⟩, rfl⟩
  have ht : (trip1 k).val < 256 := k.isLt
  unfold issueAt
  rw [Ring.bigSep_rangeSet_head (Φ := rowAt c f0) ht ht, Ring.bigSep_rangeSet_head (Φ := tokAt c hb (arg3.view.read (Elt F) f3) hw) ht ht]
  iintro ⟨H3, ⟨Hr, Hrs⟩, ⟨Ht, Hts⟩, HB⟩
  unfold k0_t1_body
  dsimp only
  sl_exec
  have hword : issue_step.sl.r arg3 f3 k = tokW (arg3.view.read (Elt F) f3) k := by
    show arg3.view.read (Elt F) f3 ((Rect.unit (s := S1x1x256) (k0_off2 (trip1 k)) S1x1x1.size (k0_off2_inb (trip1 k))).emb i1) = _
    rw [emb_off2]; rfl
  generalize issue_step.sl.r arg3 f3 k = w at hword ⊢
  subst hword
  have hc : k0_chk1 i v0 (tokW (arg3.view.read (Elt F) f3) k) := fun _ => hw k
  iapply (wp_assume _ _ _ _ hc)
  iapply (issue_rule c hb (arg3.view.read (Elt F) f3) hw k f0 (hw k)) $$ [Ht Hr HB]
  · isplitl [Ht]; · iexact Ht
    isplitl [Hr]; · iexact Hr
    iexact HB
  iintro HB
  simp only [ret_bind']
  sl_step
  isplitl [H3]; · iexact H3
  isplitl [Hrs]; · iexact Hrs
  isplitl [Hts]; · iexact Hts
  iexact HB

/-- Before trip `k` of the waiting loop: the token words; and either the batch with `k` copies' credit consumed, or after
    the last trip the semaphore at zero and every delivery. -/
def drainAt (f3 : arg3.view.ty.Contents (Elt F)) (hb : S24576x1024.Idx → F .f32)
    (hw : ∀ k, RowOK (tokW (arg3.view.read (Elt F) f3) k)) (k : ℕ) (_ : Unit) : sProp 𝕄 :=
  iprop((arg3.view.loc (c : Thread nD τ) ↦[arg3.view.set]{fullShare} f3) ∗ (∃ W, owes (c : Thread nD τ) 0 W)
    ∗ (if k < 256 then batch c hb (arg3.view.read (Elt F) f3) hw 256 (k * NN)
       else iprop(semVal ((c : Thread nD τ), SemLoc.dma cc0_scratch3.sem) 0
          ∗ bigSep Finset.univ (deliv c hb (arg3.view.read (Elt F) f3) hw))))

theorem drain_step (f3 : arg3.view.ty.Contents (Elt F)) (hb : S24576x1024.Idx → F .f32)
    (hw : ∀ k, RowOK (tokW (arg3.view.read (Elt F) f3) k)) (t : Fin k0_t2_loop.trips) (acc : Unit) :
    drainAt c arg3 f3 hb hw t.val acc ⊢ wp frame (wpE (defs₀ (F := F)) Variants.none (c : Thread nD τ) none) Set.univ
      (k0_t2_body i arg1 harg1 arg2 harg2 arg3 harg3 hM harg4 arg5 harg5 arg6 harg6 arg7 harg7 arg8 harg8 arg9 harg9 xM harg10 arg11 harg11 arg12 harg12 cc0_scratch3 arg0 v0 k0_h1 t acc) (drainAt c arg3 f3 hb hw (t.val + 1)) := by
  have ht : t.val < 256 := lt_of_lt_of_eq t.isLt trips2
  unfold drainAt
  rw [if_pos ht]
  iintro ⟨H3, ⟨%W, HO⟩, HB⟩
  unfold k0_t2_body
  dsimp only
  sl_exec
  have hword : drain_step.sl.r arg3 f3 t = tokW (arg3.view.read (Elt F) f3) ⟨t.val, ht⟩ := by
    show arg3.view.read (Elt F) f3 ((Rect.unit (s := S1x1x256) (k0_off7 t) S1x1x1.size (k0_off7_inb t)).emb i1) = _
    rw [emb_off7]; rfl
  generalize drain_step.sl.r arg3 f3 t = w at hword ⊢
  subst hword
  have hc : k0_chk2 i v0 (tokW (arg3.view.read (Elt F) f3) ⟨t.val, ht⟩) := fun _ => hw ⟨t.val, ht⟩
  iapply (wp_assume _ _ _ _ hc)
  rcases Nat.lt_or_ge (t.val + 1) 256 with h1 | h1
  · rw [if_pos h1]
    have hu : t.val * NN + NN < NN * 256 := by
      have := Nat.mul_lt_mul_of_pos_right h1 NN_pos; rw [Nat.add_mul, Nat.one_mul] at this; rw [Nat.mul_comm NN]; exact this
    iapply (wait_rule c hb (arg3.view.read (Elt F) f3) hw t _ (hw ⟨t.val, ht⟩) (t.val * NN) hu W) $$ [HB HO]
    · isplitl [HB]; · iexact HB
      iexact HO
    iintro ⟨HB, HO⟩
    simp only [ret_bind']
    sl_step
    isplitl [H3]; · iexact H3
    isplitl [HO]; · iexists _; iexact HO
    rw [Nat.add_mul, Nat.one_mul]
    iexact HB
  · rw [if_neg (Nat.not_lt.mpr h1)]
    have hu : t.val * NN + NN = NN * 256 := by
      rw [show t.val = 255 by omega, ← Nat.succ_mul, Nat.mul_comm]
    iapply (wait_last_rule c hb (arg3.view.read (Elt F) f3) hw t _ (hw ⟨t.val, ht⟩) (t.val * NN) hu W) $$ [HB HO]
    · isplitl [HB]; · iexact HB
      iexact HO
    iintro ⟨HD, HS, HO⟩
    simp only [ret_bind']
    sl_step
    isplitl [H3]; · iexact H3
    isplitl [HO]; · iexists _; iexact HO
    isplitl [HS]; · iexact HS
    iexact HD

end Issue

end Cert.Kernel2Ideal.Moe

end
-- ==== Proof.MoeIdeal.Carve.lean ====
/-
  The gather's resources carved and joined: the row buffer as its 256 rows, the activations as 256 shares, each cut at the
  row it is read from, and what the last wait hands back joined again.
-/
module

public import proofs.«01_k».proof.Proof.MoeIdeal.Gather

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (hb : S24576x1024.Idx → F .f32) (x3 : S1x1x256.Idx → BitVec 32) (hw : ∀ k, RowOK (tokW x3 k))

/-- Row `k`'s elements. -/
def rowSet (k : Fin 256) : Finset S256x1024.Idx := (dstRow k).view.set

theorem mem_rowSet (k : Fin 256) (y : S256x1024.Idx) : y ∈ rowSet k ↔ y 0 = k := mem_dstRow k y

theorem rows_disjoint (k k' : Fin 256) (h : k ≠ k') : Disjoint (rowSet k) (rowSet k') := by
  rw [Finset.disjoint_left]
  intro y hy hy'
  exact h (((mem_rowSet k y).mp hy).symm.trans ((mem_rowSet k' y).mp hy'))

theorem rows_cover : (Finset.univ : Finset (Fin 256)).biUnion rowSet = Finset.univ := by
  ext y
  simp only [Finset.mem_biUnion, Finset.mem_univ, true_and, iff_true]
  exact ⟨y 0, (mem_rowSet (y 0) y).mpr rfl⟩

/-- The row buffer whole, at contents `f`. -/
def xAt (f : S256x1024.Idx → F .f32) : sProp 𝕄 := iprop(((c : Thread nD τ).loc cc0_scratch0) ↦{fullShare} f)

theorem rowAt_eq (f : S256x1024.Idx → F .f32) (k : Fin 256) :
    (rowAt c f k : sProp 𝕄) = iprop(((c : Thread nD τ).loc cc0_scratch0) ↦[rowSet k]{fullShare} f) := rfl

theorem xAt_rows (f : S256x1024.Idx → F .f32) : (xAt c f : sProp 𝕄) = bigSep Finset.univ (rowAt c f) := by
  have h : (xAt c f : sProp 𝕄) = bigSep Finset.univ fun k : Fin 256 =>
      iprop(((c : Thread nD τ).loc cc0_scratch0) ↦[rowSet k]{fullShare} f) := by
    unfold xAt
    exact Ring.pointsTo_blocks (nD := nD) (τ := τ) (sig := sig) (Ix := Unit) (Val := Elt F) (Name := ℕ) (U := Pipeline.UD sig nD τ)
      (Lvl := ℕ) (B := Fin 256) (ℓ := (c : Thread nD τ).loc cc0_scratch0) rowSet rows_disjoint rows_cover f
  exact h.trans (BI.bigSep_congr fun k _ => (rowAt_eq c f k).symm)

theorem xAt_range (f : S256x1024.Idx → F .f32) : (xAt c f : sProp 𝕄) = bigSep (Ring.rangeSet 256 0 256) (rowAt c f) := by
  rw [Ring.rangeSet_univ, xAt_rows]

/-- The row buffer whole, through its memref. -/
theorem xAt_view (f : S256x1024.Idx → F .f32) :
    (xAt c f : sProp 𝕄) = iprop(xM.view.loc (c : Thread nD τ) ↦[xM.view.set]{fullShare} f) := by
  unfold xAt
  rw [View.set_whole]

theorem xAt_view_split (f : S256x1024.Idx → F .f32) :
    (xAt c f : sProp 𝕄) ⊢ iprop(xM.view.loc (c : Thread nD τ) ↦[xM.view.set]{fullShare} f) := by
  rw [xAt_view]

theorem xAt_view_join (f : S256x1024.Idx → F .f32) :
    iprop(xM.view.loc (c : Thread nD τ) ↦[xM.view.set]{fullShare} f) ⊢ (xAt c f : sProp 𝕄) := by
  rw [xAt_view]

theorem xAt_split (f : S256x1024.Idx → F .f32) : (xAt c f : sProp 𝕄) ⊢ bigSep (Ring.rangeSet 256 0 256) (rowAt c f) := by
  rw [xAt_range]

/-- The activations whole. -/
def hAt : sProp 𝕄 := iprop(((c : Thread nD τ).loc main_arg0) ↦{fullShare} hb)

/-- What of the activations stays behind while the copies fly: the share no copy takes, and off its row each copy's. -/
def hRest : sProp 𝕄 :=
  iprop((((c : Thread nD τ).loc main_arg0) ↦{Transfers.shareDrop fullShare 256} hb) ∗ bigSep Finset.univ (tokRest c hb x3 hw))

theorem tok_split (k : Fin 256) :
    ((((c : Thread nD τ).loc main_arg0) ↦{Transfers.shareTokN fullShare k.val} hb : sProp 𝕄)) ⊣⊢ iprop(tokAt c hb x3 hw k ∗ tokRest c hb x3 hw k) :=
  pointsTo_split_subset (Finset.subset_univ _)

theorem toks_eq :
    bigSep Finset.univ (fun k : Fin 256 => (((c : Thread nD τ).loc main_arg0) ↦{Transfers.shareTok fullShare 256 k} hb : sProp 𝕄))
      = iprop(bigSep Finset.univ (tokAt c hb x3 hw) ∗ bigSep Finset.univ (tokRest c hb x3 hw)) :=
  (BI.bigSep_congr fun k _ => equiv_iff.mp ⟨(tok_split c hb x3 hw k).1, (tok_split c hb x3 hw k).2⟩).trans (BI.bigSep_sep _ _ _)

theorem swap3 (P Q R : sProp 𝕄) : iprop(P ∗ Q ∗ R) ⊢ iprop(Q ∗ P ∗ R) := by
  iintro ⟨H1, H2, H3⟩
  isplitl [H2]; · iexact H2
  isplitl [H1]; · iexact H1
  iexact H3

theorem hAt_eq : (hAt c hb : sProp 𝕄) = iprop(bigSep Finset.univ (tokAt c hb x3 hw) ∗ hRest c hb x3 hw) := by
  have h : (hAt c hb : sProp 𝕄) = iprop((((c : Thread nD τ).loc main_arg0) ↦{Transfers.shareDrop fullShare 256} hb)
      ∗ bigSep Finset.univ (fun k : Fin 256 => (((c : Thread nD τ).loc main_arg0) ↦{Transfers.shareTok fullShare 256 k} hb : sProp 𝕄))) :=
    equiv_iff.mp ⟨(Transfers.pointsTo_toks fullShare 256).1, (Transfers.pointsTo_toks fullShare 256).2⟩
  rw [h, toks_eq c hb x3 hw]
  unfold hRest
  exact equiv_iff.mp ⟨swap3 _ _ _, swap3 _ _ _⟩

theorem hAt_split : (hAt c hb : sProp 𝕄) ⊢ iprop(bigSep (Ring.rangeSet 256 0 256) (tokAt c hb x3 hw) ∗ hRest c hb x3 hw) := by
  rw [Ring.rangeSet_univ, hAt_eq c hb x3 hw]

theorem deliv_join : iprop(bigSep Finset.univ (deliv c hb x3 hw) ∗ hRest c hb x3 hw)
    ⊢ (iprop(xAt c (gath hb x3 hw) ∗ hAt c hb) : sProp 𝕄) := by
  rw [xAt_rows, show bigSep Finset.univ (deliv c hb x3 hw)
    = iprop(bigSep Finset.univ (rowAt c (gath hb x3 hw)) ∗ bigSep Finset.univ (tokAt c hb x3 hw)) from BI.bigSep_sep _ _ _]
  iintro ⟨⟨Hx, Ht⟩, Hr⟩
  isplitl [Hx]; · iexact Hx
  rw [hAt_eq c hb x3 hw]
  isplitl [Ht]; · iexact Ht
  iexact Hr

end Cert.Kernel2Ideal.Moe

end
-- ==== Proof.MoeIdeal.Body.lean ====
/-
  The experts kernel's body on a used block: the gather, the expert's weights rounded when the expert changes, and the two
  products.
-/
module

public import proofs.«01_k».proof.Proof.MoeIdeal.Carve
public import Idealize.ShloMosaic.Lib.VecWindow

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index of a one-word vector. -/
abbrev j1 : S1.Idx := Shape.Idx.first (s := S1) (numel1_S1.symm ▸ Nat.one_pos)

/-- The word a vector of expert words holds for this block, and for the block before it. -/
def eWord (i : grid0.Coords) (x : S416.Idx → BitVec 32) : BitVec 32 := x ((Rect.unit (s := S416) (k0_off5 i) S1.size (k0_off5_inb i)).emb j1)
def ePrev (i : grid0.Coords) (x : S416.Idx → BitVec 32) : BitVec 32 := x ((Rect.unit (s := S416) (k0_off6 i) S1.size (k0_off6_inb i)).emb j1)
/-- The one word of a one-word vector. -/
def nWord (x : S1.Idx → BitVec 32) : BitVec 32 := x ((Rect.unit (s := S1) ![0] S1.size inb_S1_S1_0).emb j1)

/-- The weights are rounded anew: the first block, or the expert changed. -/
abbrev Reload (i : grid0.Coords) (e e' : BitVec 32) : Prop :=
  Scalar.cmpi .ne ((Scalar.extui : BitVec 1 → BitVec 32) (Scalar.ori (Scalar.cmpi .eq (BitVec.ofNat 32 (i 0).val) 0#32) (Scalar.cmpi .ne e e'))) 0#32 = 1#1

section Used

variable (c : Dev nD) (i : grid0.Coords) (arg1 : Memref sig .tc .smem S416 .i32) (harg1 : arg1.IsWhole) (arg2 : Memref sig .tc .smem S1 .i32) (harg2 : arg2.IsWhole) (arg3 : Memref sig .tc .smem S1x1x256 .i32) (harg3 : arg3.IsWhole)  (harg4 : hM.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole)  (harg10 : xM.IsWhole) (arg11 : Memref sig .tc .vmem S1024x2048 .bf16) (harg11 : arg11.IsWhole) (arg12 : Memref sig .tc .vmem S1024x1024 .bf16) (harg12 : arg12.IsWhole)

/-- After the issuing loop every copy is in flight. -/
theorem issueAt_exit (f3 : arg3.view.ty.Contents (Elt F)) (hb : S24576x1024.Idx → F .f32) (f0 : S256x1024.Idx → F .f32)
    (hw : ∀ k, RowOK (tokW (arg3.view.read (Elt F) f3) k)) (u : Unit) :
    issueAt c arg3 f3 hb f0 hw (Scf.trips k0_t1_loop.lb k0_t1_loop.ub k0_t1_loop.st) u
      ⊢ iprop((arg3.view.loc (c : Thread nD τ) ↦[arg3.view.set]{fullShare} f3) ∗ batch c hb (arg3.view.read (Elt F) f3) hw 256 0) := by
  rw [show Scf.trips k0_t1_loop.lb k0_t1_loop.ub k0_t1_loop.st = 256 from trips1]
  unfold issueAt
  iintro ⟨H3, -, -, HB⟩
  isplitl [H3]; · iexact H3
  iexact HB

/-- The waiting loop begins with no credit consumed, -/
theorem drainAt_entry (f3 : arg3.view.ty.Contents (Elt F)) (hb : S24576x1024.Idx → F .f32)
    (hw : ∀ k, RowOK (tokW (arg3.view.read (Elt F) f3) k)) (u : Unit) (W : Waits sig Unit) :
    iprop((arg3.view.loc (c : Thread nD τ) ↦[arg3.view.set]{fullShare} f3) ∗ owes (c : Thread nD τ) 0 W
      ∗ batch c hb (arg3.view.read (Elt F) f3) hw 256 0) ⊢ drainAt c arg3 f3 hb hw 0 u := by
  unfold drainAt
  rw [if_pos (by decide : 0 < 256), Nat.zero_mul]
  iintro ⟨H3, HO, HB⟩
  isplitl [H3]; · iexact H3
  isplitl [HO]; · iexists _; iexact HO
  iexact HB

/-- and ends with every delivery and the semaphore at zero. -/
theorem drainAt_exit (f3 : arg3.view.ty.Contents (Elt F)) (hb : S24576x1024.Idx → F .f32)
    (hw : ∀ k, RowOK (tokW (arg3.view.read (Elt F) f3) k)) (u : Unit) :
    drainAt c arg3 f3 hb hw (Scf.trips k0_t2_loop.lb k0_t2_loop.ub k0_t2_loop.st) u
      ⊢ iprop((arg3.view.loc (c : Thread nD τ) ↦[arg3.view.set]{fullShare} f3) ∗ (∃ W, owes (c : Thread nD τ) 0 W)
        ∗ semVal ((c : Thread nD τ), SemLoc.dma cc0_scratch3.sem) 0
        ∗ bigSep Finset.univ (deliv c hb (arg3.view.read (Elt F) f3) hw)) := by
  rw [show Scf.trips k0_t2_loop.lb k0_t2_loop.ub k0_t2_loop.st = 256 from trips2]
  unfold drainAt
  rw [if_neg (by decide : ¬ 256 < 256)]

/-- A used block's output: the second product of the gate of the first. -/
def usedOut (X : FVec F S256x1024 .f32) (W1 : FVec F S1024x2048 .bf16) (B1 : FVec F S1x1x2048 .f32) (W2 : FVec F S1024x1024 .bf16)
    (B2 : FVec F S1x1x1024 .f32) : FVec F S256x1024 .f32 :=
  k0_pay1 (k0_pay6 X W1 B1) (k0_pay7 X W1 B1) W2 B2

theorem used_keep (f1 : arg1.view.ty.Contents (Elt F)) (f2 : arg2.view.ty.Contents (Elt F)) (f3 : arg3.view.ty.Contents (Elt F))
    (hb : S24576x1024.Idx → F .f32) (f0 : S256x1024.Idx → F .f32) (q1 q2 : PosShare TreeShare)
    (f5 : arg5.view.ty.Contents (Elt F)) (f6 : arg6.view.ty.Contents (Elt F)) (f7 : arg7.view.ty.Contents (Elt F))
    (f8 : arg8.view.ty.Contents (Elt F)) (f9 : arg9.view.ty.Contents (Elt F))
    (f11 : arg11.view.ty.Contents (Elt F)) (f12 : arg12.view.ty.Contents (Elt F))
    (hw : ∀ k, RowOK (tokW (arg3.view.read (Elt F) f3) k))
    (h1 : k0_cond1 i (nWord (arg2.view.read (Elt F) f2)) = 1#1) (h3 : ¬ k0_cond3 i (nWord (arg2.view.read (Elt F) f2)) = 1#1)
    (hre : ¬ Reload i (eWord i (arg1.view.read (Elt F) f1)) (ePrev i (arg1.view.read (Elt F) f1)))
    (h11 : arg11.view.read (Elt F) f11 = k0_pay3 (arg5.view.read (Elt F) f5)) (h12 : arg12.view.read (Elt F) f12 = k0_pay4 (arg7.view.read (Elt F) f7))
    (W : Waits sig Unit) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ hAt c hb
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ xAt c f0
      ∗ (arg11.view.loc (c : Thread nD τ) ↦[arg11.view.set]{fullShare} f11) ∗ (arg12.view.loc (c : Thread nD τ) ↦[arg12.view.set]{fullShare} f12)
      ∗ semVal ((c : Thread nD τ), SemLoc.dma cc0_scratch3.sem) 0 ∗ owes (c : Thread nD τ) 0 W)
    ⊢ wp frame (wpE (defs₀ (F := F)) Variants.none (c : Thread nD τ) none) Set.univ
      (cc0_moe_experts i arg1 harg1 arg2 harg2 arg3 harg3 hM harg4 arg5 harg5 arg6 harg6 arg7 harg7 arg8 harg8 arg9 harg9 xM harg10 arg11 harg11 arg12 harg12 cc0_scratch3) fun _ =>
    iprop(owns (c : Thread nD τ) arg1 q1 (arg1.view.read (Elt F) f1) ∗ owns (c : Thread nD τ) arg2 q2 (arg2.view.read (Elt F) f2)
      ∗ owns (c : Thread nD τ) arg3 fullShare (arg3.view.read (Elt F) f3) ∗ hAt c hb
      ∗ owns (c : Thread nD τ) arg5 fullShare (arg5.view.read (Elt F) f5) ∗ owns (c : Thread nD τ) arg6 fullShare (arg6.view.read (Elt F) f6)
      ∗ owns (c : Thread nD τ) arg7 fullShare (arg7.view.read (Elt F) f7) ∗ owns (c : Thread nD τ) arg8 fullShare (arg8.view.read (Elt F) f8)
      ∗ owns (c : Thread nD τ) arg9 fullShare (usedOut (gath hb (arg3.view.read (Elt F) f3) hw) (k0_pay3 (arg5.view.read (Elt F) f5))
          (arg6.view.read (Elt F) f6) (k0_pay4 (arg7.view.read (Elt F) f7)) (arg8.view.read (Elt F) f8))
      ∗ (∃ f, xAt c f)
      ∗ owns (c : Thread nD τ) arg11 fullShare (k0_pay3 (arg5.view.read (Elt F) f5))
      ∗ owns (c : Thread nD τ) arg12 fullShare (k0_pay4 (arg7.view.read (Elt F) f7))
      ∗ semVal ((c : Thread nD τ), SemLoc.dma cc0_scratch3.sem) 0 ∗ (∃ W', owes (c : Thread nD τ) 0 W')) := by
  iintro ⟨H1, H2, H3, Hh, H5, H6, H7, H8, H9, Hx, H11, H12, HS, HO⟩
  simp only [cc0_moe_experts_eq_skeleton]
  unfold cc0_moe_experts_skel
  simp only [k0_part1_eq_skeleton]
  unfold k0_part1_skel
  imod (Transfers.batch_alloc' (Lvl := ℕ) (countersEmb (U := Pipeline.UD sig nD τ)) (c : Thread nD τ) () NN
    (deliv c hb (arg3.view.read (Elt F) f3) hw) (sm := .dma cc0_scratch3.sem) (E := Set.univ)) $$ HS with HB
  ihave Hx := (xAt_split c f0) $$ Hx
  ihave Hh' := (hAt_split c hb (arg3.view.read (Elt F) f3) hw) $$ Hh
  icases Hh' with ⟨Htok, Hrest⟩
  sl_exec
  simp (config := { iota := false, proj := false, eta := false }) only [Prog.bind_assoc]
  sl_for (issueAt c arg3 f3 hb f0 hw) $$ [H3 Hx Htok HB]
  · intro k acc
    exact issue_step c i arg1 harg1 arg2 harg2 arg3 harg3 harg4 arg5 harg5 arg6 harg6 arg7 harg7 arg8 harg8 arg9 harg9 harg10 arg11 harg11 arg12 harg12 _ _ _ f3 hb f0 hw k acc
  · unfold issueAt
    isplitl [H3]; · iexact H3
    isplitl [Hx]; · iexact Hx
    isplitl [Htok]; · iexact Htok
    iexact HB
  iintro %acc HL
  sl_exec
  simp (config := { iota := false, proj := false, eta := false }) only [Prog.bind_assoc]
  ihave HL' := (issueAt_exit c arg3 f3 hb f0 hw acc) $$ HL
  icases HL' with ⟨H3, HB⟩
  sl_for (drainAt c arg3 f3 hb hw) $$ [H3 HO HB]
  · intro k acc
    exact drain_step c i arg1 harg1 arg2 harg2 arg3 harg3 harg4 arg5 harg5 arg6 harg6 arg7 harg7 arg8 harg8 arg9 harg9 harg10 arg11 harg11 arg12 harg12 _ _ _ f3 hb hw k acc
  · iapply (drainAt_entry c arg3 f3 hb hw () W)
    isplitl [H3]; · iexact H3
    isplitl [HO]; · iexact HO
    iexact HB
  iintro %acc' HL
  ihave HL' := (drainAt_exit c arg3 f3 hb hw acc') $$ HL
  icases HL' with ⟨H3, HO, HS, HD⟩
  ihave HX := (deliv_join c hb (arg3.view.read (Elt F) f3) hw) $$ [HD Hrest]
  · isplitl [HD]; · iexact HD
    iexact Hrest
  icases HX with ⟨Hx, Hh⟩
  ihave Hx := (xAt_view_split c (gath hb (arg3.view.read (Elt F) f3) hw)) $$ Hx
  sl_exec
  sl_step
  isplitl [H1]
  · unfold owns; iexists f1; isplitr; · ipureintro; rfl
    iexact H1
  isplitl [H2]
  · unfold owns; iexists f2; isplitr; · ipureintro; rfl
    iexact H2
  isplitl [H3]
  · unfold owns; iexists f3; isplitr; · ipureintro; rfl
    iexact H3
  isplitl [Hh]; · iexact Hh
  isplitl [H5]
  · unfold owns; iexists f5; isplitr; · ipureintro; rfl
    iexact H5
  isplitl [H6]
  · unfold owns; iexists f6; isplitr; · ipureintro; rfl
    iexact H6
  isplitl [H7]
  · unfold owns; iexists f7; isplitr; · ipureintro; rfl
    iexact H7
  isplitl [H8]
  · unfold owns; iexists f8; isplitr; · ipureintro; rfl
    iexact H8
  isplitl [H9]
  · unfold owns
    iexists _
    isplitr
    swap
    · iexact H9
    ipureintro
    refine (View.read_writes_full (Val := Elt F) arg9.view f9 _ _ _).trans ?_
    rw [View.readAt_full (Val := Elt F) xM.view, View.readAt_full (Val := Elt F) arg11.view f11, View.readAt_full (Val := Elt F) arg12.view f12, View.readAt_full (Val := Elt F) arg6.view f6,
      View.readAt_full (Val := Elt F) arg8.view f8, h11, h12]
    rfl
  isplitl [Hx]
  · iexists _
    iapply (xAt_view_join c (gath hb (arg3.view.read (Elt F) f3) hw))
    iexact Hx
  isplitl [H11]
  · unfold owns
    iexists _
    isplitr
    swap
    · iexact H11
    ipureintro
    exact h11
  isplitl [H12]
  · unfold owns
    iexists _
    isplitr
    swap
    · iexact H12
    ipureintro
    exact h12
  isplitl [HS]; · iexact HS
  iexact HO

theorem used_reload (f1 : arg1.view.ty.Contents (Elt F)) (f2 : arg2.view.ty.Contents (Elt F)) (f3 : arg3.view.ty.Contents (Elt F))
    (hb : S24576x1024.Idx → F .f32) (f0 : S256x1024.Idx → F .f32) (q1 q2 : PosShare TreeShare)
    (f5 : arg5.view.ty.Contents (Elt F)) (f6 : arg6.view.ty.Contents (Elt F)) (f7 : arg7.view.ty.Contents (Elt F))
    (f8 : arg8.view.ty.Contents (Elt F)) (f9 : arg9.view.ty.Contents (Elt F))
    (f11 : arg11.view.ty.Contents (Elt F)) (f12 : arg12.view.ty.Contents (Elt F))
    (hw : ∀ k, RowOK (tokW (arg3.view.read (Elt F) f3) k))
    (h1 : k0_cond1 i (nWord (arg2.view.read (Elt F) f2)) = 1#1) (h3 : ¬ k0_cond3 i (nWord (arg2.view.read (Elt F) f2)) = 1#1)
    (hre : Reload i (eWord i (arg1.view.read (Elt F) f1)) (ePrev i (arg1.view.read (Elt F) f1)))
    (W : Waits sig Unit) :
    iprop((arg1.view.loc (c : Thread nD τ) ↦[arg1.view.set]{q1} f1) ∗ (arg2.view.loc (c : Thread nD τ) ↦[arg2.view.set]{q2} f2)
      ∗ (arg3.view.loc (c : Thread nD τ) ↦[arg3.view.set]{fullShare} f3) ∗ hAt c hb
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ xAt c f0
      ∗ (arg11.view.loc (c : Thread nD τ) ↦[arg11.view.set]{fullShare} f11) ∗ (arg12.view.loc (c : Thread nD τ) ↦[arg12.view.set]{fullShare} f12)
      ∗ semVal ((c : Thread nD τ), SemLoc.dma cc0_scratch3.sem) 0 ∗ owes (c : Thread nD τ) 0 W)
    ⊢ wp frame (wpE (defs₀ (F := F)) Variants.none (c : Thread nD τ) none) Set.univ
      (cc0_moe_experts i arg1 harg1 arg2 harg2 arg3 harg3 hM harg4 arg5 harg5 arg6 harg6 arg7 harg7 arg8 harg8 arg9 harg9 xM harg10 arg11 harg11 arg12 harg12 cc0_scratch3) fun _ =>
    iprop(owns (c : Thread nD τ) arg1 q1 (arg1.view.read (Elt F) f1) ∗ owns (c : Thread nD τ) arg2 q2 (arg2.view.read (Elt F) f2)
      ∗ owns (c : Thread nD τ) arg3 fullShare (arg3.view.read (Elt F) f3) ∗ hAt c hb
      ∗ owns (c : Thread nD τ) arg5 fullShare (arg5.view.read (Elt F) f5) ∗ owns (c : Thread nD τ) arg6 fullShare (arg6.view.read (Elt F) f6)
      ∗ owns (c : Thread nD τ) arg7 fullShare (arg7.view.read (Elt F) f7) ∗ owns (c : Thread nD τ) arg8 fullShare (arg8.view.read (Elt F) f8)
      ∗ owns (c : Thread nD τ) arg9 fullShare (usedOut (gath hb (arg3.view.read (Elt F) f3) hw) (k0_pay3 (arg5.view.read (Elt F) f5))
          (arg6.view.read (Elt F) f6) (k0_pay4 (arg7.view.read (Elt F) f7)) (arg8.view.read (Elt F) f8))
      ∗ (∃ f, xAt c f)
      ∗ owns (c : Thread nD τ) arg11 fullShare (k0_pay3 (arg5.view.read (Elt F) f5))
      ∗ owns (c : Thread nD τ) arg12 fullShare (k0_pay4 (arg7.view.read (Elt F) f7))
      ∗ semVal ((c : Thread nD τ), SemLoc.dma cc0_scratch3.sem) 0 ∗ (∃ W', owes (c : Thread nD τ) 0 W')) := by
  iintro ⟨H1, H2, H3, Hh, H5, H6, H7, H8, H9, Hx, H11, H12, HS, HO⟩
  simp only [cc0_moe_experts_eq_skeleton]
  unfold cc0_moe_experts_skel
  simp only [k0_part1_eq_skeleton]
  unfold k0_part1_skel
  imod (Transfers.batch_alloc' (Lvl := ℕ) (countersEmb (U := Pipeline.UD sig nD τ)) (c : Thread nD τ) () NN
    (deliv c hb (arg3.view.read (Elt F) f3) hw) (sm := .dma cc0_scratch3.sem) (E := Set.univ)) $$ HS with HB
  ihave Hx := (xAt_split c f0) $$ Hx
  ihave Hh' := (hAt_split c hb (arg3.view.read (Elt F) f3) hw) $$ Hh
  icases Hh' with ⟨Htok, Hrest⟩
  sl_exec
  simp (config := { iota := false, proj := false, eta := false }) only [Prog.bind_assoc]
  sl_for (issueAt c arg3 f3 hb f0 hw) $$ [H3 Hx Htok HB]
  · intro k acc
    exact issue_step c i arg1 harg1 arg2 harg2 arg3 harg3 harg4 arg5 harg5 arg6 harg6 arg7 harg7 arg8 harg8 arg9 harg9 harg10 arg11 harg11 arg12 harg12 _ _ _ f3 hb f0 hw k acc
  · unfold issueAt
    isplitl [H3]; · iexact H3
    isplitl [Hx]; · iexact Hx
    isplitl [Htok]; · iexact Htok
    iexact HB
  iintro %acc HL
  sl_exec
  simp (config := { iota := false, proj := false, eta := false }) only [Prog.bind_assoc]
  ihave HL' := (issueAt_exit c arg3 f3 hb f0 hw acc) $$ HL
  icases HL' with ⟨H3, HB⟩
  sl_for (drainAt c arg3 f3 hb hw) $$ [H3 HO HB]
  · intro k acc
    exact drain_step c i arg1 harg1 arg2 harg2 arg3 harg3 harg4 arg5 harg5 arg6 harg6 arg7 harg7 arg8 harg8 arg9 harg9 harg10 arg11 harg11 arg12 harg12 _ _ _ f3 hb hw k acc
  · iapply (drainAt_entry c arg3 f3 hb hw () W)
    isplitl [H3]; · iexact H3
    isplitl [HO]; · iexact HO
    iexact HB
  iintro %acc' HL
  ihave HL' := (drainAt_exit c arg3 f3 hb hw acc') $$ HL
  icases HL' with ⟨H3, HO, HS, HD⟩
  ihave HX := (deliv_join c hb (arg3.view.read (Elt F) f3) hw) $$ [HD Hrest]
  · isplitl [HD]; · iexact HD
    iexact Hrest
  icases HX with ⟨Hx, Hh⟩
  ihave Hx := (xAt_view_split c (gath hb (arg3.view.read (Elt F) f3) hw)) $$ Hx
  sl_exec
  sl_step
  isplitl [H1]
  · unfold owns; iexists f1; isplitr; · ipureintro; rfl
    iexact H1
  isplitl [H2]
  · unfold owns; iexists f2; isplitr; · ipureintro; rfl
    iexact H2
  isplitl [H3]
  · unfold owns; iexists f3; isplitr; · ipureintro; rfl
    iexact H3
  isplitl [Hh]; · iexact Hh
  isplitl [H5]
  · unfold owns; iexists f5; isplitr; · ipureintro; rfl
    iexact H5
  isplitl [H6]
  · unfold owns; iexists f6; isplitr; · ipureintro; rfl
    iexact H6
  isplitl [H7]
  · unfold owns; iexists f7; isplitr; · ipureintro; rfl
    iexact H7
  isplitl [H8]
  · unfold owns; iexists f8; isplitr; · ipureintro; rfl
    iexact H8
  isplitl [H9]
  · unfold owns
    iexists _
    isplitr
    swap
    · iexact H9
    ipureintro
    refine (View.read_writes_full (Val := Elt F) arg9.view f9 _ _ _).trans ?_
    have ha : used_reload.sl.a arg5 arg11 f5 = k0_pay3 (arg5.view.read (Elt F) f5) :=
      (View.readCov_full (Val := Elt F) arg11.view _ _ _ _).trans (by rw [View.readAt_full (Val := Elt F) arg5.view f5])
    have hb' : used_reload.sl.v45 arg7 arg12 f7 = k0_pay4 (arg7.view.read (Elt F) f7) :=
      (View.readCov_full (Val := Elt F) arg12.view _ _ _ _).trans (by rw [View.readAt_full (Val := Elt F) arg7.view f7])
    rw [ha, hb', View.readAt_full (Val := Elt F) xM.view, View.readAt_full (Val := Elt F) arg6.view f6, View.readAt_full (Val := Elt F) arg8.view f8]
    rfl
  isplitl [Hx]
  · iexists _
    iapply (xAt_view_join c (gath hb (arg3.view.read (Elt F) f3) hw))
    iexact Hx
  isplitl [H11]
  · unfold owns
    iexists _
    isplitr
    swap
    · iexact H11
    ipureintro
    exact (View.read_writes_full (Val := Elt F) arg11.view f11 _ _ _).trans (by rw [View.readAt_full (Val := Elt F) arg5.view f5])
  isplitl [H12]
  · unfold owns
    iexists _
    isplitr
    swap
    · iexact H12
    ipureintro
    exact (View.read_writes_full (Val := Elt F) arg12.view f12 _ _ _).trans (by rw [View.readAt_full (Val := Elt F) arg7.view f7])
  isplitl [HS]; · iexact HS
  iexact HO

/-- A used block: whatever the output held, it comes to hold the expert's output of the gathered rows; the rounded weights
    are the expert's after the block if they were before it or were rounded anew in it. -/
theorem used_run (x1 : S416.Idx → BitVec 32) (x2 : S1.Idx → BitVec 32) (x3 : S1x1x256.Idx → BitVec 32) (hb : S24576x1024.Idx → F .f32)
    (q1 q2 : PosShare TreeShare) (x5 : FVec F S1x1024x2048 .f32) (x6 : FVec F S1x1x2048 .f32) (x7 : FVec F S1x1024x1024 .f32)
    (x8 : FVec F S1x1x1024 .f32) (y9 : FVec F S256x1024 .f32) (y11 : FVec F S1024x2048 .bf16) (y12 : FVec F S1024x1024 .bf16)
    (hw : ∀ k, RowOK (tokW x3 k)) (h1 : k0_cond1 i (nWord x2) = 1#1) (h3 : ¬ k0_cond3 i (nWord x2) = 1#1)
    (hre : ¬ Reload i (eWord i x1) (ePrev i x1) → y11 = k0_pay3 x5 ∧ y12 = k0_pay4 x7) (W : Waits sig Unit) :
    iprop(owns (c : Thread nD τ) arg1 q1 x1 ∗ owns (c : Thread nD τ) arg2 q2 x2
      ∗ owns (c : Thread nD τ) arg3 fullShare x3 ∗ hAt c hb
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare y9 ∗ (∃ f, xAt c f)
      ∗ owns (c : Thread nD τ) arg11 fullShare y11 ∗ owns (c : Thread nD τ) arg12 fullShare y12
      ∗ semVal ((c : Thread nD τ), SemLoc.dma cc0_scratch3.sem) 0 ∗ owes (c : Thread nD τ) 0 W)
    ⊢ wp frame (wpE (defs₀ (F := F)) Variants.none (c : Thread nD τ) none) Set.univ
      (cc0_moe_experts i arg1 harg1 arg2 harg2 arg3 harg3 hM harg4 arg5 harg5 arg6 harg6 arg7 harg7 arg8 harg8 arg9 harg9 xM harg10 arg11 harg11 arg12 harg12 cc0_scratch3) fun _ =>
    iprop(owns (c : Thread nD τ) arg1 q1 x1 ∗ owns (c : Thread nD τ) arg2 q2 x2
      ∗ owns (c : Thread nD τ) arg3 fullShare x3 ∗ hAt c hb
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare (usedOut (gath hb x3 hw) (k0_pay3 x5) x6 (k0_pay4 x7) x8) ∗ (∃ f, xAt c f)
      ∗ owns (c : Thread nD τ) arg11 fullShare (k0_pay3 x5) ∗ owns (c : Thread nD τ) arg12 fullShare (k0_pay4 x7)
      ∗ semVal ((c : Thread nD τ), SemLoc.dma cc0_scratch3.sem) 0 ∗ (∃ W', owes (c : Thread nD τ) 0 W')) := by
  iintro ⟨H1, H2, H3, Hh, H5, H6, H7, H8, H9, ⟨%f0, Hx⟩, H11, H12, HS, HO⟩
  unfold owns
  icases H1 with ⟨%f1, %e1, H1⟩
  icases H2 with ⟨%f2, %e2, H2⟩
  icases H3 with ⟨%f3, %e3, H3⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H11 with ⟨%f11, %e11, H11⟩
  icases H12 with ⟨%f12, %e12, H12⟩
  subst e1 e2 e3 e5 e6 e7 e8 e9 e11 e12
  by_cases hr : Reload i (eWord i (arg1.view.read (Elt F) f1)) (ePrev i (arg1.view.read (Elt F) f1))
  · iapply (used_reload c i arg1 harg1 arg2 harg2 arg3 harg3 harg4 arg5 harg5 arg6 harg6 arg7 harg7 arg8 harg8 arg9 harg9 harg10 arg11 harg11 arg12 harg12 f1 f2 f3 hb f0 q1 q2 f5 f6 f7 f8 f9 f11 f12 hw h1 h3 hr W)
    isplitl [H1]; · iexact H1
    isplitl [H2]; · iexact H2
    isplitl [H3]; · iexact H3
    isplitl [Hh]; · iexact Hh
    isplitl [H5]; · iexact H5
    isplitl [H6]; · iexact H6
    isplitl [H7]; · iexact H7
    isplitl [H8]; · iexact H8
    isplitl [H9]; · iexact H9
    isplitl [Hx]; · iexact Hx
    isplitl [H11]; · iexact H11
    isplitl [H12]; · iexact H12
    isplitl [HS]; · iexact HS
    iexact HO
  · iapply (used_keep c i arg1 harg1 arg2 harg2 arg3 harg3 harg4 arg5 harg5 arg6 harg6 arg7 harg7 arg8 harg8 arg9 harg9 harg10 arg11 harg11 arg12 harg12 f1 f2 f3 hb f0 q1 q2 f5 f6 f7 f8 f9 f11 f12 hw h1 h3 hr (hre hr).1 (hre hr).2 W)
    isplitl [H1]; · iexact H1
    isplitl [H2]; · iexact H2
    isplitl [H3]; · iexact H3
    isplitl [Hh]; · iexact Hh
    isplitl [H5]; · iexact H5
    isplitl [H6]; · iexact H6
    isplitl [H7]; · iexact H7
    isplitl [H8]; · iexact H8
    isplitl [H9]; · iexact H9
    isplitl [Hx]; · iexact Hx
    isplitl [H11]; · iexact H11
    isplitl [H12]; · iexact H12
    isplitl [HS]; · iexact HS
    iexact HO

/-- A block past the used ones: the output comes to hold zeros. -/
theorem unused_run (x2 : S1.Idx → BitVec 32) (q2 : PosShare TreeShare) (y9 : FVec F S256x1024 .f32)
    (h1 : ¬ k0_cond1 i (nWord x2) = 1#1) (h3 : k0_cond3 i (nWord x2) = 1#1) :
    (iprop(owns (c : Thread nD τ) arg2 q2 x2 ∗ owns (c : Thread nD τ) arg9 fullShare y9) : sProp 𝕄)
    ⊢ wp frame (wpE (defs₀ (F := F)) Variants.none (c : Thread nD τ) none) Set.univ
      (cc0_moe_experts i arg1 harg1 arg2 harg2 arg3 harg3 hM harg4 arg5 harg5 arg6 harg6 arg7 harg7 arg8 harg8 arg9 harg9 xM harg10 arg11 harg11 arg12 harg12 cc0_scratch3) fun _ =>
    iprop(owns (c : Thread nD τ) arg2 q2 x2 ∗ owns (c : Thread nD τ) arg9 fullShare (k0_pay2 (F := F))) := by
  simp only [cc0_moe_experts_eq_skeleton]
  unfold cc0_moe_experts_skel
  unfold owns
  iintro ⟨⟨%f2, %e2, H2⟩, ⟨%f9, %e9, H9⟩⟩
  subst e2 e9
  sl_exec
  sl_step
  isplitl [H2]
  · iexists f2; isplitr; · ipureintro; rfl
    iexact H2
  iexists _
  isplitr
  swap
  · iexact H9
  ipureintro
  exact View.read_writes_full (Val := Elt F) arg9.view f9 _ _ _

end Used

end Cert.Kernel2Ideal.Moe

end
-- ==== Proof.MoeIdeal.Points.lean ====
/-
  The experts kernel's grid points: the tables as launched, each window's block, which points are used, and what the body
  leaves in the output's block.
-/
module

public import proofs.«01_k».proof.Proof.MoeIdeal.Body
public import proofs.«01_k».proof.Proof.Gen.Kernel2Ideal.Launch
public import Idealize.ShloMosaic.Lib.Pipeline.Frame
public import Idealize.ShloMosaic.Lib.Pipeline.FrameBody
public import Idealize.ShloMosaic.Lib.WordCmp

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- Core `c`'s buffers as launched. -/
abbrev V (c : Dev nD) (b : Ref sig .tc) : Buf (Elt F) ((c : Thread nD τ).loc b) := m ((c : Thread nD τ).loc b)

/-- The two tables as launched: the block's expert, and how many blocks are used. -/
def tbl : pre0.Contents (Elt F) := fun k => V m (0 : Dev nD) (pre0.ref k)
abbrev tblE : S416.Idx → BitVec 32 := tbl m 0
abbrev tblN : S1.Idx → BitVec 32 := tbl m 1

/-- What the launch needs of the tables and the token words: every block's expert names a block of the weights, and every
    token word names a row. -/
structure Fits : Prop where
  expert : ∀ y : S416.Idx, (tblE m y).toNat < 32
  token : ∀ (c : Dev nD) (y : S416x1x256.Idx), ((V m c main_arg1 : S416x1x256.Idx → BitVec 32) y).toNat < 24576

/-- The tables as launched satisfy the launch's side condition. -/
theorem ok_of (h : Fits m) : ok0 (tbl m) := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    have hb := h.expert ((Rect.unit (s := S416) ![(Scalar.indexCast (BitVec.ofNat 32 (i 0).val) : Index).toNat] S1.size (k0_off1_inb i)).emb (Shape.Idx.first (numel1_S1.symm ▸ Nat.one_pos)))
    fin_cases a
    · exact (Nat.mul_one _).trans_le (Nat.succ_le_of_lt hb)
    · exact (Nat.one_mul _).le
    · exact (Nat.one_mul _).le

variable (h : Fits m)

/-- The pipeline at the launched tables. -/
def adm : (p : Fin 1) → (pcfgs (F := F) p).Adm := fun _ => ⟨tbl m, ok_of m h⟩
abbrev cfgA : Pipeline.Cfg sig Λ₀ := cfg0 (adm m h 0)

/-- Window `w`'s block at point `t`, read off its array as launched. -/
def iblk (c : Dev nD) (w : Fin (cfgA m h).W) (t : Fin (cfgA m h).N) : (((cfgA m h).win w).xblock ((cfgA m h).grid.coords t)).Idx → Elt F ((cfgA m h).win w).elt :=
  (((cfgA m h).win w).blk t).view.read (Elt F) (V m c (Pipeline.arrRef spec0 w))

/-- A point's place in the grid, as a word. -/
abbrev pt (t : Fin (cfgA m h).N) : grid0.Coords := grid0.coords t

theorem pt_val (t : Fin (cfgA m h).N) : ((pt m h t) 0).val = t.val :=
  (by decide +kernel : ∀ t : Fin grid0.N, ((grid0.coords t) 0).val = t.val) t

theorem pt_lt (t : Fin (cfgA m h).N) : t.val < 416 := lt_of_lt_of_eq t.isLt N_0

/-- Each block of token words, at an index. -/
theorem iblk0_at (c : Dev nD) (t : Fin (cfgA m h).N) (y : S1x1x256.Idx) :
    (iblk m h c 0 t : S1x1x256.Idx → BitVec 32) y = (V m c main_arg1 : S416x1x256.Idx → BitVec 32) (ix3 ⟨t.val, pt_lt m h t⟩ 0 (y 2)) := by
  refine congrArg (V m c main_arg1 : S416x1x256.Idx → BitVec 32) (funext fun a => Fin.ext ?_)
  fin_cases a
  · show (BitVec.ofNat 32 ((grid0.coords t) 0).val).toNat * 1 + 1 * (y 0).val = t.val
    rw [show ((grid0.coords t) 0).val = t.val from pt_val m h t]
    have h0 : (y 0).val < 1 := (y 0).isLt
    have := pt_lt m h t
    rw [BitVec.toNat_ofNat, Nat.mod_eq_of_lt (by omega)]; omega
  · have h0 : (y 1).val < 1 := (y 1).isLt
    show 0 * 1 + 1 * (y 1).val = 0
    omega
  · show 0 * 256 + 1 * (y 2).val = (y 2).val
    omega

/-- The expert a point works for. -/
abbrev ex (t : Fin (cfgA m h).N) : BitVec 32 := eWord (pt m h t) (tblE m)
theorem ex_lt (t : Fin (cfgA m h).N) : (ex m h t).toNat < 32 := h.expert _

/-- Each weight and bias block, at an index: the expert's. -/
theorem iblk1_at (c : Dev nD) (t : Fin (cfgA m h).N) (y : S1x1024x2048.Idx) :
    (iblk m h c 1 t : S1x1024x2048.Idx → F .f32) y = (V m c main_arg4 : S32x1024x2048.Idx → F .f32) (ix3 ⟨(ex m h t).toNat, ex_lt m h t⟩ (y 1) (y 2)) := by
  refine congrArg (V m c main_arg4 : S32x1024x2048.Idx → F .f32) (funext fun a => Fin.ext ?_)
  have h0 : (y 0).val < 1 := (y 0).isLt
  fin_cases a
  · show (ex m h t).toNat * 1 + 1 * (y 0).val = (ex m h t).toNat
    omega
  · show 0 * 1024 + 1 * (y 1).val = (y 1).val
    omega
  · show 0 * 2048 + 1 * (y 2).val = (y 2).val
    omega
theorem iblk2_at (c : Dev nD) (t : Fin (cfgA m h).N) (y : S1x1x2048.Idx) :
    (iblk m h c 2 t : S1x1x2048.Idx → F .f32) y = (V m c main_arg5 : S32x1x2048.Idx → F .f32) (ix3 ⟨(ex m h t).toNat, ex_lt m h t⟩ 0 (y 2)) := by
  refine congrArg (V m c main_arg5 : S32x1x2048.Idx → F .f32) (funext fun a => Fin.ext ?_)
  have h0 : (y 0).val < 1 := (y 0).isLt
  have h1 : (y 1).val < 1 := (y 1).isLt
  fin_cases a
  · show (ex m h t).toNat * 1 + 1 * (y 0).val = (ex m h t).toNat
    omega
  · show 0 * 1 + 1 * (y 1).val = 0
    omega
  · show 0 * 2048 + 1 * (y 2).val = (y 2).val
    omega
theorem iblk3_at (c : Dev nD) (t : Fin (cfgA m h).N) (y : S1x1024x1024.Idx) :
    (iblk m h c 3 t : S1x1024x1024.Idx → F .f32) y = (V m c main_arg6 : S32x1024x1024.Idx → F .f32) (ix3 ⟨(ex m h t).toNat, ex_lt m h t⟩ (y 1) (y 2)) := by
  refine congrArg (V m c main_arg6 : S32x1024x1024.Idx → F .f32) (funext fun a => Fin.ext ?_)
  have h0 : (y 0).val < 1 := (y 0).isLt
  fin_cases a
  · show (ex m h t).toNat * 1 + 1 * (y 0).val = (ex m h t).toNat
    omega
  · show 0 * 1024 + 1 * (y 1).val = (y 1).val
    omega
  · show 0 * 1024 + 1 * (y 2).val = (y 2).val
    omega
theorem iblk4_at (c : Dev nD) (t : Fin (cfgA m h).N) (y : S1x1x1024.Idx) :
    (iblk m h c 4 t : S1x1x1024.Idx → F .f32) y = (V m c main_arg7 : S32x1x1024.Idx → F .f32) (ix3 ⟨(ex m h t).toNat, ex_lt m h t⟩ 0 (y 2)) := by
  refine congrArg (V m c main_arg7 : S32x1x1024.Idx → F .f32) (funext fun a => Fin.ext ?_)
  have h0 : (y 0).val < 1 := (y 0).isLt
  have h1 : (y 1).val < 1 := (y 1).isLt
  fin_cases a
  · show (ex m h t).toNat * 1 + 1 * (y 0).val = (ex m h t).toNat
    omega
  · show 0 * 1 + 1 * (y 1).val = 0
    omega
  · show 0 * 1024 + 1 * (y 2).val = (y 2).val
    omega

/-- Every token word of a block names a row. -/
theorem rows_ok (c : Dev nD) (t : Fin (cfgA m h).N) (k : Fin 256) : RowOK (tokW (iblk m h c 0 t) k) :=
  rowOK_of (lt_of_eq_of_lt (congrArg BitVec.toNat (iblk0_at m h c t (ix3 0 0 k))) (h.token c _))

/-- A point is used: its place is below the count. -/
abbrev Used (t : Fin (cfgA m h).N) : Prop := k0_cond1 (pt m h t) (nWord (tblN m)) = 1#1

theorem ofBool_one (b : Bool) : BitVec.ofBool b = 1#1 ↔ b = true := by cases b <;> decide
theorem ext_ne_zero : ∀ b : BitVec 1, (Scalar.cmpi .ne ((Scalar.extui : BitVec 1 → BitVec 32) b) 0#32 = 1#1) ↔ b = 1#1 := by decide +kernel

/-- The kernel's two conditions on a count: the place is below it, or it is not. -/
theorem cond1_iff (i : grid0.Coords) (w : BitVec 32) : k0_cond1 i w = 1#1 ↔ ((i 0).val : ℤ) < w.toInt := by
  have hi : (i 0).val < 416 := (i 0).isLt
  have e : (BitVec.ofNat 32 (i 0).val).toInt = (i 0).val := by
    rw [BitVec.toInt_eq_toNat_cond, BitVec.toNat_ofNat, Nat.mod_eq_of_lt (by omega)]; split <;> omega
  unfold k0_cond1
  simp only [ext_ne_zero]
  show BitVec.ofBool (BitVec.slt _ _) = 1#1 ↔ _
  rw [ofBool_one, BitVec.slt, decide_eq_true_eq, e]
theorem cond3_iff (i : grid0.Coords) (w : BitVec 32) : k0_cond3 i w = 1#1 ↔ ¬ k0_cond1 i w = 1#1 := by
  rw [cond1_iff]
  have hi : (i 0).val < 416 := (i 0).isLt
  have e : (BitVec.ofNat 32 (i 0).val).toInt = (i 0).val := by
    rw [BitVec.toInt_eq_toNat_cond, BitVec.toNat_ofNat, Nat.mod_eq_of_lt (by omega)]; split <;> omega
  unfold k0_cond3
  simp only [ext_ne_zero]
  show BitVec.ofBool (BitVec.sle _ _) = 1#1 ↔ _
  rw [ofBool_one, BitVec.sle, decide_eq_true_eq, e, not_lt]

theorem idle5 (t : Fin (cfgA m h).N) : (cfgA m h).idle 5 ((cfgA m h).grid.coords t) = false := by
  show (!(k0_cond1 (pt m h t) ((tbl m).atD 1 ![0]) == 1#1) && !(k0_cond3 (pt m h t) ((tbl m).atD 1 ![0]) == 1#1)) = false
  by_cases hc : k0_cond1 (pt m h t) ((tbl m).atD 1 ![0]) = 1#1
  · rw [hc]; rfl
  · rw [(cond3_iff _ _).mpr hc, Bool.and_eq_false_iff]; exact Or.inr rfl

/-- A used point's predecessor is used. -/
theorem used_pred {t t' : Fin (cfgA m h).N} (e : t'.val + 1 = t.val) (hu : Used m h t) : Used m h t' := by
  rw [Used, cond1_iff, pt_val] at hu ⊢
  omega

/-- A point that does not round anew has a predecessor, of the same expert. -/
theorem kept {t : Fin (cfgA m h).N} (hr : ¬ Reload (pt m h t) (eWord (pt m h t) (tblE m)) (ePrev (pt m h t) (tblE m))) :
    ∃ t' : Fin (cfgA m h).N, t'.val + 1 = t.val ∧ ex m h t' = ex m h t := by
  have hlt := pt_lt m h t
  have hv := pt_val m h t
  unfold Reload at hr
  rw [ext_ne_zero] at hr
  have hor : ∀ x y : BitVec 1, ¬ Scalar.ori x y = 1#1 → ¬ x = 1#1 ∧ ¬ y = 1#1 := by decide
  obtain ⟨h1, h2⟩ := hor _ _ hr
  have h0 : t.val ≠ 0 := fun e0 => h1 (by rw [hv, e0]; rfl)
  have he : eWord (pt m h t) (tblE m) = ePrev (pt m h t) (tblE m) := by
    by_contra hne
    refine h2 ?_
    show BitVec.ofBool (_ != _) = 1#1
    rw [ofBool_one, bne_iff_ne]; exact hne
  refine ⟨⟨t.val - 1, lt_of_le_of_lt (Nat.sub_le _ _) t.isLt⟩, by show t.val - 1 + 1 = t.val; omega, ?_⟩
  refine Eq.trans ?_ he.symm
  unfold ex eWord ePrev
  refine congrArg (tblE m) (funext fun a => Fin.ext ?_)
  fin_cases a
  show k0_off5 _ 0 + 1 * 0 = k0_off6 _ 0 + 1 * 0
  have hk : ∀ t : Fin grid0.N, ∀ t' : Fin grid0.N, t'.val + 1 = t.val → k0_off5 (grid0.coords t') 0 = k0_off6 (grid0.coords t) 0 := by
    intro t t' e
    have h5 : ∀ t : Fin grid0.N, k0_off5 (grid0.coords t) 0 = t.val := by decide +kernel
    have h6 : ∀ t : Fin grid0.N, k0_off6 (grid0.coords t) 0 = t.val - 1 := by decide +kernel
    rw [h5, h6]; omega
  rw [hk t ⟨t.val - 1, lt_of_le_of_lt (Nat.sub_le _ _) t.isLt⟩ (by show t.val - 1 + 1 = t.val; omega)]

/-- Equal experts, equal weights. -/
theorem iblk1_congr (c : Dev nD) {t t' : Fin (cfgA m h).N} (e : ex m h t' = ex m h t) :
    (iblk m h c 1 t' : S1x1024x2048.Idx → F .f32) = (iblk m h c 1 t : S1x1024x2048.Idx → F .f32) := funext fun y => by
  refine (iblk1_at m h c t' y).trans (Eq.trans ?_ (iblk1_at m h c t y).symm)
  refine congrArg (V m c main_arg4 : S32x1024x2048.Idx → F .f32) (funext fun a => Fin.ext ?_)
  fin_cases a
  · show (ex m h t').toNat = (ex m h t).toNat
    rw [e]
  · rfl
  · rfl
theorem iblk3_congr (c : Dev nD) {t t' : Fin (cfgA m h).N} (e : ex m h t' = ex m h t) :
    (iblk m h c 3 t' : S1x1024x1024.Idx → F .f32) = (iblk m h c 3 t : S1x1024x1024.Idx → F .f32) := funext fun y => by
  refine (iblk3_at m h c t' y).trans (Eq.trans ?_ (iblk3_at m h c t y).symm)
  refine congrArg (V m c main_arg6 : S32x1024x1024.Idx → F .f32) (funext fun a => Fin.ext ?_)
  fin_cases a
  · show (ex m h t').toNat = (ex m h t).toNat
    rw [e]
  · rfl
  · rfl

open scoped Classical in
/-- What the body leaves in the output's block: the experts' rows on a used point, zeros on any other. -/
def out5 (c : Dev nD) (t : Fin (cfgA m h).N) : FVec F S256x1024 .f32 :=
  if Used m h t then
    usedOut (gath (V m c main_arg0) (iblk m h c 0 t) (rows_ok m h c t)) (k0_pay3 (iblk m h c 1 t)) (iblk m h c 2 t) (k0_pay4 (iblk m h c 3 t)) (iblk m h c 4 t)
  else k0_pay2

end Cert.Kernel2Ideal.Moe

end
-- ==== Proof.MoeIdeal.Frame.lean ====
/-
  The experts kernel's launch: what is held between grid points, the body at a point, and the run of the program from
  any memory whose words are in range.
-/
module

public import proofs.«01_k».proof.Proof.MoeIdeal.Points

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (h : Fits m)

/-! ## What is held between grid points -/

abbrev w1M : Memref sig .tc .vmem S1024x2048 .bf16 := Memref.whole cc0_scratch1
abbrev w2M : Memref sig .tc .vmem S1024x1024 .bf16 := Memref.whole cc0_scratch2
abbrev eM : Memref sig .tc .smem S416 .i32 := Memref.whole main_arg2
abbrev nM : Memref sig .tc .smem S1 .i32 := Memref.whole main_arg3

abbrev osem0 : Fin 1 → SemLoc sig := fun j => (![SemLoc.dma cc0_scratch3.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch3.sem) 0 := by
  rw [Pipeline.ownSems0_eq_of_list c osem0 [0] (by decide) (by decide)]; rfl

/-- The activations stay where they are and the body moves rows from them. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = hAt c (V m c main_arg0) := by
  rw [BI.bigSep_eq_bigSepL_of_eq [main_arg0] (by decide) (by decide)]; rfl

theorem PhiD0_eq (c : Dev nD) :
    (Pipeline.ΦD osem0 spec0 H0 (V m) c : sProp 𝕄)
      = iprop(((∃ f, xAt c f) ∗ (∃ d, owns (c : Thread nD τ) w1M fullShare d) ∗ (∃ d, owns (c : Thread nD τ) w2M fullShare d)) ∗ (∃ r, prngReg c r)
        ∗ semVal ((c : Thread nD τ), SemLoc.dma cc0_scratch3.sem) 0 ∗ hAt c (V m c main_arg0)) := by
  rw [Pipeline.ΦD_eq, scopedRest0_eq, ownSems00_eq, hbmPts0_eq]; simp only [w1M, w2M, owns_whole]; try rfl

/-- The tables, held along half a share. -/
theorem PhiT0_eq (c : Dev nD) :
    (Pipeline.ΦT pre0 (tbl m) c : sProp 𝕄)
      = iprop(owns (c : Thread nD τ) eM fullShare.right (tblE m) ∗ owns (c : Thread nD τ) nM fullShare.right (tblN m)) := by
  simp only [eM, nM, owns_whole]
  unfold Pipeline.ΦT Pipeline.prefHeld
  exact bigSep_univ_eq_bigSepL [(0 : Fin 2), (1 : Fin 2)] (by decide) (by decide) _

/-- The weights kept from the point before, if it was used, are its expert's, rounded. -/
def Kept (c : Dev nD) (n : ℕ) (y11 : FVec F S1024x2048 .bf16) (y12 : FVec F S1024x1024 .bf16) : Prop :=
  ∀ t : Fin (cfgA m h).N, t.val + 1 = n → Used m h t → y11 = k0_pay3 (iblk m h c 1 t) ∧ y12 = k0_pay4 (iblk m h c 3 t)

/-- What is held before point `n`. -/
def inv (c : Dev nD) (n : ℕ) : sProp 𝕄 :=
  iprop((owns (c : Thread nD τ) eM fullShare.right (tblE m) ∗ owns (c : Thread nD τ) nM fullShare.right (tblN m))
    ∗ (∃ f, xAt c f) ∗ (∃ y11, ∃ y12, ⌜Kept m h c n y11 y12⌝ ∗ owns (c : Thread nD τ) w1M fullShare y11 ∗ owns (c : Thread nD τ) w2M fullShare y12)
    ∗ (∃ r, prngReg c r) ∗ semVal ((c : Thread nD τ), SemLoc.dma cc0_scratch3.sem) 0 ∗ hAt c (V m c main_arg0))

/-- The proof data on core `c`: the arrays as launched; each input's block left in place; the output's block as the body
    leaves it; nothing owed. -/
def dats (p : Fin 1) (c : Dev nD) : Dat τ (Elt F) Unit ℕ (Pipeline.UD sig nD τ) ℕ (Pipeline.pin pcfgs (adm m h) p) c where
  A w := V m c (Pipeline.arrRef spec0 w)
  after := fun
    | 0, t => iblk m h c 0 t
    | 1, t => iblk m h c 1 t
    | 2, t => iblk m h c 2 t
    | 3, t => iblk m h c 3 t
    | 4, t => iblk m h c 4 t
    | 5, t => out5 m h c t
    | ⟨_ + 6, hw⟩, _ => absurd hw (Nat.not_lt.2 (Nat.le_add_left _ _))
  Φ t := inv m h c t.val
  q _ := fullShare
  owed _ := 0

theorem A_eq (c : Dev nD) (w : Fin (cfgA m h).W) : (dats m h 0 c).A w = V m c (Pipeline.arrRef spec0 w) := rfl

theorem before0 (c : Dev nD) (t : Fin (cfgA m h).N) (d) : (dats m h 0 c).before 0 t d = iblk m h c 0 t :=
  ((dats m h 0 c).before_in_eq_fetched 0 rfl (fun _ => rfl) (fun _ _ _ => rfl) (fun t => rfl) t d).trans rfl
theorem before1 (c : Dev nD) (t : Fin (cfgA m h).N) (d) : (dats m h 0 c).before 1 t d = iblk m h c 1 t :=
  ((dats m h 0 c).before_in_eq_fetched 1 rfl (fun _ => rfl) (fun _ _ _ => rfl) (fun t => rfl) t d).trans rfl
theorem before2 (c : Dev nD) (t : Fin (cfgA m h).N) (d) : (dats m h 0 c).before 2 t d = iblk m h c 2 t :=
  ((dats m h 0 c).before_in_eq_fetched 2 rfl (fun _ => rfl) (fun _ _ _ => rfl) (fun t => rfl) t d).trans rfl
theorem before3 (c : Dev nD) (t : Fin (cfgA m h).N) (d) : (dats m h 0 c).before 3 t d = iblk m h c 3 t :=
  ((dats m h 0 c).before_in_eq_fetched 3 rfl (fun _ => rfl) (fun _ _ _ => rfl) (fun t => rfl) t d).trans rfl
theorem before4 (c : Dev nD) (t : Fin (cfgA m h).N) (d) : (dats m h 0 c).before 4 t d = iblk m h c 4 t :=
  ((dats m h 0 c).before_in_eq_fetched 4 rfl (fun _ => rfl) (fun _ _ _ => rfl) (fun t => rfl) t d).trans rfl

/-! ## The body at a point -/

abbrev stg (t : Fin (cfgA m h).N) (w : Fin 6) := ((cfgA m h).win w).stage ((cfgA m h).slots t w)

/-- The body the pipeline calls at a point. -/
abbrev bodyAt (t : Fin (cfgA m h).N) :=
  cc0_moe_experts (F := F) (pt m h t) eM (Memref.isWhole_whole _) nM (Memref.isWhole_whole _)
    (stg m h t 0) (hstage0_0 (((cfgA m h).slots t 0).cast nbuf0_0)) hM (Memref.isWhole_whole _)
    (stg m h t 1) (hstage0_1 (((cfgA m h).slots t 1).cast nbuf0_1)) (stg m h t 2) (hstage0_2 (((cfgA m h).slots t 2).cast nbuf0_2))
    (stg m h t 3) (hstage0_3 (((cfgA m h).slots t 3).cast nbuf0_3)) (stg m h t 4) (hstage0_4 (((cfgA m h).slots t 4).cast nbuf0_4))
    (stg m h t 5) (hstage0_5 (((cfgA m h).slots t 5).cast nbuf0_5)) xM (Memref.isWhole_whole _) w1M (Memref.isWhole_whole _) w2M (Memref.isWhole_whole _) cc0_scratch3

theorem defs₀_row (t : Fin (cfgA m h).N) :
    defs₀ (F := F) .tc (cfgA m h).body ((cfgA m h).bodyArgs t ((cfgA m h).slots t)) = bodyAt m h t := by
  unfold defs₀; rw [Defs.onTc_tc]

def bodyPre (c : Dev nD) (t : Fin (cfgA m h).N) : sProp 𝕄 :=
  iprop((dats m h 0 c).Φ t.castSucc ∗ (dats m h 0 c).owesAt () t.castSucc
    ∗ (∃ d, owns (c : Thread nD τ) (stg m h t 0) fullShare ((dats m h 0 c).before 0 t d))
    ∗ (∃ d, owns (c : Thread nD τ) (stg m h t 1) fullShare ((dats m h 0 c).before 1 t d))
    ∗ (∃ d, owns (c : Thread nD τ) (stg m h t 2) fullShare ((dats m h 0 c).before 2 t d))
    ∗ (∃ d, owns (c : Thread nD τ) (stg m h t 3) fullShare ((dats m h 0 c).before 3 t d))
    ∗ (∃ d, owns (c : Thread nD τ) (stg m h t 4) fullShare ((dats m h 0 c).before 4 t d))
    ∗ (∃ d, owns (c : Thread nD τ) (stg m h t 5) fullShare ((dats m h 0 c).before 5 t d)))

def bodyPost (c : Dev nD) (t : Fin (cfgA m h).N) : sProp 𝕄 :=
  iprop((dats m h 0 c).Φ t.succ ∗ (dats m h 0 c).owesAt () t.succ
    ∗ owns (c : Thread nD τ) (stg m h t 0) fullShare (iblk m h c 0 t)
    ∗ owns (c : Thread nD τ) (stg m h t 1) fullShare (iblk m h c 1 t)
    ∗ owns (c : Thread nD τ) (stg m h t 2) fullShare (iblk m h c 2 t)
    ∗ owns (c : Thread nD τ) (stg m h t 3) fullShare (iblk m h c 3 t)
    ∗ owns (c : Thread nD τ) (stg m h t 4) fullShare (iblk m h c 4 t)
    ∗ owns (c : Thread nD τ) (stg m h t 5) fullShare (out5 m h c t))

/-- The body on a used point. -/
theorem sound_used (c : Dev nD) (t : Fin (cfgA m h).N) (hu : Used m h t) :
    bodyPre m h c t ⊢ wp frame (wpE (defs₀ (F := F)) Variants.none (c : Thread nD τ) none) Set.univ (bodyAt m h t) (fun _ => bodyPost m h c t) := by
  unfold bodyPre bodyPost
  rw [show (dats m h 0 c).Φ t.castSucc = inv m h c t.val from rfl, show (dats m h 0 c).Φ t.succ = inv m h c (t.val + 1) from rfl]
  unfold inv Dat.owesAt Pipeline.owesWithin
  rw [show (dats m h 0 c).owed t.castSucc = 0 from rfl, show (dats m h 0 c).owed t.succ = 0 from rfl]
  simp only [before0, before1, before2, before3, before4]
  rw [show out5 m h c t = usedOut (gath (V m c main_arg0) (iblk m h c 0 t) (rows_ok m h c t)) (k0_pay3 (iblk m h c 1 t)) (iblk m h c 2 t) (k0_pay4 (iblk m h c 3 t)) (iblk m h c 4 t) from if_pos hu]
  iintro ⟨⟨⟨He, Hn⟩, Hx, ⟨%y11, %y12, %hk, H11, H12⟩, Hg, Hs, Hh⟩, ⟨%W, %hW, HO⟩, ⟨%d0, H0⟩, ⟨%d1, H1⟩, ⟨%d2, H2⟩, ⟨%d3, H3⟩, ⟨%d4, H4⟩, ⟨%d5, H5⟩⟩
  have hre : ¬ Reload (pt m h t) (eWord (pt m h t) (tblE m)) (ePrev (pt m h t) (tblE m)) → y11 = k0_pay3 (iblk m h c 1 t) ∧ y12 = k0_pay4 (iblk m h c 3 t) := fun hr => by
    obtain ⟨t', e, ee⟩ := kept m h hr
    obtain ⟨e1, e2⟩ := hk t' e (used_pred m h e hu)
    exact ⟨e1.trans (congrArg k0_pay3 (iblk1_congr m h c ee)), e2.trans (congrArg k0_pay4 (iblk3_congr m h c ee))⟩
  have hrun := used_run c (pt m h t) eM (Memref.isWhole_whole _) nM (Memref.isWhole_whole _)
    (stg m h t 0) (hstage0_0 (((cfgA m h).slots t 0).cast nbuf0_0)) (Memref.isWhole_whole _)
    (stg m h t 1) (hstage0_1 (((cfgA m h).slots t 1).cast nbuf0_1)) (stg m h t 2) (hstage0_2 (((cfgA m h).slots t 2).cast nbuf0_2))
    (stg m h t 3) (hstage0_3 (((cfgA m h).slots t 3).cast nbuf0_3)) (stg m h t 4) (hstage0_4 (((cfgA m h).slots t 4).cast nbuf0_4))
    (stg m h t 5) (hstage0_5 (((cfgA m h).slots t 5).cast nbuf0_5)) (Memref.isWhole_whole _) w1M (Memref.isWhole_whole _) w2M (Memref.isWhole_whole _)
    (tblE m) (tblN m) (iblk m h c 0 t) (V m c main_arg0) fullShare.right fullShare.right (iblk m h c 1 t) (iblk m h c 2 t) (iblk m h c 3 t) (iblk m h c 4 t)
    ((dats m h 0 c).before 5 t d5) y11 y12 (rows_ok m h c t) hu (fun h3 => (cond3_iff _ _).mp h3 hu) hre W
  ihave Hw := hrun $$ [He Hn H0 Hh H1 H2 H3 H4 H5 Hx H11 H12 Hs HO]
  · isplitl [He]; · iexact He
    isplitl [Hn]; · iexact Hn
    isplitl [H0]; · iexact H0
    isplitl [Hh]; · iexact Hh
    isplitl [H1]; · iexact H1
    isplitl [H2]; · iexact H2
    isplitl [H3]; · iexact H3
    isplitl [H4]; · iexact H4
    isplitl [H5]; · iexact H5
    isplitl [Hx]; · iexact Hx
    isplitl [H11]; · iexact H11
    isplitl [H12]; · iexact H12
    isplitl [Hs]; · iexact Hs
    iexact HO
  iapply wp_wand $$ [Hw]
  · iexact Hw
  iintro %_ ⟨He, Hn, H0, Hh, H1, H2, H3, H4, H5, Hx, H11, H12, Hs, ⟨%W', HO⟩⟩
  isplitl [He Hn Hx H11 H12 Hg Hs Hh]
  · isplitl [He Hn]
    · isplitl [He]; · iexact He
      iexact Hn
    isplitl [Hx]; · iexact Hx
    isplitl [H11 H12]
    · iexists _, _
      isplitr; swap
      · isplitl [H11]; · iexact H11
        iexact H12
      ipureintro
      intro t' e _
      have : t' = t := Fin.ext (Nat.succ_injective e)
      subst this
      exact ⟨rfl, rfl⟩
    isplitl [Hg]; · iexact Hg
    isplitl [Hs]; · iexact Hs
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-- The body on a point that is not used. -/
theorem sound_unused (c : Dev nD) (t : Fin (cfgA m h).N) (hu : ¬ Used m h t) :
    bodyPre m h c t ⊢ wp frame (wpE (defs₀ (F := F)) Variants.none (c : Thread nD τ) none) Set.univ (bodyAt m h t) (fun _ => bodyPost m h c t) := by
  unfold bodyPre bodyPost
  rw [show (dats m h 0 c).Φ t.castSucc = inv m h c t.val from rfl, show (dats m h 0 c).Φ t.succ = inv m h c (t.val + 1) from rfl]
  unfold inv Dat.owesAt Pipeline.owesWithin
  rw [show (dats m h 0 c).owed t.castSucc = 0 from rfl, show (dats m h 0 c).owed t.succ = 0 from rfl]
  simp only [before0, before1, before2, before3, before4]
  rw [show out5 m h c t = k0_pay2 from if_neg hu]
  iintro ⟨⟨⟨He, Hn⟩, Hx, ⟨%y11, %y12, %hk, H11, H12⟩, Hg, Hs, Hh⟩, ⟨%W, %hW, HO⟩, ⟨%d0, H0⟩, ⟨%d1, H1⟩, ⟨%d2, H2⟩, ⟨%d3, H3⟩, ⟨%d4, H4⟩, ⟨%d5, H5⟩⟩
  have hrun := unused_run c (pt m h t) eM (Memref.isWhole_whole _) nM (Memref.isWhole_whole _)
    (stg m h t 0) (hstage0_0 (((cfgA m h).slots t 0).cast nbuf0_0)) (Memref.isWhole_whole _)
    (stg m h t 1) (hstage0_1 (((cfgA m h).slots t 1).cast nbuf0_1)) (stg m h t 2) (hstage0_2 (((cfgA m h).slots t 2).cast nbuf0_2))
    (stg m h t 3) (hstage0_3 (((cfgA m h).slots t 3).cast nbuf0_3)) (stg m h t 4) (hstage0_4 (((cfgA m h).slots t 4).cast nbuf0_4))
    (stg m h t 5) (hstage0_5 (((cfgA m h).slots t 5).cast nbuf0_5)) (Memref.isWhole_whole _) w1M (Memref.isWhole_whole _) w2M (Memref.isWhole_whole _)
    (tblN m) fullShare.right ((dats m h 0 c).before 5 t d5) hu ((cond3_iff _ _).mpr hu)
  ihave Hw := hrun $$ [Hn H5]
  · isplitl [Hn]; · iexact Hn
    iexact H5
  iapply wp_wand $$ [Hw]
  · iexact Hw
  iintro %_ ⟨Hn, H5⟩
  isplitl [He Hn Hx H11 H12 Hg Hs Hh]
  · isplitl [He Hn]
    · isplitl [He]; · iexact He
      iexact Hn
    isplitl [Hx]; · iexact Hx
    isplitl [H11 H12]
    · iexists _, _
      isplitr; swap
      · isplitl [H11]; · iexact H11
        iexact H12
      ipureintro
      intro t' e hu'
      have : t' = t := Fin.ext (Nat.succ_injective e)
      subst this
      exact absurd hu' hu
    isplitl [Hg]; · iexact Hg
    isplitl [Hs]; · iexact Hs
    iexact Hh
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

theorem sound_body (c : Dev nD) (t : Fin (cfgA m h).N) :
    bodyPre m h c t ⊢ wp frame (wpE (defs₀ (F := F)) Variants.none (c : Thread nD τ) none) Set.univ (bodyAt m h t) (fun _ => bodyPost m h c t) := by
  by_cases hu : Used m h t
  · exact sound_used m h c t hu
  · exact sound_unused m h c t hu

/-- The body obligation: the two triples, with no point idle. -/
theorem body_obligation (c : Dev nD) :
    BodyObligation (dats m h 0 c) (defs₀ (F := F)) Variants.none () Set.univ := fun t => by
  rw [bigSep_W0, bigSep_W0, defs₀_row, idle5]
  exact triple_restated (sound_body m h c t) rfl .rfl fun _ => .rfl

/-! ## The launch -/

set_option backward.isDefEq.respectTransparency.types false in
/-- From any memory whose words are in range, every execution ends with the arrays as the pipeline leaves them, every other
    buffer as launched and every counter at zero. -/
theorem run_main :
    θ_run defs (onTc (τ := τ) (main (F := F))) (s₀ m ρ)
      (fun r => Pipeline.FramePost (Pipeline.pin pcfgs (adm m h)) (dats m h) 0 (V m) r ∧ r.2.sem = fun _ => 0) :=
  Pipeline.θ_run_frameP_dma (Q' := _) pcfgs (adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m)
    (hmain := Pipeline.hmainP_region pcfgs 0 defs₀ Variants.none m main fun c => (main_chain c).trans rfl) (hA := A_eq m h)
    (hpf := fun c k => by obtain rfl : c = 0 := Subsingleton.elim _ _; rfl)
    (hin := fun c => by
      rw [PhiD0_eq]
      refine (sep_mono .rfl (BIBase.Entails.of_eq (PhiT0_eq m c))).trans ?_
      show _ ⊢ inv m h c 0
      unfold inv
      iintro ⟨⟨⟨Hx, ⟨%d1, H1⟩, ⟨%d2, H2⟩⟩, Hg, Hs, Hh⟩, Ht⟩
      isplitl [Ht]; · iexact Ht
      isplitl [Hx]; · iexact Hx
      isplitl [H1 H2]
      · iexists _, _
        isplitr; swap
        · isplitl [H1]; · iexact H1
          iexact H2
        ipureintro
        exact fun t e => absurd e (Nat.succ_ne_zero _)
      isplitl [Hg]; · iexact Hg
      isplitl [Hs]; · iexact Hs
      iexact Hh)
    (hout := fun c => by
      rw [PhiD0_eq]
      show inv m h c _ ⊢ _
      unfold inv
      iintro ⟨Ht, Hx, ⟨%d1, %d2, %hk, H1, H2⟩, Hg, Hs, Hh⟩
      isplitl [Hx H1 H2]
      · isplitl [Hx]; · iexact Hx
        isplitl [H1]; · iexists _; iexact H1
        iexists _; iexact H2
      isplitl [Hg]; · iexact Hg
      isplitl [Hs]; · iexact Hs
      iexact Hh)

/-- Each argument after the run is as launched. -/
theorem args_of {r : PUnit × MemSt nD τ sig (Elt F)}
    (hr : Pipeline.FramePost (Pipeline.pin pcfgs (adm m h)) (dats m h) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨(hr c).2 main_arg0 (Pipeline.mem_restRefs_of main_arg0 (by decide) (by decide : ∀ w : Fin 6, (spec0 w).arr.view.ref ≠ main_arg0)),
    ((hr c).1 0).trans (((dats m h 0 c).arrAt_in 0 rfl _).trans (A_eq m h c 0)),
    (hr c).2 main_arg2 (Pipeline.mem_restRefs_of main_arg2 (by decide) (by decide : ∀ w : Fin 6, (spec0 w).arr.view.ref ≠ main_arg2)),
    (hr c).2 main_arg3 (Pipeline.mem_restRefs_of main_arg3 (by decide) (by decide : ∀ w : Fin 6, (spec0 w).arr.view.ref ≠ main_arg3)),
    ((hr c).1 1).trans (((dats m h 0 c).arrAt_in 1 rfl _).trans (A_eq m h c 1)),
    ((hr c).1 2).trans (((dats m h 0 c).arrAt_in 2 rfl _).trans (A_eq m h c 2)),
    ((hr c).1 3).trans (((dats m h 0 c).arrAt_in 3 rfl _).trans (A_eq m h c 3)),
    ((hr c).1 4).trans (((dats m h 0 c).arrAt_in 4 rfl _).trans (A_eq m h c 4))⟩

end Cert.Kernel2Ideal.Moe

end
-- ==== Proof.MoeIdeal.Take.lean ====
/- Reading a gather along the first axis at an index: rows of a matrix picked by a table of row numbers, and matrices of a
   stack picked by a column of numbers, where every number is in range; and the two words a reference forms around such a
   gather (a negative number counted from the end, a signed reading), which change nothing for a number in range. -/
module

public import Idealize.ShloMosaic.Lib.Pipeline.ValueKit
public import Idealize.ShloMosaic.Lib.Pointwise

@[expose] public section

noncomputable section

open Idealize.ShloMosaic

namespace Cert.Take

variable {α : Type}

/-- A word below `2 ^ 31` is not negative. -/
theorem slt_zero {w : BitVec 32} (h : w.toNat < 2147483648) : IntOp.cmpi .slt w 0#32 = 0#1 := by
  have e : w.slt 0#32 = false := by
    rw [BitVec.slt_eq_decide, BitVec.toInt_eq_toNat_of_lt (by omega)]
    exact decide_eq_false (by show ¬ ((w.toNat : ℤ) < 0); omega)
  show BitVec.ofBool (w.slt 0#32) = 0#1
  rw [e]; rfl

/-- The number counted from the end when negative is the number itself when it is not. -/
theorem wrapped {w : BitVec 32} (n : BitVec 32) (h : w.toNat < 2147483648) :
    Scalar.select (IntOp.cmpi .slt w 0#32) (IntOp.addi w n) w = w := by
  rw [slt_zero h]; rfl

/-- A word below `n` read signed and clamped below `n` is itself. -/
theorem clamped {w : BitVec 32} {n : Nat} (hn : n < 2147483648) (h : w.toNat < n) : min w.toInt.toNat (n - 1) = w.toNat := by
  rw [BitVec.toInt_eq_toNat_of_lt (by omega), Int.toNat_natCast]; omega

/-- The rows of an `[N, C]` matrix by an `[R, T, 1]` table of row numbers: entry `(r, t, l)` is column `l` of row
    `idx[r, t]`. -/
theorem rows_at {N C R T : Nat}
    (wf : GatherDims.WF ⟨2, ![N, C]⟩ ⟨3, ![R, T, 1]⟩ ⟨3, ![R, T, C]⟩ [2] [0] [] [0] [] 2 ![1, C])
    (x : (⟨2, ![N, C]⟩ : Shape).Idx → α) (idx : IVec ⟨3, ![R, T, 1]⟩ 32) (r : Fin R) (t : Fin T) (l : Fin C) (k : Fin N)
    (hk : min (idx (ix3 r t (0 : Fin 1))).toInt.toNat (N - 1) = k.val) :
    Host.gather (⟨[2], [0], [], [], [0], 2, ![1, C], wf⟩ : GatherDims ⟨2, ![N, C]⟩ ⟨3, ![R, T, 1]⟩ ⟨3, ![R, T, C]⟩) x idx (ix3 r t l)
      = x (ix2 k l) := by
  unfold Host.gather
  refine congrArg x (funext fun a => Fin.ext ?_)
  match a with
  | ⟨0, _⟩ =>
    refine Eq.trans (congrArg (fun n => n + 0 + 0) ?_) hk
    refine congrArg (fun z => min (idx z).toInt.toNat (N - 1)) (funext fun b => Fin.ext ?_)
    match b with
    | ⟨0, _⟩ => rfl
    | ⟨1, _⟩ => rfl
    | ⟨2, _⟩ => rfl
  | ⟨1, _⟩ => exact Nat.zero_add _

/-- The matrices of an `[N, A, B]` stack by an `[R, 1]` column of numbers: entry `(r, a, b)` is entry `(a, b)` of matrix
    `idx[r]`. -/
theorem mats_at {N A B R : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B) (k : Fin N)
    (hk : min (idx (ix2 r (0 : Fin 1))).toInt.toNat (N - 1) = k.val) :
    Host.gather (⟨[1, 2], [0], [], [], [0], 1, ![1, A, B], wf⟩ : GatherDims ⟨3, ![N, A, B]⟩ ⟨2, ![R, 1]⟩ ⟨3, ![R, A, B]⟩) x idx (ix3 r a b)
      = x (ix3 k a b) := by
  unfold Host.gather
  refine congrArg x (funext fun d => Fin.ext ?_)
  match d with
  | ⟨0, _⟩ =>
    refine Eq.trans (congrArg (fun n => n + 0 + 0) ?_) hk
    refine congrArg (fun z => min (idx z).toInt.toNat (N - 1)) (funext fun e => Fin.ext ?_)
    match e with
    | ⟨0, _⟩ => rfl
    | ⟨1, _⟩ => rfl
  | ⟨1, _⟩ => exact Nat.zero_add _
  | ⟨2, _⟩ => exact Nat.zero_add _

end Cert.Take

end
-- ==== Proof.MoeIdeal.Expert.lean ====
/- The arithmetic of ONE TOKEN in ONE EXPERT over the extended reals: the first layer's sums, the clamped gate and linear
   halves, the swish of the gate times the linear half plus one, and the second layer's sums. Both programs' results are
   read in these words. -/
module

public import Idealize.ShloMosaic.Lib.Pipeline.ValueKit
public import Idealize.ShloMosaic.Lib.Pointwise

@[expose] public section

noncomputable section

open Idealize.ShloMosaic

namespace Cert.Expert

/-- The first layer: a token's row `x` against the columns of `w`, plus the bias. -/
def hidden (x : Fin 1024 → EReal) (w : Fin 1024 → Fin 2048 → EReal) (b : Fin 2048 → EReal) (e : Fin 2048) : EReal :=
  (∑ k : Fin 1024, x k * w k e) + b e

/-- The gate: the first half of the hidden row, at most 7. -/
def gate (h : Fin 2048 → EReal) (d : Fin 1024) : EReal :=
  min (h ⟨d.val, by omega⟩) (Ideal.ofBits .f32 0x40E00000#32)

/-- The linear part: the second half of the hidden row, between −7 and 7. -/
def lin (h : Fin 2048 → EReal) (d : Fin 1024) : EReal :=
  min (Ideal.ofBits .f32 0x40E00000#32) (max (Ideal.ofBits .f32 0xC0E00000#32) (h ⟨1024 + d.val, by omega⟩))

/-- The activation: the gate times the logistic of its 1.702-fold, times the linear part plus one. -/
def act (h : Fin 2048 → EReal) (d : Fin 1024) : EReal :=
  gate h d * Ideal.logistic (Ideal.ofBits .f32 0x3FD9DB23#32 * gate h d) * (lin h d + 1)

/-- The second layer: the activations against the columns of `w`, plus the bias. -/
def out (a : Fin 1024 → EReal) (w : Fin 1024 → Fin 1024 → EReal) (b : Fin 1024 → EReal) (l : Fin 1024) : EReal :=
  (∑ d : Fin 1024, a d * w d l) + b l

/-- A token's row through an expert. -/
def row (x : Fin 1024 → EReal) (w1 : Fin 1024 → Fin 2048 → EReal) (b1 : Fin 2048 → EReal) (w2 : Fin 1024 → Fin 1024 → EReal)
    (b2 : Fin 1024 → EReal) : Fin 1024 → EReal :=
  out (act (hidden x w1 b1)) w2 b2

end Cert.Expert

end
-- ==== Proof.MoeIdeal.Reference.lean ====
/- The experts' REFERENCE, read at an index: the stages of its composed term (tokens picked, expert weights picked, the two
   layers, the unused blocks zeroed), each as a function of the stage before, and the result's element as one token's row
   through its block's expert, where the token and expert numbers are in range. -/
module

public import proofs.«01_k».proof.Proof.Gen.Reference2Ideal.Run
public import proofs.«01_k».proof.Proof.MoeIdeal.Take
public import proofs.«01_k».proof.Proof.MoeIdeal.Expert

@[expose] public section

set_option maxRecDepth 16384

noncomputable section

open Idealize.ShloMosaic Idealize.ShloMosaic.TcCoe Idealize.SL.Sem

namespace Cert.Reference2Ideal.Value
open Cert.Reference2Ideal Cert.Reference2Ideal.Gen

/-- The token numbers, counted from the end where negative. -/
def tokens (T : IVec S416x1x256 32) : IVec S416x256x1 32 :=
  broadcastInDim S416x256x1 ![0, 1] bcast_S416x256_S416x256x1_0_1 (select (cmpi .slt (shapeCast _ T shapeCasts_S416x1x256_S416x256) (broadcastInDim S416x256 ![] bcast_S_S416x256 (constantI S_ 32 0#32))) (addi (shapeCast _ T shapeCasts_S416x1x256_S416x256) (broadcastInDim S416x256 ![] bcast_S_S416x256 (constantI S_ 32 24576#32))) (shapeCast _ T shapeCasts_S416x1x256_S416x256))

/-- The expert numbers, counted from the end where negative. -/
def experts (E : IVec S416 32) : IVec S416x1 32 :=
  broadcastInDim S416x1 ![0] bcast_S416_S416x1_0 (select (cmpi .slt E (broadcastInDim S416 ![] bcast_S_S416 (constantI S_ 32 0#32))) (addi E (broadcastInDim S416 ![] bcast_S_S416 (constantI S_ 32 32#32))) E)

/-- The picked rows. -/
def picked (H : FVec Ideal S24576x1024 .f32) (I : IVec S416x256x1 32) : FVec Ideal S416x256x1024 .f32 :=
  Host.gather gather_S24576x1024_S416x256x1_S416x256x1024_2_0_n_n_0_2_11024 H I

/-- The first layers' weights, one matrix per block. -/
def weights1 (W : FVec Ideal S32x1024x2048 .f32) (J : IVec S416x1 32) : FVec Ideal S416x1024x2048 .f32 :=
  Host.gather gather_S32x1024x2048_S416x1_S416x1024x2048_12_0_n_n_0_1_110242048 W J

/-- The first layers' biases, one row per block. -/
def biases1 (B : FVec Ideal S32x1x2048 .f32) (J : IVec S416x1 32) : FVec Ideal S416x1x2048 .f32 :=
  Host.gather gather_S32x1x2048_S416x1_S416x1x2048_12_0_n_n_0_1_112048 B J

/-- The second layers' weights, one matrix per block. -/
def weights2 (W : FVec Ideal S32x1024x1024 .f32) (J : IVec S416x1 32) : FVec Ideal S416x1024x1024 .f32 :=
  Host.gather gather_S32x1024x1024_S416x1_S416x1024x1024_12_0_n_n_0_1_110241024 W J

/-- The second layers' biases, one row per block. -/
def biases2 (B : FVec Ideal S32x1x1024 .f32) (J : IVec S416x1 32) : FVec Ideal S416x1x1024 .f32 :=
  Host.gather gather_S32x1x1024_S416x1_S416x1x1024_12_0_n_n_0_1_111024 B J

/-- The hidden rows. -/
def hiddens (X : FVec Ideal S416x256x1024 .f32) (W : FVec Ideal S416x1024x2048 .f32) (B : FVec Ideal S416x1x2048 .f32) :
    FVec Ideal S416x256x2048 .f32 :=
  addf (Host.dotGeneral dot_S416x256x1024_S416x1024x2048_S416x256x2048_2_1_1_2_0_0 none X W) (broadcastInDim S416x256x2048 ![0, 1, 2] bcast_S416x1x2048_S416x256x2048_0_1_2 B)

/-- The gates. -/
def gates (Y : FVec Ideal S416x256x2048 .f32) : FVec Ideal S416x256x1024 .f32 :=
  minimumf (extractStridedSlice S416x256x1024 ![0, 0, 0] Y slices_S416x256x2048_S416x256x1024_0_0_0) (broadcastInDim S416x256x1024 ![] bcast_S_S416x256x1024 (constant S_ .f32 0x40E00000#32))

/-- The linear parts. -/
def lins (Y : FVec Ideal S416x256x2048 .f32) : FVec Ideal S416x256x1024 .f32 :=
  minimumf (broadcastInDim S416x256x1024 ![] bcast_S_S416x256x1024 (id (constant S_ .f32 0x40E00000#32))) (maximumf (broadcastInDim S416x256x1024 ![] bcast_S_S416x256x1024 (id (constant S_ .f32 0xC0E00000#32))) (extractStridedSlice S416x256x1024 ![0, 0, 1024] Y slices_S416x256x2048_S416x256x1024_0_0_1024))

/-- The activations. -/
def acts (G L : FVec Ideal S416x256x1024 .f32) : FVec Ideal S416x256x1024 .f32 :=
  mulf (mulf G (Host.divf (broadcastInDim S416x256x1024 ![] bcast_S_S416x256x1024 (constant S_ .f32 0x3F800000#32)) (addf (broadcastInDim S416x256x1024 ![] bcast_S_S416x256x1024 (constant S_ .f32 0x3F800000#32)) (Host.exp (Host.negf (mulf (broadcastInDim S416x256x1024 ![] bcast_S_S416x256x1024 (constant S_ .f32 0x3FD9DB23#32)) G)))))) (addf L (broadcastInDim S416x256x1024 ![] bcast_S_S416x256x1024 (constant S_ .f32 0x3F800000#32)))

/-- The experts' output rows. -/
def outs (A : FVec Ideal S416x256x1024 .f32) (W : FVec Ideal S416x1024x1024 .f32) (B : FVec Ideal S416x1x1024 .f32) :
    FVec Ideal S416x256x1024 .f32 :=
  addf (Host.dotGeneral dot_S416x256x1024_S416x1024x1024_S416x256x1024_2_1_1_2_0_0 none A W) (broadcastInDim S416x256x1024 ![0, 1, 2] bcast_S416x1x1024_S416x256x1024_0_1_2 B)

/-- The output rows with the unused blocks' zeroed. -/
def masked (N : IVec S1 32) (Y : FVec Ideal S416x256x1024 .f32) : FVec Ideal S106496x1024 .f32 :=
  shapeCast _ (select (broadcastInDim S416x256x1024 ![0, 1, 2] bcast_S416x1x1_S416x256x1024_0_1_2 (broadcastInDim S416x1x1 ![0] bcast_S416_S416x1x1_0 (cmpi .slt (iotaInDim S416 32 0) (broadcastInDim S416 ![] bcast_S_S416 (shapeCast _ N shapeCasts_S1_S_))))) Y (broadcastInDim S416x256x1024 ![] bcast_S_S416x256x1024 (id (constant S_ .f32 0x00000000#32)))) shapeCasts_S416x256x1024_S106496x1024

/-- The hidden rows of the arguments. -/
def HID (H : FVec Ideal S24576x1024 .f32) (T : IVec S416x1x256 32) (E : IVec S416 32) (W1 : FVec Ideal S32x1024x2048 .f32)
    (B1 : FVec Ideal S32x1x2048 .f32) : FVec Ideal S416x256x2048 .f32 :=
  hiddens (picked H (tokens T)) (weights1 W1 (experts E)) (biases1 B1 (experts E))

/-- The whole reference. -/
def REF (H : FVec Ideal S24576x1024 .f32) (T : IVec S416x1x256 32) (E : IVec S416 32) (N : IVec S1 32)
    (W1 : FVec Ideal S32x1024x2048 .f32) (B1 : FVec Ideal S32x1x2048 .f32) (W2 : FVec Ideal S32x1024x1024 .f32)
    (B2 : FVec Ideal S32x1x1024 .f32) : FVec Ideal S106496x1024 .f32 :=
  masked N (outs (acts (gates (HID H T E W1 B1)) (lins (HID H T E W1 B1))) (weights2 W2 (experts E)) (biases2 B2 (experts E)))

/-- The generated result term is `REF` of the arguments. -/
theorem res_eq (m : (ℓ : Loc nD τ sig) → Buf (Elt Ideal) ℓ) (c : Dev nD) :
    res_main_v65 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

theorem tokens_at (T : IVec S416x1x256 32) (b : Fin 416) (i : Fin 256) (h : (T (ix3 b (0 : Fin 1) i)).toNat < 24576) :
    tokens T (ix3 b i (0 : Fin 1)) = T (ix3 b (0 : Fin 1) i) := by
  refine Eq.trans ?_ (Cert.Take.wrapped 24576#32 (by omega : (T (ix3 b (0 : Fin 1) i)).toNat < 2147483648))
  pointwise [tokens]

theorem experts_at (E : IVec S416 32) (b : Fin 416) (h : (E (ix1 b)).toNat < 32) :
    experts E (ix2 b (0 : Fin 1)) = E (ix1 b) := by
  refine Eq.trans ?_ (Cert.Take.wrapped 32#32 (by omega : (E (ix1 b)).toNat < 2147483648))
  pointwise [experts]

theorem picked_at (H : FVec Ideal S24576x1024 .f32) (T : IVec S416x1x256 32) (b : Fin 416) (i : Fin 256) (k : Fin 1024)
    (h : (T (ix3 b (0 : Fin 1) i)).toNat < 24576) :
    picked H (tokens T) (ix3 b i k) = H (ix2 ⟨(T (ix3 b (0 : Fin 1) i)).toNat, h⟩ k) :=
  Cert.Take.rows_at gather_S24576x1024_S416x256x1_S416x256x1024_2_0_n_n_0_2_11024_wf H (tokens T) b i k ⟨_, h⟩
    (by rw [tokens_at T b i h]; exact Cert.Take.clamped (by norm_num) h)

section Picked
variable (E : IVec S416 32) (b : Fin 416) (h : (E (ix1 b)).toNat < 32)
include h

theorem expert_number : min ((experts E) (ix2 b (0 : Fin 1))).toInt.toNat (32 - 1) = (E (ix1 b)).toNat := by
  rw [experts_at E b h]; exact Cert.Take.clamped (by norm_num) h

theorem weights1_at (W : FVec Ideal S32x1024x2048 .f32) (k : Fin 1024) (e : Fin 2048) :
    weights1 W (experts E) (ix3 b k e) = W (ix3 ⟨(E (ix1 b)).toNat, h⟩ k e) :=
  Cert.Take.mats_at gather_S32x1024x2048_S416x1_S416x1024x2048_12_0_n_n_0_1_110242048_wf W (experts E) b k e ⟨_, h⟩ (expert_number E b h)

theorem biases1_at (B : FVec Ideal S32x1x2048 .f32) (e : Fin 2048) :
    biases1 B (experts E) (ix3 b (0 : Fin 1) e) = B (ix3 ⟨(E (ix1 b)).toNat, h⟩ (0 : Fin 1) e) :=
  Cert.Take.mats_at gather_S32x1x2048_S416x1_S416x1x2048_12_0_n_n_0_1_112048_wf B (experts E) b 0 e ⟨_, h⟩ (expert_number E b h)

theorem weights2_at (W : FVec Ideal S32x1024x1024 .f32) (k : Fin 1024) (e : Fin 1024) :
    weights2 W (experts E) (ix3 b k e) = W (ix3 ⟨(E (ix1 b)).toNat, h⟩ k e) :=
  Cert.Take.mats_at gather_S32x1024x1024_S416x1_S416x1024x1024_12_0_n_n_0_1_110241024_wf W (experts E) b k e ⟨_, h⟩ (expert_number E b h)

theorem biases2_at (B : FVec Ideal S32x1x1024 .f32) (e : Fin 1024) :
    biases2 B (experts E) (ix3 b (0 : Fin 1) e) = B (ix3 ⟨(E (ix1 b)).toNat, h⟩ (0 : Fin 1) e) :=
  Cert.Take.mats_at gather_S32x1x1024_S416x1_S416x1x1024_12_0_n_n_0_1_111024_wf B (experts E) b 0 e ⟨_, h⟩ (expert_number E b h)

end Picked

theorem hiddens_at (X : FVec Ideal S416x256x1024 .f32) (W : FVec Ideal S416x1024x2048 .f32) (B : FVec Ideal S416x1x2048 .f32)
    (b : Fin 416) (i : Fin 256) (e : Fin 2048) :
    hiddens X W B (ix3 b i e) = (∑ k : Fin 1024, X (ix3 b i k) * W (ix3 b k e)) + B (ix3 b (0 : Fin 1) e) := by
  pointwise [hiddens]

theorem gates_at (Y : FVec Ideal S416x256x2048 .f32) (b : Fin 416) (i : Fin 256) (d : Fin 1024) :
    gates Y (ix3 b i d) = Cert.Expert.gate (fun e => Y (ix3 b i e)) d := by
  rw [Cert.Expert.gate]
  pointwise [gates]

theorem lins_at (Y : FVec Ideal S416x256x2048 .f32) (b : Fin 416) (i : Fin 256) (d : Fin 1024) :
    lins Y (ix3 b i d) = Cert.Expert.lin (fun e => Y (ix3 b i e)) d := by
  rw [Cert.Expert.lin]
  pointwise [lins, id]

theorem acts_at (G L : FVec Ideal S416x256x1024 .f32) (b : Fin 416) (i : Fin 256) (d : Fin 1024) :
    acts G L (ix3 b i d) = G (ix3 b i d) * Ideal.logistic (Ideal.ofBits .f32 0x3FD9DB23#32 * G (ix3 b i d)) * (L (ix3 b i d) + 1) := by
  pointwise [acts]
  rfl

theorem outs_at (A : FVec Ideal S416x256x1024 .f32) (W : FVec Ideal S416x1024x1024 .f32) (B : FVec Ideal S416x1x1024 .f32)
    (b : Fin 416) (i : Fin 256) (l : Fin 1024) :
    outs A W B (ix3 b i l) = (∑ k : Fin 1024, A (ix3 b i k) * W (ix3 b k l)) + B (ix3 b (0 : Fin 1) l) := by
  pointwise [outs]

theorem masked_at (N : IVec S1 32) (Y : FVec Ideal S416x256x1024 .f32) (b : Fin 416) (i : Fin 256) (l : Fin 1024) :
    masked N Y (ix2 ⟨b.val * 256 + i.val, by omega⟩ l)
      = Scalar.select (IntOp.cmpi .slt (BitVec.ofNat 32 b.val) (N (ix1 (0 : Fin 1)))) (Y (ix3 b i l)) 0 := by
  pointwise [masked, id]

/-- The reference at an index: the row's token through its block's expert where the block is used, zero elsewhere. -/
theorem REF_at (H : FVec Ideal S24576x1024 .f32) (T : IVec S416x1x256 32) (E : IVec S416 32) (N : IVec S1 32)
    (W1 : FVec Ideal S32x1024x2048 .f32) (B1 : FVec Ideal S32x1x2048 .f32) (W2 : FVec Ideal S32x1024x1024 .f32)
    (B2 : FVec Ideal S32x1x1024 .f32) (b : Fin 416) (i : Fin 256) (l : Fin 1024)
    (hT : (T (ix3 b (0 : Fin 1) i)).toNat < 24576) (hE : (E (ix1 b)).toNat < 32) :
    REF H T E N W1 B1 W2 B2 (ix2 ⟨b.val * 256 + i.val, by omega⟩ l)
      = Scalar.select (IntOp.cmpi .slt (BitVec.ofNat 32 b.val) (N (ix1 (0 : Fin 1))))
          (Cert.Expert.row (fun k => H (ix2 ⟨(T (ix3 b (0 : Fin 1) i)).toNat, hT⟩ k))
            (fun k e => W1 (ix3 ⟨(E (ix1 b)).toNat, hE⟩ k e)) (fun e => B1 (ix3 ⟨(E (ix1 b)).toNat, hE⟩ (0 : Fin 1) e))
            (fun k e => W2 (ix3 ⟨(E (ix1 b)).toNat, hE⟩ k e)) (fun e => B2 (ix3 ⟨(E (ix1 b)).toNat, hE⟩ (0 : Fin 1) e)) l) 0 := by
  have hh : (fun e => HID H T E W1 B1 (ix3 b i e)) = Cert.Expert.hidden (fun k => H (ix2 ⟨(T (ix3 b (0 : Fin 1) i)).toNat, hT⟩ k))
      (fun k e => W1 (ix3 ⟨(E (ix1 b)).toNat, hE⟩ k e)) (fun e => B1 (ix3 ⟨(E (ix1 b)).toNat, hE⟩ (0 : Fin 1) e)) := by
    funext e
    rw [HID, hiddens_at, Cert.Expert.hidden, biases1_at E b hE]
    refine congrArg (· + _) (Finset.sum_congr rfl fun k _ => ?_)
    rw [picked_at H T b i k hT, weights1_at E b hE]
  rw [REF, masked_at, outs_at, Cert.Expert.row, Cert.Expert.out, biases2_at E b hE]
  refine congrArg (fun z => Scalar.select _ (z + _) 0) (Finset.sum_congr rfl fun d _ => ?_)
  rw [weights2_at E b hE, acts_at, gates_at, lins_at, hh, Cert.Expert.act]

end Cert.Reference2Ideal.Value

end
-- ==== Proof.MoeIdeal.Value.lean ====
/-
  The experts kernel's result: a used point's block, read at an index, is the rows of the block's tokens through the block's
  expert; an unused point's is zero; and the blocks together are the reference's array.
-/
module

public import proofs.«01_k».proof.Proof.MoeIdeal.Frame
public import proofs.«01_k».proof.Proof.MoeIdeal.Reference
public import Idealize.ShloMosaic.Lib.Pipeline.ValueKit
public import Idealize.ShloMosaic.Lib.Pipeline.Covers
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

/-- The hidden rows of a block, at an index. -/
theorem pay5_at (X : FVec Ideal S256x1024 .f32) (W : FVec Ideal S1x1024x2048 .f32) (B : FVec Ideal S1x1x2048 .f32) (i : Fin 256)
    (e : Fin 2048) :
    k0_pay5 (F := Ideal) X (k0_pay3 (F := Ideal) W) B (ix2 i e)
      = Cert.Expert.hidden (fun k => X (ix2 i k)) (fun k e => W (ix3 (0 : Fin 1) k e)) (fun e => B (ix3 (0 : Fin 1) (0 : Fin 1) e)) e := by
  rw [Cert.Expert.hidden]
  pointwise [k0_pay5, k0_pay3]

/-- The linear parts of a block, at an index. -/
theorem pay6_at (X : FVec Ideal S256x1024 .f32) (W : FVec Ideal S1024x2048 .bf16) (B : FVec Ideal S1x1x2048 .f32) (i : Fin 256)
    (d : Fin 1024) : k0_pay6 (F := Ideal) X W B (ix2 i d) = Cert.Expert.lin (fun e => k0_pay5 (F := Ideal) X W B (ix2 i e)) d := by
  rw [Cert.Expert.lin]
  unfold k0_pay6
  generalize k0_pay5 (F := Ideal) X W B = Y
  pointwise []

/-- The gates times the logistic of their 1.702-fold, at an index. -/
theorem pay7_at (X : FVec Ideal S256x1024 .f32) (W : FVec Ideal S1024x2048 .bf16) (B : FVec Ideal S1x1x2048 .f32) (i : Fin 256)
    (d : Fin 1024) : k0_pay7 (F := Ideal) X W B (ix2 i d) = Cert.Expert.gate (fun e => k0_pay5 (F := Ideal) X W B (ix2 i e)) d
      * Ideal.logistic (Ideal.ofBits .f32 0x3FD9DB23#32 * Cert.Expert.gate (fun e => k0_pay5 (F := Ideal) X W B (ix2 i e)) d) := by
  rw [Cert.Expert.gate]
  unfold k0_pay7
  generalize k0_pay5 (F := Ideal) X W B = Y
  pointwise []

/-- The second layer of a block, at an index. -/
theorem pay1_at (L G : FVec Ideal S256x1024 .f32) (W : FVec Ideal S1x1024x1024 .f32) (B : FVec Ideal S1x1x1024 .f32) (i : Fin 256)
    (l : Fin 1024) :
    k0_pay1 (F := Ideal) L G (k0_pay4 (F := Ideal) W) B (ix2 i l)
      = Cert.Expert.out (fun d => G (ix2 i d) * (L (ix2 i d) + 1)) (fun k e => W (ix3 (0 : Fin 1) k e))
          (fun e => B (ix3 (0 : Fin 1) (0 : Fin 1) e)) l := by
  rw [Cert.Expert.out]
  pointwise [k0_pay1, k0_pay4]

/-- A used point's block, at an index: the row through the block's expert. -/
theorem usedOut_at (X : FVec Ideal S256x1024 .f32) (W1 : FVec Ideal S1x1024x2048 .f32) (B1 : FVec Ideal S1x1x2048 .f32)
    (W2 : FVec Ideal S1x1024x1024 .f32) (B2 : FVec Ideal S1x1x1024 .f32) (i : Fin 256) (l : Fin 1024) :
    usedOut X (k0_pay3 W1) B1 (k0_pay4 W2) B2 (ix2 i l)
      = Cert.Expert.row (fun k => X (ix2 i k)) (fun k e => W1 (ix3 (0 : Fin 1) k e)) (fun e => B1 (ix3 (0 : Fin 1) (0 : Fin 1) e))
          (fun k e => W2 (ix3 (0 : Fin 1) k e)) (fun e => B2 (ix3 (0 : Fin 1) (0 : Fin 1) e)) l := by
  rw [usedOut, pay1_at, Cert.Expert.row]
  refine congrFun (congrFun (congrFun (congrArg Cert.Expert.out (funext fun d => ?_)) _) _) l
  rw [pay6_at, pay7_at, funext (pay5_at X W1 B1 i), Cert.Expert.act]

/-- An unused point's block is zero. -/
theorem pay2_at (i : Fin 256) (l : Fin 1024) : (k0_pay2 : FVec Ideal S256x1024 .f32) (ix2 i l) = 0 := by
  pointwise [k0_pay2]

/-- A gathered row at an index: the element of the row the token word names. -/
theorem gathered_at (hb : S24576x1024.Idx → EReal) (x3 : S1x1x256.Idx → BitVec 32) (hw : ∀ k, RowOK (tokW x3 k)) (i : Fin 256) (k : Fin 1024)
    (w : BitVec 32) (e : tokW x3 i = w) (hlt : w.toNat < 24576) :
    gath (F := Ideal) hb x3 hw (ix2 i k) = hb (ix2 ⟨w.toNat, hlt⟩ k) := by
  subst e
  refine congrArg hb (funext fun a => Fin.ext ?_)
  fin_cases a
  · show (tokW x3 i).toNat + 1 * 0 = (tokW x3 i).toNat
    omega
  · show 0 + 1 * k.val = k.val
    omega

variable (m : (ℓ : Loc nD τ sig) → Buf (Elt Ideal) ℓ) (h : Fits m)

/-- The expert a point works for is its place's entry of the table. -/
theorem ex_eq (t : Fin (cfgA m h).N) : ex m h t = tblE m (ix1 ⟨t.val, pt_lt m h t⟩) := by
  refine congrArg (tblE m) (funext fun a => Fin.ext ?_)
  fin_cases a
  have h5 : ∀ t : Fin grid0.N, k0_off5 (grid0.coords t) 0 + 1 * 0 = t.val := by decide +kernel
  exact h5 t

/-- The count of used blocks. -/
theorem nWord_eq : nWord (tblN m) = tblN m (ix1 (0 : Fin 1)) := by
  refine congrArg (tblN m) (funext fun a => Fin.ext ?_)
  fin_cases a
  rfl

/-- A point is used as the reference's comparison says. -/
theorem used_iff (t : Fin (cfgA m h).N) :
    Used m h t ↔ IntOp.cmpi .slt (BitVec.ofNat 32 t.val) (tblN m (ix1 (0 : Fin 1))) = 1#1 := by
  rw [Used, nWord_eq]
  unfold k0_cond1
  simp only [ext_ne_zero]
  rw [pt_val]
  exact Iff.rfl

/-- A choice on a set bit, and on a clear one. -/
theorem select_set (a b : EReal) : Scalar.select 1#1 a b = a := rfl
theorem select_clear (a b : EReal) : Scalar.select 0#1 a b = b := rfl

/-- The reference of core `c`'s arguments. -/
abbrev ref (c : Dev nD) : FVec Ideal S106496x1024 .f32 :=
  Cert.Reference2Ideal.Value.REF (V m c main_arg0) (V m c main_arg1) (V m c main_arg2) (V m c main_arg3) (V m c main_arg4)
    (V m c main_arg5) (V m c main_arg6) (V m c main_arg7)

/-- One point's block is the reference at the rows under it. -/
theorem point (c : Dev nD) (t : Fin (cfgA m h).N) (i : Fin 256) (l : Fin 1024) :
    out5 m h c t (ix2 i l) = ref m c (ix2 (⟨t.val * 256 + i.val, by have := pt_lt m h t; omega⟩ : Fin 106496) l) := by
  obtain rfl : c = 0 := Subsingleton.elim _ _
  have hT := h.token 0 (ix3 (⟨t.val, pt_lt m h t⟩ : Fin 416) (0 : Fin 1) i)
  have hE := h.expert (ix1 (⟨t.val, pt_lt m h t⟩ : Fin 416))
  refine Eq.trans ?_ (Cert.Reference2Ideal.Value.REF_at _ _ _ _ _ _ _ _ (⟨t.val, pt_lt m h t⟩ : Fin 416) i l hT hE).symm
  have hx : (⟨(ex m h t).toNat, ex_lt m h t⟩ : Fin 32) = ⟨_, hE⟩ := Fin.ext (congrArg BitVec.toNat (ex_eq m h t))
  unfold out5
  by_cases hu : Used m h t
  · rw [if_pos hu]
    refine Eq.trans ?_ (congrArg (fun b => Scalar.select b _ _) ((used_iff m h t).mp hu)).symm
    refine (usedOut_at _ _ _ _ _ i l).trans ?_
    refine Eq.trans ?_ (select_set _ _).symm
    congr 1
    · funext k
      exact gathered_at _ _ _ i k _ (iblk0_at m h 0 t (ix3 0 0 i)) hT
    · funext k e
      exact (iblk1_at m h 0 t (ix3 0 k e)).trans (congrArg (fun z => (V m 0 main_arg4 : S32x1024x2048.Idx → EReal) (ix3 z k e)) hx)
    · funext e
      exact (iblk2_at m h 0 t (ix3 0 0 e)).trans (congrArg (fun z => (V m 0 main_arg5 : S32x1x2048.Idx → EReal) (ix3 z (0 : Fin 1) e)) hx)
    · funext k e
      exact (iblk3_at m h 0 t (ix3 0 k e)).trans (congrArg (fun z => (V m 0 main_arg6 : S32x1024x1024.Idx → EReal) (ix3 z k e)) hx)
    · funext e
      exact (iblk4_at m h 0 t (ix3 0 0 e)).trans (congrArg (fun z => (V m 0 main_arg7 : S32x1x1024.Idx → EReal) (ix3 z (0 : Fin 1) e)) hx)
  · rw [if_neg hu]
    have hz : IntOp.cmpi .slt (BitVec.ofNat 32 t.val) (tblN m (ix1 (0 : Fin 1))) = 0#1 := by
      have hb : ∀ b : BitVec 1, ¬ b = 1#1 → b = 0#1 := by decide
      exact hb _ fun e => hu ((used_iff m h t).mpr e)
    refine Eq.trans ?_ (congrArg (fun b => Scalar.select b _ _) hz).symm
    exact (pay2_at i l).trans (select_clear _ _).symm

/-- The output's blocks cover its array. -/
theorem covers5 : ((cfgA m h).win 5).Covers := by
  refine Pipeline.Window.covers_of_index_surj _ rfl (fun a => ?_) fun β => ?_
  · fin_cases a
    · exact (by decide : 0 < 256)
    · exact (by decide : 0 < 1024)
  · have h0 : (β (0 : Fin 2)).val < (106496 + 256 - 1) / 256 := (β (0 : Fin 2)).isLt
    have h1 : (β (1 : Fin 2)).val < (1024 + 1024 - 1) / 1024 := (β (1 : Fin 2)).isLt
    have hi : ∀ t : Fin grid0.N, cc0_transform_6 (grid0.coords t) 0 = t.val ∧ cc0_transform_6 (grid0.coords t) 1 = 0 := by decide +kernel
    have hb : (β (0 : Fin 2)).val < grid0.N := lt_of_lt_of_eq h0 N_0.symm
    refine ⟨⟨(β (0 : Fin 2)).val, hb⟩, fun a => ?_⟩
    fin_cases a
    · exact (hi ⟨_, hb⟩).1
    · exact (hi ⟨_, hb⟩).2.trans (by show 0 = (β (1 : Fin 2)).val; omega)

/-- The result array is the reference of the arguments. -/
theorem final (c : Dev nD) : (dats m h 0 c).arrAt 5 (cfgA m h).N = ref m c := by
  refine (dats m h 0 c).arrAt_eq_of_covers 5 _ (covers5 m h) (fun t _ y => ?_) (Memref.isWhole_whole _)
  obtain ⟨i, l, rfl⟩ : ∃ (i : Fin 256) (l : Fin 1024), y = ix2 i l := ⟨y (0 : Fin 2), y (1 : Fin 2), eq_ix2 y⟩
  refine (point m h c t i l).trans (congrArg (ref m c) (funext fun a => Fin.ext ?_))
  have hi : ∀ t : Fin grid0.N, cc0_transform_6 (grid0.coords t) 0 = t.val ∧ cc0_transform_6 (grid0.coords t) 1 = 0 := by decide +kernel
  fin_cases a
  · show t.val * 256 + i.val = cc0_transform_6 (grid0.coords t) 0 * 256 + 1 * i.val
    rw [(hi t).1]; omega
  · show l.val = cc0_transform_6 (grid0.coords t) 1 * 1024 + 1 * l.val
    rw [(hi t).2]; omega

end Cert.Kernel2Ideal.Moe

end
-- ==== Proof.MoeIdeal.Claims.lean ====
/-
  The experts: the idealized kernel's frame, the reference's frame and the value claim.
-/
module

public import proofs.«01_k».proof.Defs
public import proofs.«01_k».proof.Proof.Moe.Routed
public import proofs.«01_k».proof.Proof.MoeIdeal.Value
public import proofs.«01_k».proof.Proof.Gen.Reference2Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel2Ideal.Moe

open Cert.Kernel2Ideal

variable (m : (ℓ : Loc nD τ sig) → Buf (Elt Ideal) ℓ)

/-- The precondition on every core's arguments. -/
abbrev Routed : Prop := ∀ c : Dev nD,
  Cert.Pre_routed.fn (F := Ideal) (V m c main_arg0) (V m c main_arg1) (V m c main_arg2) (V m c main_arg3) (V m c main_arg4)
    (V m c main_arg5) (V m c main_arg6) (V m c main_arg7) = fun _ => 1#1

theorem fits_of (hp : Routed m) : Fits m where
  expert := (Cert.Pre_routed.words_of_fn _ _ _ _ _ _ _ _ (hp 0)).2
  token c := (Cert.Pre_routed.words_of_fn _ _ _ _ _ _ _ _ (hp c)).1

end Cert.Kernel2Ideal.Moe

namespace Cert.Proof

/-- The idealized experts kernel terminates from every memory whose words are in range and leaves its arguments unchanged. -/
theorem moe_frame_ideal : Cert.quiescent_Kernel2Ideal := fun m g hp =>
  (θ_run Cert.Kernel2Ideal.defs _ _).mono
    (fun _ hr => ⟨fun c => Cert.Kernel2Ideal.Moe.args_of m (Cert.Kernel2Ideal.Moe.fits_of m hp) hr.1 c, hr.2⟩)
    (Cert.Kernel2Ideal.Moe.run_main m g (Cert.Kernel2Ideal.Moe.fits_of m hp))

/-- The experts' reference terminates and leaves its arguments unchanged. -/
theorem moe_frame_ref : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

/-- Where the words are in range, the idealized experts kernel computes the reference. -/
theorem moe_algebraic : Cert.algebraic_Kernel2Ideal_Reference2Ideal := by
  intro m g m' g' hp hagree
  have hf := Cert.Kernel2Ideal.Moe.fits_of m hp
  refine ⟨fun c => Cert.Kernel2Ideal.Moe.ref m c, ?_, ?_⟩
  · exact (θ_run Cert.Kernel2Ideal.defs _ _).mono
      (fun r hr c => ⟨((hr.1 c).1 5).trans (Cert.Kernel2Ideal.Moe.final m hf c), Cert.Kernel2Ideal.Moe.args_of m hf hr.1 c⟩)
      (Cert.Kernel2Ideal.Moe.run_main m g hf)
  · refine (θ_run Cert.Reference2Ideal.defs _ _).mono (fun r h c => ⟨?_, (h c).2⟩) (Cert.Reference2Ideal.Value.run m' g')
    refine (h c).1.trans ((Cert.Reference2Ideal.Value.res_eq m' c).trans ?_)
    obtain ⟨e0, e1, e2, e3, e4, e5, e6, e7⟩ := hagree c
    rw [e0, e1, e2, e3, e4, e5, e6, e7]

end Cert.Proof

end
-- ==== Proof.Proj.Math.lean ====
/- ROWS AS FUNCTIONS: the root-mean-square norm of a row of 1024 numbers, its modulation by a scale and a shift, and the row
   of the modulation table that belongs to a token. -/
module

public import Idealize.ShloMosaic.Lib.Pipeline.ValueKit
public import Idealize.ShloMosaic.Lib.Pointwise

@[expose] public section

noncomputable section

open Idealize.ShloMosaic

namespace Cert.Proj

/-- The row divided by the root of its mean square plus a small number, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The normed row times one plus the scale, plus the shift. -/
def modded (x g sc sh : Fin 1024 → EReal) (k : Fin 1024) : EReal :=
  normed x g k * (Ideal.ofBits .f32 0x3F800000#32 + sc k) + sh k

/-- The modulation row of a token: the first for the 8192 context tokens, then one for each latent sequence of 4096. -/
def modRow (r : Fin 24576) : Fin 8 := if r.val < 8192 then 0 else ⟨1 + (r.val - 8192) / 4096, by omega⟩

theorem modRow_ctx (r : Fin 24576) (h : r.val < 8192) : modRow r = 0 := if_pos h

theorem modRow_lat (r : Fin 24576) (h : ¬ r.val < 8192) : modRow r = ⟨1 + (r.val - 8192) / 4096, by omega⟩ := if_neg h

end Cert.Proj

end
-- ==== Proof.Proj.Block.lean ====
/- What ONE GRID POINT of the norm and input projection stores: a block of 256 rows, each normed and modulated, times the
   weights. The bf16 rounding of the rows is the identity on ideal numbers. -/
module

public import proofs.«01_k».proof.Proof.Gen.Kernel3Ideal.Frame
public import proofs.«01_k».proof.Proof.Proj.Math

@[expose] public section

set_option maxRecDepth 16384

noncomputable section

open Idealize.ShloMosaic Idealize.ShloMosaic.TcCoe Idealize.SL.Sem

namespace Cert.Kernel3Ideal.Value
open Cert.Kernel3Ideal Cert.Kernel3Ideal.Gen Cert.Proj

/-- The block's rows normed. -/
def blkNorm (x : FVec Ideal S256x1024 .f32) (g : FVec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32 : Ideal .f32))) (broadcast S256x1 (Scalar.ofBits .f32 0x358637BD#32 : Ideal .f32)))) broadcasts_S256x1_S256x1024))
    (broadcastTo S256x1024 (shapeCast S1x1024 g shapeCasts_S1x1024_S1x1024) broadcasts_S1x1024_S256x1024)

/-- The block's rows modulated, in the weights' precision. -/
def blkMod (y : FVec Ideal S256x1024 .f32) (sc sh : FVec Ideal S1x1x1024 .f32) : FVec Ideal S256x1024 .bf16 :=
  truncf .bf16 (addf (mulf y (broadcastTo S256x1024 (addf (broadcast S1x1024 (Scalar.ofBits .f32 0x3F800000#32 : Ideal .f32)) (shapeCast S1x1024 sc shapeCasts_S1x1x1024_S1x1024)) broadcasts_S1x1024_S256x1024))
    (broadcastTo S256x1024 (shapeCast S1x1024 sh shapeCasts_S1x1x1024_S1x1024) broadcasts_S1x1024_S256x1024)) bitsLt_bf16_f32

/-- The block's rows times the weights. -/
def blkDot (h : FVec Ideal S256x1024 .bf16) (w : FVec Ideal S1024x3072 .bf16) : FVec Ideal S256x3072 .f32 :=
  matmul dot_S256x1024_S1024x3072_S256x3072_1_0_0_1_n_n none h (shapeCast S1024x3072 w shapeCasts_S1024x3072_S1024x3072)
    (constant S256x3072 .f32 0x00000000#32)

theorem blkNorm_at (x : FVec Ideal S256x1024 .f32) (g : FVec Ideal S1x1024 .f32) (i : Fin 256) (k : Fin 1024) :
    blkNorm x g (ix2 i k) = normed (fun j => x (ix2 i j)) (fun j => g (ix2 0 j)) k := by
  pointwise [blkNorm, normed]

theorem blkMod_at (y : FVec Ideal S256x1024 .f32) (sc sh : FVec Ideal S1x1x1024 .f32) (i : Fin 256) (k : Fin 1024) :
    blkMod y sc sh (ix2 i k) = y (ix2 i k) * (Ideal.ofBits .f32 0x3F800000#32 + sc (ix3 0 0 k)) + sh (ix3 0 0 k) := by
  pointwise [blkMod]

theorem blkDot_at (h : FVec Ideal S256x1024 .bf16) (w : FVec Ideal S1024x3072 .bf16) (i : Fin 256) (l : Fin 3072) :
    blkDot h w (ix2 i l) = ∑ k : Fin 1024, h (ix2 i k) * w (ix2 k l) := by
  pointwise [blkDot]

theorem blkRow_at (x : FVec Ideal S256x1024 .f32) (g : FVec Ideal S1x1024 .f32) (sc sh : FVec Ideal S1x1x1024 .f32) (i : Fin 256) (k : Fin 1024) :
    blkMod (blkNorm x g) sc sh (ix2 i k)
      = modded (fun j => x (ix2 i j)) (fun j => g (ix2 0 j)) (fun j => sc (ix3 0 0 j)) (fun j => sh (ix3 0 0 j)) k := by
  rw [blkMod_at, blkNorm_at, modded]

/-- What the body stores is the rows times the weights. -/
theorem pay_eq (x : Vec Ideal S256x1024 .f32) (g : Vec Ideal S1x1024 .f32) (sc sh : Vec Ideal S1x1x1024 .f32) (w : Vec Ideal S1024x3072 .bf16) :
    k0_pay1 (F := Ideal) x g sc sh w = blkDot (blkMod (blkNorm x g) sc sh) w := rfl

theorem pay_at (x : Vec Ideal S256x1024 .f32) (g : Vec Ideal S1x1024 .f32) (sc sh : Vec Ideal S1x1x1024 .f32) (w : Vec Ideal S1024x3072 .bf16)
    (i : Fin 256) (l : Fin 3072) :
    k0_pay1 (F := Ideal) x g sc sh w (ix2 i l)
      = ∑ k : Fin 1024, modded (fun j => x (ix2 i j)) (fun j => g (ix2 0 j)) (fun j => sc (ix3 0 0 j)) (fun j => sh (ix3 0 0 j)) k * w (ix2 k l) := by
  rw [pay_eq, blkDot_at]
  simp only [blkRow_at]

end Cert.Kernel3Ideal.Value

end
-- ==== Proof.Proj.Reference.lean ====
/- The norm and the input projection of the REFERENCES, read at an index. The context and the latent tokens go separately:
   each part is cut out of the rows, normed, modulated and multiplied by the weights, and the two are joined again. -/
module

public import proofs.«01_k».proof.Proof.Gen.Reference3Ideal.Run
public import proofs.«01_k».proof.Proof.Proj.Math

@[expose] public section

set_option maxRecDepth 16384

noncomputable section

open Idealize.ShloMosaic Idealize.ShloMosaic.TcCoe Idealize.SL.Sem

namespace Cert.Reference3Ideal.Value
open Cert.Reference3Ideal Cert.Reference3Ideal.Gen Cert.Proj

/-- The context tokens' rows. -/
def ctxIn (X : FVec Ideal S24576x1024 .f32) : FVec Ideal S32x256x1024 .f32 :=
  shapeCast _ (extractStridedSlice S8192x1024 ![0, 0] X slices_S24576x1024_S8192x1024_0_0) shapeCasts_S8192x1024_S32x256x1024

/-- The latent tokens' rows. -/
def latIn (X : FVec Ideal S24576x1024 .f32) : FVec Ideal S4x4096x1024 .f32 :=
  shapeCast _ (extractStridedSlice S16384x1024 ![8192, 0] X slices_S24576x1024_S16384x1024_8192_0) shapeCasts_S16384x1024_S4x4096x1024

/-- The context rows normed. -/
def ctxNorm (x : FVec Ideal S32x256x1024 .f32) (g : FVec Ideal S1024 .f32) : FVec Ideal S32x256x1024 .f32 :=
  mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))

/-- The latent rows normed. -/
def latNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The context rows modulated. -/
def ctxMod (y : FVec Ideal S32x256x1024 .f32) (M : FVec Ideal S8x1x6144 .f32) : FVec Ideal S32x256x1024 .f32 :=
  addf (mulf y (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] (extractStridedSlice S1x1x6144 ![0, 0, 0] M slices_S8x1x6144_S1x1x6144_0_0_0) slices_S1x1x6144_S1x1x1024_0_0_1024)))) (broadcastInDim S32x256x1024 ![0, 1, 2] bcast_S1x1x1024_S32x256x1024_0_1_2 (extractStridedSlice S1x1x1024 ![0, 0, 0] (extractStridedSlice S1x1x6144 ![0, 0, 0] M slices_S8x1x6144_S1x1x6144_0_0_0) slices_S1x1x6144_S1x1x1024_0_0_0))

/-- The latent rows modulated. -/
def latMod (y : FVec Ideal S4x4096x1024 .f32) (M : FVec Ideal S8x1x6144 .f32) : FVec Ideal S4x4096x1024 .f32 :=
  addf (mulf y (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (extractStridedSlice S4x1x6144 ![1, 0, 0] M slices_S8x1x6144_S4x1x6144_1_0_0) slices_S4x1x6144_S4x1x1024_0_0_1024)))) (broadcastInDim S4x4096x1024 ![0, 1, 2] bcast_S4x1x1024_S4x4096x1024_0_1_2 (extractStridedSlice S4x1x1024 ![0, 0, 0] (extractStridedSlice S4x1x6144 ![1, 0, 0] M slices_S8x1x6144_S4x1x6144_1_0_0) slices_S4x1x6144_S4x1x1024_0_0_0))

/-- The two parts multiplied by the weights. -/
def ctxDot (h : FVec Ideal S32x256x1024 .f32) (W : FVec Ideal S1024x3072 .f32) : FVec Ideal S32x256x3072 .f32 :=
  Host.dotGeneral dot_S32x256x1024_S1024x3072_S32x256x3072_2_0_01_1_n_n none h W

@[inherit_doc ctxDot]
def latDot (h : FVec Ideal S4x4096x1024 .f32) (W : FVec Ideal S1024x3072 .f32) : FVec Ideal S4x4096x3072 .f32 :=
  Host.dotGeneral dot_S4x4096x1024_S1024x3072_S4x4096x3072_2_0_01_1_n_n none h W

/-- The two parts joined. -/
def join (a : FVec Ideal S32x256x3072 .f32) (b : FVec Ideal S4x4096x3072 .f32) : FVec Ideal S24576x3072 .f32 :=
  concatenate S24576x3072 0 [⟨S8192x3072, (shapeCast _ a shapeCasts_S32x256x3072_S8192x3072)⟩, ⟨S16384x3072, (shapeCast _ b shapeCasts_S4x4096x3072_S16384x3072)⟩] concatenates_S8192x3072_S16384x3072_S24576x3072_d0

/-- The whole reference. -/
def REF (X : FVec Ideal S24576x1024 .f32) (g : FVec Ideal S1024 .f32) (M : FVec Ideal S8x1x6144 .f32) (W : FVec Ideal S1024x3072 .f32) :
    FVec Ideal S24576x3072 .f32 :=
  join (ctxDot (ctxMod (ctxNorm (ctxIn X) g) M) W) (latDot (latMod (latNorm (latIn X) g) M) W)

theorem ctxIn_at (X : FVec Ideal S24576x1024 .f32) (b : Fin 32) (i : Fin 256) (k : Fin 1024) :
    ctxIn X (ix3 b i k) = X (ix2 ⟨b.val * 256 + i.val, by omega⟩ k) := by
  pointwise [ctxIn]

theorem latIn_at (X : FVec Ideal S24576x1024 .f32) (b : Fin 4) (i : Fin 4096) (k : Fin 1024) :
    latIn X (ix3 b i k) = X (ix2 ⟨8192 + (b.val * 4096 + i.val), by omega⟩ k) := by
  pointwise [latIn]

theorem ctxNorm_at (x : FVec Ideal S32x256x1024 .f32) (g : FVec Ideal S1024 .f32) (b : Fin 32) (i : Fin 256) (k : Fin 1024) :
    ctxNorm x g (ix3 b i k) = normed (fun j => x (ix3 b i j)) (fun j => g (ix1 j)) k := by
  pointwise [ctxNorm, normed]

theorem latNorm_at (x : FVec Ideal S4x4096x1024 .f32) (g : FVec Ideal S1024 .f32) (b : Fin 4) (i : Fin 4096) (k : Fin 1024) :
    latNorm x g (ix3 b i k) = normed (fun j => x (ix3 b i j)) (fun j => g (ix1 j)) k := by
  pointwise [latNorm, normed]

theorem ctxMod_at (y : FVec Ideal S32x256x1024 .f32) (M : FVec Ideal S8x1x6144 .f32) (b : Fin 32) (i : Fin 256) (k : Fin 1024) :
    ctxMod y M (ix3 b i k) = y (ix3 b i k) * (Ideal.ofBits .f32 0x3F800000#32 + M (ix3 0 0 ⟨1024 + k.val, by omega⟩))
      + M (ix3 0 0 ⟨k.val, by omega⟩) := by
  pointwise [ctxMod]

theorem latMod_at (y : FVec Ideal S4x4096x1024 .f32) (M : FVec Ideal S8x1x6144 .f32) (b : Fin 4) (i : Fin 4096) (k : Fin 1024) :
    latMod y M (ix3 b i k) = y (ix3 b i k) * (Ideal.ofBits .f32 0x3F800000#32 + M (ix3 ⟨1 + b.val, by omega⟩ 0 ⟨1024 + k.val, by omega⟩))
      + M (ix3 ⟨1 + b.val, by omega⟩ 0 ⟨k.val, by omega⟩) := by
  pointwise [latMod]

theorem ctxDot_at (h : FVec Ideal S32x256x1024 .f32) (W : FVec Ideal S1024x3072 .f32) (b : Fin 32) (i : Fin 256) (l : Fin 3072) :
    ctxDot h W (ix3 b i l) = ∑ k : Fin 1024, h (ix3 b i k) * W (ix2 k l) := by
  pointwise [ctxDot]

theorem latDot_at (h : FVec Ideal S4x4096x1024 .f32) (W : FVec Ideal S1024x3072 .f32) (b : Fin 4) (i : Fin 4096) (l : Fin 3072) :
    latDot h W (ix3 b i l) = ∑ k : Fin 1024, h (ix3 b i k) * W (ix2 k l) := by
  pointwise [latDot]

theorem join_at (a : FVec Ideal S32x256x3072 .f32) (b : FVec Ideal S4x4096x3072 .f32) (r : Fin 24576) (l : Fin 3072) :
    join a b (ix2 r l) = if h : r.val < 8192 then a (ix3 ⟨r.val / 256, by omega⟩ ⟨r.val % 256, by omega⟩ l)
      else b (ix3 ⟨(r.val - 8192) / 4096, by omega⟩ ⟨(r.val - 8192) % 4096, by omega⟩ l) := by
  pointwise [join]

/-- The normed row of token `r`. -/
def normAt (X : FVec Ideal S24576x1024 .f32) (g : FVec Ideal S1024 .f32) (r : Fin 24576) (k : Fin 1024) : EReal :=
  normed (fun j => X (ix2 r j)) (fun j => g (ix1 j)) k

/-- The normed and modulated row of token `r`. -/
def rowAt (X : FVec Ideal S24576x1024 .f32) (g : FVec Ideal S1024 .f32) (M : FVec Ideal S8x1x6144 .f32) (r : Fin 24576) (k : Fin 1024) : EReal :=
  modded (fun j => X (ix2 r j)) (fun j => g (ix1 j)) (fun j => M (ix3 (modRow r) 0 ⟨1024 + j.val, by omega⟩))
    (fun j => M (ix3 (modRow r) 0 ⟨j.val, by omega⟩)) k

theorem ctxNormed_at (X : FVec Ideal S24576x1024 .f32) (g : FVec Ideal S1024 .f32) (b : Fin 32) (i : Fin 256) (k : Fin 1024) :
    ctxNorm (ctxIn X) g (ix3 b i k) = normAt X g ⟨b.val * 256 + i.val, by omega⟩ k := by
  rw [ctxNorm_at, normAt]
  simp only [ctxIn_at]

theorem latNormed_at (X : FVec Ideal S24576x1024 .f32) (g : FVec Ideal S1024 .f32) (b : Fin 4) (i : Fin 4096) (k : Fin 1024) :
    latNorm (latIn X) g (ix3 b i k) = normAt X g ⟨8192 + (b.val * 4096 + i.val), by omega⟩ k := by
  rw [latNorm_at, normAt]
  simp only [latIn_at]

theorem ctxRow_at (X : FVec Ideal S24576x1024 .f32) (g : FVec Ideal S1024 .f32) (M : FVec Ideal S8x1x6144 .f32) (r : Fin 24576)
    (h : r.val < 8192) (k : Fin 1024) :
    ctxMod (ctxNorm (ctxIn X) g) M (ix3 (⟨r.val / 256, by omega⟩ : Fin 32) (⟨r.val % 256, by omega⟩ : Fin 256) k) = rowAt X g M r k := by
  have e : (⟨r.val / 256 * 256 + r.val % 256, by omega⟩ : Fin 24576) = r := Fin.ext (by show r.val / 256 * 256 + r.val % 256 = r.val; omega)
  rw [ctxMod_at, ctxNormed_at, e, rowAt, modded, modRow_ctx r h, normAt]

theorem latRow_at (X : FVec Ideal S24576x1024 .f32) (g : FVec Ideal S1024 .f32) (M : FVec Ideal S8x1x6144 .f32) (r : Fin 24576)
    (h : ¬ r.val < 8192) (k : Fin 1024) :
    latMod (latNorm (latIn X) g) M (ix3 (⟨(r.val - 8192) / 4096, by omega⟩ : Fin 4) (⟨(r.val - 8192) % 4096, by omega⟩ : Fin 4096) k)
      = rowAt X g M r k := by
  have e : (⟨8192 + ((r.val - 8192) / 4096 * 4096 + (r.val - 8192) % 4096), by omega⟩ : Fin 24576) = r :=
    Fin.ext (by show 8192 + ((r.val - 8192) / 4096 * 4096 + (r.val - 8192) % 4096) = r.val; omega)
  rw [latMod_at, latNormed_at, e, rowAt, modded, modRow_lat r h, normAt]

/-- The reference at an index: the token's row times the column of weights. -/
theorem REF_at (X : FVec Ideal S24576x1024 .f32) (g : FVec Ideal S1024 .f32) (M : FVec Ideal S8x1x6144 .f32) (W : FVec Ideal S1024x3072 .f32)
    (r : Fin 24576) (l : Fin 3072) : REF X g M W (ix2 r l) = ∑ k : Fin 1024, rowAt X g M r k * W (ix2 k l) := by
  rw [REF, join_at]
  by_cases h : r.val < 8192
  · rw [dif_pos h, ctxDot_at]
    simp only [ctxRow_at X g M r h]
  · rw [dif_neg h, latDot_at]
    simp only [latRow_at X g M r h]

end Cert.Reference3Ideal.Value

end
-- ==== Proof.Proj.Ab.lean ====
/- The norm and input projection of the first layer pair: its RESULT ARRAY against the reference, then the two claims. -/
module

public import proofs.«01_k».proof.Defs
public import proofs.«01_k».proof.Proof.Proj.Block
public import proofs.«01_k».proof.Proof.Proj.Reference
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel3Ideal.Value
open Cert.Kernel3Ideal Cert.Kernel3Ideal.Gen Cert.Proj

variable (m : (ℓ : Loc nD τ sig) → Buf (Elt Ideal) ℓ)

/-- The windows' block indices at every grid point. -/
theorem idx : ∀ t : Fin cfg0.N, win0_0.index t = ![t.val, 0] ∧ win0_1.index t = ![0, 0]
    ∧ win0_2.index t = ![if t.val < 32 then 0 else 1 + (t.val - 32) / 16, 0, 0]
    ∧ win0_3.index t = ![if t.val < 32 then 0 else 1 + (t.val - 32) / 16, 0, 1]
    ∧ win0_4.index t = ![0, 0] ∧ win0_5.index t = ![t.val, 0] ∧ t.val < 96 :=
  (by decide +kernel : ∀ t : Fin grid0.N, _)

/-- The rows, the gain, the modulation table and the weights. -/
abbrev rows (c : Dev nD) : FVec Ideal S24576x1024 .f32 := m ((c : Thread nD τ).loc main_arg0)
@[inherit_doc rows]
abbrev gain (c : Dev nD) : FVec Ideal S1024 .f32 := m ((c : Thread nD τ).loc main_arg1)
@[inherit_doc rows]
abbrev table (c : Dev nD) : FVec Ideal S8x1x6144 .f32 := m ((c : Thread nD τ).loc main_arg2)
@[inherit_doc rows]
abbrev weights (c : Dev nD) : FVec Ideal S1024x3072 .f32 := m ((c : Thread nD τ).loc main_arg3)

/-- The weights as the kernel reads them: rounded to bf16. -/
theorem V_weights (c : Dev nD) : V m c main_v0 = truncf .bf16 (weights m c) bitsLt_bf16_f32 := by
  show StableHlo.after hostOps0 _ (Proc.devRef .tc main_v0) = _
  after_results

/-- The gain as the kernel reads it: one row. -/
theorem V_gain (c : Dev nD) : V m c main_v1 = shapeCast S1x1024 (gain m c) shapeCasts_S1024_S1x1024 := by
  show StableHlo.after hostOps0 _ (Proc.devRef .tc main_v1) = _
  after_results
  rfl

/-- The modulation row of every token of a block. -/
theorem row_of (t i : ℕ) (hi : i < 256) (h : t * 256 + i < 24576) :
    (modRow ⟨t * 256 + i, h⟩).val = if t < 32 then 0 else 1 + (t - 32) / 16 := by
  unfold modRow
  by_cases ht : t < 32
  · rw [if_pos (show t * 256 + i < 8192 by omega), if_pos ht]; rfl
  · rw [if_neg (show ¬ t * 256 + i < 8192 by omega), if_neg ht]
    show 1 + (t * 256 + i - 8192) / 4096 = _
    omega

/-- One point's block is the reference at the array indices under it. -/
theorem point (c : Dev nD) (t : Fin cfg0.N) (i : Fin 256) (l : Fin 3072) :
    k0_pay1 (F := Ideal) (iblk m c 0 t) (iblk m c 1 t) (iblk m c 3 t) (iblk m c 2 t) (iblk m c 4 t) (ix2 i l)
      = Cert.Reference3Ideal.Value.REF (rows m c) (gain m c) (table m c) (weights m c) (((cfg0.win 5).blk t).view.emb (ix2 i l)) := by
  obtain ⟨e0, e1, e2, e3, e4, e5, ht⟩ := idx t
  have hr := row_of t.val i.val i.isLt (by omega)
  have hX : ∀ k : Fin 1024, iblk m c 0 t (ix2 i k) = rows m c (ix2 ⟨t.val * 256 + i.val, by omega⟩ k) := fun k => by
    blk_ext [iblk, V, idx t]
  have hG : ∀ k : Fin 1024, iblk m c 1 t (ix2 0 k) = gain m c (ix1 k) := fun k => by
    have h : iblk m c 1 t (ix2 0 k) = V m c main_v1 (ix2 0 k) := by blk_ext [iblk, idx t]
    rw [h, V_gain]
    pointwise []
  have hB : ∀ k : Fin 1024, iblk m c 2 t (ix3 0 0 k) = table m c (ix3 (modRow ⟨t.val * 256 + i.val, by omega⟩) 0 ⟨k.val, by omega⟩) := fun k => by
    blk_ext [iblk, V, idx t]
  have hS : ∀ k : Fin 1024, iblk m c 3 t (ix3 0 0 k) = table m c (ix3 (modRow ⟨t.val * 256 + i.val, by omega⟩) 0 ⟨1024 + k.val, by omega⟩) := fun k => by
    blk_ext [iblk, V, idx t]
  have hW : ∀ k : Fin 1024, iblk m c 4 t (ix2 k l) = weights m c (ix2 k l) := fun k => by
    have h : iblk m c 4 t (ix2 k l) = V m c main_v0 (ix2 k l) := by blk_ext [iblk, idx t]
    rw [h, V_weights]
    pointwise []
  have hO : ((cfg0.win 5).blk t).view.emb (ix2 i l : S256x3072.Idx)
      = (ix2 (⟨t.val * 256 + i.val, by omega⟩ : Fin 24576) l : S24576x3072.Idx) := by
    blk_ext [idx t]
  rw [hO]
  refine (pay_at ..).trans (Eq.trans ?_ (Cert.Reference3Ideal.Value.REF_at ..).symm)
  simp only [hX, hG, hB, hS, hW, Cert.Reference3Ideal.Value.rowAt]

/-- The result array is the reference of the arguments. -/
theorem final (c : Dev nD) :
    (dats m 0 c).arrAt 5 cfg0.N = Cert.Reference3Ideal.Value.REF (rows m c) (gain m c) (table m c) (weights m c) := by
  refine (dats m 0 c).arrAt_eq_of_covers 5 _ (by decide +kernel) fun t _ y => ?_
  blk_simp
  rw [after0_5]
  frame_out
  obtain ⟨i, l, rfl⟩ : ∃ (i : Fin 256) (l : Fin 3072), y = ix2 i l := ⟨y 0, y 1, eq_ix2 y⟩
  exact point m c t i l

end Cert.Kernel3Ideal.Value

namespace Cert.Proof

/-- The reference terminates and leaves its arguments unchanged. -/
theorem ab_frame_ref : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

/-- The idealized kernel computes the reference. -/
theorem ab_algebraic : Cert.algebraic_Kernel3Ideal_Reference3Ideal := by
  intro m g m' g' _ hagree
  refine ⟨fun c => Cert.Reference3Ideal.Value.REF (Cert.Kernel3Ideal.Value.rows m c) (Cert.Kernel3Ideal.Value.gain m c)
    (Cert.Kernel3Ideal.Value.table m c) (Cert.Kernel3Ideal.Value.weights m c), ?_, ?_⟩
  · refine (θ_run Cert.Kernel3Ideal.defs _ _).mono (fun r h c => ⟨?_, h.2 c⟩)
      (θ_run_and (Cert.Kernel3Ideal.Gen.run_main m g) (Cert.Kernel3Ideal.Gen.unchanged m g))
    replace h := h.1
    exact ((h c).1 5).trans (Cert.Kernel3Ideal.Value.final m c)
  · refine (θ_run Cert.Reference3Ideal.defs _ _).mono (fun r h c => ?_) (Cert.Reference3Ideal.Value.run m' g')
    obtain ⟨h0, h1, h2, h3⟩ := hagree c
    refine ⟨(h c).1.trans ?_, (h c).2⟩
    show Cert.Reference3Ideal.Value.REF _ _ _ _ = _
    rw [h0, h1, h2, h3]

end Cert.Proof

end
-- ==== Proof.Proj.Cd.lean ====
/- The norm and input projection of the second layer pair, whose weights are wider: its payload and
   its reference over the rows already read: its RESULT ARRAY against the reference, then the two claims. -/
module

public import proofs.«01_k».proof.Defs
public import proofs.«01_k».proof.Proof.Gen.Kernel4Ideal.Frame
public import proofs.«01_k».proof.Proof.Gen.Reference4Ideal.Run
public import proofs.«01_k».proof.Proof.Proj.Block
public import proofs.«01_k».proof.Proof.Proj.Reference
public import proofs.«01_k».proof.Proof.Proj.Ab
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Reference4Ideal.Value
open Cert.Reference4Ideal Cert.Reference4Ideal.Gen
open Cert.Reference3Ideal.Value (ctxIn latIn ctxNorm latNorm ctxMod latMod rowAt ctxRow_at latRow_at)

/-- The two parts multiplied by the weights. -/
def ctxDot (h : FVec Ideal S32x256x1024 .f32) (W : FVec Ideal S1024x3584 .f32) : FVec Ideal S32x256x3584 .f32 :=
  Host.dotGeneral dot_S32x256x1024_S1024x3584_S32x256x3584_2_0_01_1_n_n none h W

@[inherit_doc ctxDot]
def latDot (h : FVec Ideal S4x4096x1024 .f32) (W : FVec Ideal S1024x3584 .f32) : FVec Ideal S4x4096x3584 .f32 :=
  Host.dotGeneral dot_S4x4096x1024_S1024x3584_S4x4096x3584_2_0_01_1_n_n none h W

/-- The two parts joined. -/
def join (a : FVec Ideal S32x256x3584 .f32) (b : FVec Ideal S4x4096x3584 .f32) : FVec Ideal S24576x3584 .f32 :=
  concatenate S24576x3584 0 [⟨S8192x3584, (shapeCast _ a shapeCasts_S32x256x3584_S8192x3584)⟩, ⟨S16384x3584, (shapeCast _ b shapeCasts_S4x4096x3584_S16384x3584)⟩] concatenates_S8192x3584_S16384x3584_S24576x3584_d0

/-- The whole reference. -/
def REF (X : FVec Ideal S24576x1024 .f32) (g : FVec Ideal S1024 .f32) (M : FVec Ideal S8x1x6144 .f32) (W : FVec Ideal S1024x3584 .f32) :
    FVec Ideal S24576x3584 .f32 :=
  join (ctxDot (ctxMod (ctxNorm (ctxIn X) g) M) W) (latDot (latMod (latNorm (latIn X) g) M) W)

theorem ctxDot_at (h : FVec Ideal S32x256x1024 .f32) (W : FVec Ideal S1024x3584 .f32) (b : Fin 32) (i : Fin 256) (l : Fin 3584) :
    ctxDot h W (ix3 b i l) = ∑ k : Fin 1024, h (ix3 b i k) * W (ix2 k l) := by
  pointwise [ctxDot]

theorem latDot_at (h : FVec Ideal S4x4096x1024 .f32) (W : FVec Ideal S1024x3584 .f32) (b : Fin 4) (i : Fin 4096) (l : Fin 3584) :
    latDot h W (ix3 b i l) = ∑ k : Fin 1024, h (ix3 b i k) * W (ix2 k l) := by
  pointwise [latDot]

theorem join_at (a : FVec Ideal S32x256x3584 .f32) (b : FVec Ideal S4x4096x3584 .f32) (r : Fin 24576) (l : Fin 3584) :
    join a b (ix2 r l) = if h : r.val < 8192 then a (ix3 ⟨r.val / 256, by omega⟩ ⟨r.val % 256, by omega⟩ l)
      else b (ix3 ⟨(r.val - 8192) / 4096, by omega⟩ ⟨(r.val - 8192) % 4096, by omega⟩ l) := by
  pointwise [join]

/-- The reference at an index: the token's row times the column of weights. -/
theorem REF_at (X : FVec Ideal S24576x1024 .f32) (g : FVec Ideal S1024 .f32) (M : FVec Ideal S8x1x6144 .f32) (W : FVec Ideal S1024x3584 .f32)
    (r : Fin 24576) (l : Fin 3584) : REF X g M W (ix2 r l) = ∑ k : Fin 1024, rowAt X g M r k * W (ix2 k l) := by
  rw [REF, join_at]
  by_cases h : r.val < 8192
  · rw [dif_pos h, ctxDot_at]
    simp only [ctxRow_at X g M r h]
  · rw [dif_neg h, latDot_at]
    simp only [latRow_at X g M r h]

end Cert.Reference4Ideal.Value

namespace Cert.Kernel4Ideal.Value
open Cert.Kernel4Ideal Cert.Kernel4Ideal.Gen Cert.Proj

/-- The block's rows times the weights. -/
def blkDot (h : FVec Ideal S256x1024 .bf16) (w : FVec Ideal S1024x3584 .bf16) : FVec Ideal S256x3584 .f32 :=
  matmul dot_S256x1024_S1024x3584_S256x3584_1_0_0_1_n_n none h (shapeCast S1024x3584 w shapeCasts_S1024x3584_S1024x3584)
    (constant S256x3584 .f32 0x00000000#32)

theorem blkDot_at (h : FVec Ideal S256x1024 .bf16) (w : FVec Ideal S1024x3584 .bf16) (i : Fin 256) (l : Fin 3584) :
    blkDot h w (ix2 i l) = ∑ k : Fin 1024, h (ix2 i k) * w (ix2 k l) := by
  pointwise [blkDot]

/-- What the body stores is the rows times the weights. -/
theorem pay_eq (x : Vec Ideal S256x1024 .f32) (g : Vec Ideal S1x1024 .f32) (sc sh : Vec Ideal S1x1x1024 .f32) (w : Vec Ideal S1024x3584 .bf16) :
    k0_pay1 (F := Ideal) x g sc sh w = blkDot (Cert.Kernel3Ideal.Value.blkMod (Cert.Kernel3Ideal.Value.blkNorm x g) sc sh) w := rfl

theorem pay_at (x : Vec Ideal S256x1024 .f32) (g : Vec Ideal S1x1024 .f32) (sc sh : Vec Ideal S1x1x1024 .f32) (w : Vec Ideal S1024x3584 .bf16)
    (i : Fin 256) (l : Fin 3584) :
    k0_pay1 (F := Ideal) x g sc sh w (ix2 i l)
      = ∑ k : Fin 1024, modded (fun j => x (ix2 i j)) (fun j => g (ix2 0 j)) (fun j => sc (ix3 0 0 j)) (fun j => sh (ix3 0 0 j)) k * w (ix2 k l) := by
  rw [pay_eq, blkDot_at]
  simp only [Cert.Kernel3Ideal.Value.blkRow_at]

variable (m : (ℓ : Loc nD τ sig) → Buf (Elt Ideal) ℓ)

/-- The windows' block indices at every grid point. -/
theorem idx : ∀ t : Fin cfg0.N, win0_0.index t = ![t.val, 0] ∧ win0_1.index t = ![0, 0]
    ∧ win0_2.index t = ![if t.val < 32 then 0 else 1 + (t.val - 32) / 16, 0, 0]
    ∧ win0_3.index t = ![if t.val < 32 then 0 else 1 + (t.val - 32) / 16, 0, 1]
    ∧ win0_4.index t = ![0, 0] ∧ win0_5.index t = ![t.val, 0] ∧ t.val < 96 :=
  (by decide +kernel : ∀ t : Fin grid0.N, _)

/-- The rows, the gain, the modulation table and the weights. -/
abbrev rows (c : Dev nD) : FVec Ideal S24576x1024 .f32 := m ((c : Thread nD τ).loc main_arg0)
@[inherit_doc rows]
abbrev gain (c : Dev nD) : FVec Ideal S1024 .f32 := m ((c : Thread nD τ).loc main_arg1)
@[inherit_doc rows]
abbrev table (c : Dev nD) : FVec Ideal S8x1x6144 .f32 := m ((c : Thread nD τ).loc main_arg2)
@[inherit_doc rows]
abbrev weights (c : Dev nD) : FVec Ideal S1024x3584 .f32 := m ((c : Thread nD τ).loc main_arg3)

/-- The weights as the kernel reads them: rounded to bf16. -/
theorem V_weights (c : Dev nD) : V m c main_v0 = truncf .bf16 (weights m c) bitsLt_bf16_f32 := by
  show StableHlo.after hostOps0 _ (Proc.devRef .tc main_v0) = _
  after_results

/-- The gain as the kernel reads it: one row. -/
theorem V_gain (c : Dev nD) : V m c main_v1 = shapeCast S1x1024 (gain m c) shapeCasts_S1024_S1x1024 := by
  show StableHlo.after hostOps0 _ (Proc.devRef .tc main_v1) = _
  after_results
  rfl

/-- One point's block is the reference at the array indices under it. -/
theorem point (c : Dev nD) (t : Fin cfg0.N) (i : Fin 256) (l : Fin 3584) :
    k0_pay1 (F := Ideal) (iblk m c 0 t) (iblk m c 1 t) (iblk m c 3 t) (iblk m c 2 t) (iblk m c 4 t) (ix2 i l)
      = Cert.Reference4Ideal.Value.REF (rows m c) (gain m c) (table m c) (weights m c) (((cfg0.win 5).blk t).view.emb (ix2 i l)) := by
  obtain ⟨e0, e1, e2, e3, e4, e5, ht⟩ := idx t
  have hr := Cert.Kernel3Ideal.Value.row_of t.val i.val i.isLt (by omega)
  have hX : ∀ k : Fin 1024, iblk m c 0 t (ix2 i k) = rows m c (ix2 ⟨t.val * 256 + i.val, by omega⟩ k) := fun k => by
    blk_ext [iblk, V, idx t]
  have hG : ∀ k : Fin 1024, iblk m c 1 t (ix2 0 k) = gain m c (ix1 k) := fun k => by
    have h : iblk m c 1 t (ix2 0 k) = V m c main_v1 (ix2 0 k) := by blk_ext [iblk, idx t]
    rw [h, V_gain]
    pointwise []
  have hB : ∀ k : Fin 1024, iblk m c 2 t (ix3 0 0 k) = table m c (ix3 (modRow ⟨t.val * 256 + i.val, by omega⟩) 0 ⟨k.val, by omega⟩) := fun k => by
    blk_ext [iblk, V, idx t]
  have hS : ∀ k : Fin 1024, iblk m c 3 t (ix3 0 0 k) = table m c (ix3 (modRow ⟨t.val * 256 + i.val, by omega⟩) 0 ⟨1024 + k.val, by omega⟩) := fun k => by
    blk_ext [iblk, V, idx t]
  have hW : ∀ k : Fin 1024, iblk m c 4 t (ix2 k l) = weights m c (ix2 k l) := fun k => by
    have h : iblk m c 4 t (ix2 k l) = V m c main_v0 (ix2 k l) := by blk_ext [iblk, idx t]
    rw [h, V_weights]
    pointwise []
  have hO : ((cfg0.win 5).blk t).view.emb (ix2 i l : S256x3584.Idx)
      = (ix2 (⟨t.val * 256 + i.val, by omega⟩ : Fin 24576) l : S24576x3584.Idx) := by
    blk_ext [idx t]
  rw [hO]
  refine (pay_at ..).trans (Eq.trans ?_ (Cert.Reference4Ideal.Value.REF_at ..).symm)
  simp only [hX, hG, hB, hS, hW, Cert.Reference3Ideal.Value.rowAt]

/-- The result array is the reference of the arguments. -/
theorem final (c : Dev nD) :
    (dats m 0 c).arrAt 5 cfg0.N = Cert.Reference4Ideal.Value.REF (rows m c) (gain m c) (table m c) (weights m c) := by
  refine (dats m 0 c).arrAt_eq_of_covers 5 _ (by decide +kernel) fun t _ y => ?_
  blk_simp
  rw [after0_5]
  frame_out
  obtain ⟨i, l, rfl⟩ : ∃ (i : Fin 256) (l : Fin 3584), y = ix2 i l := ⟨y 0, y 1, eq_ix2 y⟩
  exact point m c t i l

end Cert.Kernel4Ideal.Value

namespace Cert.Proof

/-- The reference terminates and leaves its arguments unchanged. -/
theorem cd_frame_ref : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

/-- The idealized kernel computes the reference. -/
theorem cd_algebraic : Cert.algebraic_Kernel4Ideal_Reference4Ideal := by
  intro m g m' g' _ hagree
  refine ⟨fun c => Cert.Reference4Ideal.Value.REF (Cert.Kernel4Ideal.Value.rows m c) (Cert.Kernel4Ideal.Value.gain m c)
    (Cert.Kernel4Ideal.Value.table m c) (Cert.Kernel4Ideal.Value.weights m c), ?_, ?_⟩
  · refine (θ_run Cert.Kernel4Ideal.defs _ _).mono (fun r h c => ⟨?_, h.2 c⟩)
      (θ_run_and (Cert.Kernel4Ideal.Gen.run_main m g) (Cert.Kernel4Ideal.Gen.unchanged m g))
    replace h := h.1
    exact ((h c).1 5).trans (Cert.Kernel4Ideal.Value.final m c)
  · refine (θ_run Cert.Reference4Ideal.defs _ _).mono (fun r h c => ?_) (Cert.Reference4Ideal.Value.run m' g')
    obtain ⟨h0, h1, h2, h3⟩ := hagree c
    refine ⟨(h c).1.trans ?_, (h c).2⟩
    show Cert.Reference4Ideal.Value.REF _ _ _ _ = _
    rw [h0, h1, h2, h3]

end Cert.Proof

end
-- ==== Proof.Proj.Out.lean ====
/- The OUTPUT PROJECTION with its gate and residual: the reference at an index, one grid point's block, the result array, and
   the two claims. The kernel multiplies the two halves of the features by the two halves of the weights and adds; the
   reference joins the halves first. -/
module

public import proofs.«01_k».proof.Defs
public import proofs.«01_k».proof.Proof.Gen.Kernel5Ideal.Frame
public import proofs.«01_k».proof.Proof.Gen.Reference5Ideal.Run
public import proofs.«01_k».proof.Proof.Proj.Ab
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Reference5Ideal.Value
open Cert.Reference5Ideal Cert.Reference5Ideal.Gen Cert.Proj
open Cert.Reference3Ideal.Value (ctxIn latIn ctxIn_at latIn_at)

/-- The two halves of the features side by side. -/
def feats (a b : FVec Ideal S24576x512 .bf16) : FVec Ideal S24576x1024 .f32 :=
  extf .f32 (concatenate S24576x1024 1 [⟨S24576x512, a⟩, ⟨S24576x512, b⟩] concatenates_S24576x512_S24576x512_S24576x1024_d1) bitsLt_bf16_f32

/-- The context part: the rows plus the gate times the projected features. -/
def ctxOut (x y : FVec Ideal S32x256x1024 .f32) (W : FVec Ideal S1024x1024 .f32) (M : FVec Ideal S8x1x6144 .f32) : FVec Ideal S32x256x1024 .f32 :=
  addf x (mulf (broadcastInDim S32x256x1024 ![0, 1, 2] bcast_S1x1x1024_S32x256x1024_0_1_2 (extractStridedSlice S1x1x1024 ![0, 0, 2048] (extractStridedSlice S1x1x6144 ![0, 0, 0] M slices_S8x1x6144_S1x1x6144_0_0_0) slices_S1x1x6144_S1x1x1024_0_0_2048)) (Host.dotGeneral dot_S32x256x1024_S1024x1024_S32x256x1024_2_0_01_1_n_n none y W))

/-- The latent part. -/
def latOut (x y : FVec Ideal S4x4096x1024 .f32) (W : FVec Ideal S1024x1024 .f32) (M : FVec Ideal S8x1x6144 .f32) : FVec Ideal S4x4096x1024 .f32 :=
  addf x (mulf (broadcastInDim S4x4096x1024 ![0, 1, 2] bcast_S4x1x1024_S4x4096x1024_0_1_2 (extractStridedSlice S4x1x1024 ![0, 0, 2048] (extractStridedSlice S4x1x6144 ![1, 0, 0] M slices_S8x1x6144_S4x1x6144_1_0_0) slices_S4x1x6144_S4x1x1024_0_0_2048)) (Host.dotGeneral dot_S4x4096x1024_S1024x1024_S4x4096x1024_2_0_01_1_n_n none y W))

/-- The two parts joined. -/
def join (a : FVec Ideal S32x256x1024 .f32) (b : FVec Ideal S4x4096x1024 .f32) : FVec Ideal S24576x1024 .f32 :=
  concatenate S24576x1024 0 [⟨S8192x1024, (shapeCast _ a shapeCasts_S32x256x1024_S8192x1024)⟩, ⟨S16384x1024, (shapeCast _ b shapeCasts_S4x4096x1024_S16384x1024)⟩] concatenates_S8192x1024_S16384x1024_S24576x1024_d0

/-- The whole reference. -/
def REF (a b : FVec Ideal S24576x512 .bf16) (W : FVec Ideal S1024x1024 .f32) (X : FVec Ideal S24576x1024 .f32) (M : FVec Ideal S8x1x6144 .f32) :
    FVec Ideal S24576x1024 .f32 :=
  join (ctxOut (ctxIn X) (ctxIn (feats a b)) W M) (latOut (latIn X) (latIn (feats a b)) W M)

theorem feats_left (a b : FVec Ideal S24576x512 .bf16) (r : Fin 24576) (k : Fin 512) :
    feats a b (ix2 r ⟨k.val, by omega⟩) = a (ix2 r k) := by
  pointwise [feats]

theorem feats_right (a b : FVec Ideal S24576x512 .bf16) (r : Fin 24576) (k : Fin 512) :
    feats a b (ix2 r ⟨512 + k.val, by omega⟩) = b (ix2 r k) := by
  pointwise [feats]

theorem ctxOut_at (x y : FVec Ideal S32x256x1024 .f32) (W : FVec Ideal S1024x1024 .f32) (M : FVec Ideal S8x1x6144 .f32) (b : Fin 32) (i : Fin 256)
    (l : Fin 1024) : ctxOut x y W M (ix3 b i l) = x (ix3 b i l)
      + M (ix3 0 0 ⟨2048 + l.val, by omega⟩) * ∑ k : Fin 1024, y (ix3 b i k) * W (ix2 k l) := by
  pointwise [ctxOut]

theorem latOut_at (x y : FVec Ideal S4x4096x1024 .f32) (W : FVec Ideal S1024x1024 .f32) (M : FVec Ideal S8x1x6144 .f32) (b : Fin 4) (i : Fin 4096)
    (l : Fin 1024) : latOut x y W M (ix3 b i l) = x (ix3 b i l)
      + M (ix3 ⟨1 + b.val, by omega⟩ 0 ⟨2048 + l.val, by omega⟩) * ∑ k : Fin 1024, y (ix3 b i k) * W (ix2 k l) := by
  pointwise [latOut]

theorem join_at (a : FVec Ideal S32x256x1024 .f32) (b : FVec Ideal S4x4096x1024 .f32) (r : Fin 24576) (l : Fin 1024) :
    join a b (ix2 r l) = if h : r.val < 8192 then a (ix3 ⟨r.val / 256, by omega⟩ ⟨r.val % 256, by omega⟩ l)
      else b (ix3 ⟨(r.val - 8192) / 4096, by omega⟩ ⟨(r.val - 8192) % 4096, by omega⟩ l) := by
  pointwise [join]

/-- The projected features of a token, the two halves summed apart. -/
theorem feats_sum (a b : FVec Ideal S24576x512 .bf16) (W : FVec Ideal S1024x1024 .f32) (r : Fin 24576) (l : Fin 1024) :
    ∑ k : Fin 1024, feats a b (ix2 r k) * W (ix2 k l)
      = ∑ k : Fin 512, a (ix2 r k) * W (ix2 ⟨k.val, by omega⟩ l) + ∑ k : Fin 512, b (ix2 r k) * W (ix2 ⟨512 + k.val, by omega⟩ l) := by
  rw [Fin.sum_univ_two_halves 512 512 rfl]
  refine congrArg₂ (· + ·) (Finset.sum_congr rfl fun k _ => ?_) (Finset.sum_congr rfl fun k _ => ?_)
  · rw [feats_left]
  · rw [feats_right]

/-- The reference at an index. -/
theorem REF_at (a b : FVec Ideal S24576x512 .bf16) (W : FVec Ideal S1024x1024 .f32) (X : FVec Ideal S24576x1024 .f32) (M : FVec Ideal S8x1x6144 .f32)
    (r : Fin 24576) (l : Fin 1024) : REF a b W X M (ix2 r l) = X (ix2 r l) + M (ix3 (modRow r) 0 ⟨2048 + l.val, by omega⟩)
      * (∑ k : Fin 512, a (ix2 r k) * W (ix2 ⟨k.val, by omega⟩ l) + ∑ k : Fin 512, b (ix2 r k) * W (ix2 ⟨512 + k.val, by omega⟩ l)) := by
  rw [REF, join_at, ← feats_sum]
  by_cases h : r.val < 8192
  · have e : (⟨r.val / 256 * 256 + r.val % 256, by omega⟩ : Fin 24576) = r := Fin.ext (by show r.val / 256 * 256 + r.val % 256 = r.val; omega)
    rw [dif_pos h, ctxOut_at, modRow_ctx r h]
    simp only [ctxIn_at, e]
  · have e : (⟨8192 + ((r.val - 8192) / 4096 * 4096 + (r.val - 8192) % 4096), by omega⟩ : Fin 24576) = r :=
      Fin.ext (by show 8192 + ((r.val - 8192) / 4096 * 4096 + (r.val - 8192) % 4096) = r.val; omega)
    rw [dif_neg h, latOut_at, modRow_lat r h]
    simp only [latIn_at, e]

end Cert.Reference5Ideal.Value

namespace Cert.Kernel5Ideal.Value
open Cert.Kernel5Ideal Cert.Kernel5Ideal.Gen Cert.Proj

/-- What the body stores, at an index. -/
theorem pay_at (a : Vec Ideal S256x512 .bf16) (w : Vec Ideal S512x1024 .bf16) (b : Vec Ideal S256x512 .bf16) (w' : Vec Ideal S512x1024 .bf16)
    (x : Vec Ideal S256x1024 .f32) (g : Vec Ideal S1x1x1024 .f32) (i : Fin 256) (l : Fin 1024) :
    k0_pay1 (F := Ideal) a w b w' x g (ix2 i l) = x (ix2 i l) + g (ix3 0 0 l)
      * (∑ k : Fin 512, a (ix2 i k) * w (ix2 k l) + ∑ k : Fin 512, b (ix2 i k) * w' (ix2 k l)) := by
  pointwise [k0_pay1]

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![if t.val < 32 then 0 else 1 + (t.val - 32) / 16, 0, 2]
    ∧ win0_5.index t = ![t.val, 0] ∧ t.val < 96 :=
  (by decide +kernel : ∀ t : Fin grid0.N, _)

/-- The two halves of the features, the weights, the rows and the modulation table. -/
abbrev left (c : Dev nD) : FVec Ideal S24576x512 .bf16 := m ((c : Thread nD τ).loc main_arg0)
@[inherit_doc left]
abbrev right (c : Dev nD) : FVec Ideal S24576x512 .bf16 := m ((c : Thread nD τ).loc main_arg1)
@[inherit_doc left]
abbrev weights (c : Dev nD) : FVec Ideal S1024x1024 .f32 := m ((c : Thread nD τ).loc main_arg2)
@[inherit_doc left]
abbrev rows (c : Dev nD) : FVec Ideal S24576x1024 .f32 := m ((c : Thread nD τ).loc main_arg3)
@[inherit_doc left]
abbrev table (c : Dev nD) : FVec Ideal S8x1x6144 .f32 := m ((c : Thread nD τ).loc main_arg4)

/-- The weights as the kernel reads them: rounded to bf16. -/
theorem V_weights (c : Dev nD) : V m c main_v0 = truncf .bf16 (weights m c) bitsLt_bf16_f32 := by
  show StableHlo.after hostOps0 _ (Proc.devRef .tc main_v0) = _
  after_results

/-- One point's block is the reference at the array indices under it. -/
theorem point (c : Dev nD) (t : Fin cfg0.N) (i : Fin 256) (l : Fin 1024) :
    k0_pay1 (F := Ideal) (iblk m c 0 t) (View.ld (iblk m c 2 t) r0_1) (iblk m c 1 t) (View.ld (iblk m c 2 t) r0_2) (iblk m c 3 t) (iblk m c 4 t) (ix2 i l)
      = Cert.Reference5Ideal.Value.REF (left m c) (right m c) (weights m c) (rows m c) (table m c) (((cfg0.win 5).blk t).view.emb (ix2 i l)) := by
  obtain ⟨e0, e1, e2, e3, e4, e5, ht⟩ := idx t
  have hr := Cert.Kernel3Ideal.Value.row_of t.val i.val i.isLt (by omega)
  have hA : ∀ k : Fin 512, iblk m c 0 t (ix2 i k) = left m c (ix2 ⟨t.val * 256 + i.val, by omega⟩ k) := fun k => by
    blk_ext [iblk, V, idx t]
  have hB : ∀ k : Fin 512, iblk m c 1 t (ix2 i k) = right m c (ix2 ⟨t.val * 256 + i.val, by omega⟩ k) := fun k => by
    blk_ext [iblk, V, idx t]
  have hX : iblk m c 3 t (ix2 i l) = rows m c (ix2 ⟨t.val * 256 + i.val, by omega⟩ l) := by
    blk_ext [iblk, V, idx t]
  have hG : iblk m c 4 t (ix3 0 0 l) = table m c (ix3 (modRow ⟨t.val * 256 + i.val, by omega⟩) 0 ⟨2048 + l.val, by omega⟩) := by
    blk_ext [iblk, V, idx t]
  have hV : ∀ k : Fin 1024, iblk m c 2 t (ix2 k l) = weights m c (ix2 k l) := fun k => by
    have h : iblk m c 2 t (ix2 k l) = V m c main_v0 (ix2 k l) := by blk_ext [iblk, idx t]
    rw [h, V_weights]
    pointwise []
  have hW : ∀ k : Fin 512, View.ld (iblk m c 2 t) r0_1 (ix2 k l) = weights m c (ix2 ⟨k.val, by omega⟩ l) := fun k => by
    refine Eq.trans ?_ (hV _)
    refine congrArg (iblk m c 2 t : S1024x1024.Idx → Ideal .bf16) ?_
    idx_ext
  have hW' : ∀ k : Fin 512, View.ld (iblk m c 2 t) r0_2 (ix2 k l) = weights m c (ix2 ⟨512 + k.val, by omega⟩ l) := fun k => by
    refine Eq.trans ?_ (hV _)
    refine congrArg (iblk m c 2 t : S1024x1024.Idx → Ideal .bf16) ?_
    idx_ext
  have hO : ((cfg0.win 5).blk t).view.emb (ix2 i l : S256x1024.Idx)
      = (ix2 (⟨t.val * 256 + i.val, by omega⟩ : Fin 24576) l : S24576x1024.Idx) := by
    blk_ext [idx t]
  rw [hO]
  refine (pay_at ..).trans (Eq.trans ?_ (Cert.Reference5Ideal.Value.REF_at ..).symm)
  simp only [hA, hB, hX, hG, hW, hW']

/-- The result array is the reference of the arguments. -/
theorem final (c : Dev nD) : (dats m 0 c).arrAt 5 cfg0.N
    = Cert.Reference5Ideal.Value.REF (left m c) (right m c) (weights m c) (rows m c) (table m c) := by
  refine (dats m 0 c).arrAt_eq_of_covers 5 _ (by decide +kernel) fun t _ y => ?_
  blk_simp
  rw [after0_5]
  frame_out
  obtain ⟨i, l, rfl⟩ : ∃ (i : Fin 256) (l : Fin 1024), y = ix2 i l := ⟨y 0, y 1, eq_ix2 y⟩
  exact point m c t i l

end Cert.Kernel5Ideal.Value

namespace Cert.Proof

/-- The reference terminates and leaves its arguments unchanged. -/
theorem out_frame_ref : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

/-- The idealized kernel computes the reference. -/
theorem out_algebraic : Cert.algebraic_Kernel5Ideal_Reference5Ideal := by
  intro m g m' g' _ hagree
  refine ⟨fun c => Cert.Reference5Ideal.Value.REF (Cert.Kernel5Ideal.Value.left m c) (Cert.Kernel5Ideal.Value.right m c)
    (Cert.Kernel5Ideal.Value.weights m c) (Cert.Kernel5Ideal.Value.rows m c) (Cert.Kernel5Ideal.Value.table m c), ?_, ?_⟩
  · refine (θ_run Cert.Kernel5Ideal.defs _ _).mono (fun r h c => ⟨?_, h.2 c⟩)
      (θ_run_and (Cert.Kernel5Ideal.Gen.run_main m g) (Cert.Kernel5Ideal.Gen.unchanged m g))
    replace h := h.1
    exact ((h c).1 5).trans (Cert.Kernel5Ideal.Value.final m c)
  · refine (θ_run Cert.Reference5Ideal.defs _ _).mono (fun r h c => ?_) (Cert.Reference5Ideal.Value.run m' g')
    obtain ⟨h0, h1, h2, h3, h4⟩ := hagree c
    refine ⟨(h c).1.trans ?_, (h c).2⟩
    show Cert.Reference5Ideal.Value.REF _ _ _ _ _ = _
    rw [h0, h1, h2, h3, h4]

end Cert.Proof

end
-- ==== Proof.Proj.Norm.lean ====
/- The FINAL NORM: the array of normed rows that the kernel leaves, the two results cut out of it against the reference's two
   norms, and the two claims. -/
module

public import proofs.«01_k».proof.Defs
public import proofs.«01_k».proof.Proof.Gen.Kernel6Ideal.Frame
public import proofs.«01_k».proof.Proof.Gen.Reference6Ideal.Run
public import proofs.«01_k».proof.Proof.Proj.Block
public import proofs.«01_k».proof.Proof.Proj.Reference
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel6Ideal.Value
open Cert.Kernel6Ideal Cert.Kernel6Ideal.Gen Cert.Proj
open Cert.Reference3Ideal.Value (ctxIn latIn ctxNorm latNorm normAt ctxIn_at latIn_at ctxNormed_at latNormed_at)

/-- The normed rows of all tokens. -/
def normArr (X : FVec Ideal S24576x1024 .f32) (g : FVec Ideal S1024 .f32) : FVec Ideal S24576x1024 .f32 := fun y => normAt X g (y 0) (y 1)

theorem ctx_eq (X : FVec Ideal S24576x1024 .f32) (g : FVec Ideal S1024 .f32) : ctxIn (normArr X g) = ctxNorm (ctxIn X) g := by
  funext y
  obtain ⟨b, i, k, rfl⟩ : ∃ (b : Fin 32) (i : Fin 256) (k : Fin 1024), y = ix3 b i k := ⟨y 0, y 1, y 2, eq_ix3 y⟩
  rw [ctxIn_at, ctxNormed_at]
  rfl

theorem lat_eq (X : FVec Ideal S24576x1024 .f32) (g : FVec Ideal S1024 .f32) : latIn (normArr X g) = latNorm (latIn X) g := by
  funext y
  obtain ⟨b, i, k, rfl⟩ : ∃ (b : Fin 4) (i : Fin 4096) (k : Fin 1024), y = ix3 b i k := ⟨y 0, y 1, y 2, eq_ix3 y⟩
  rw [latIn_at, latNormed_at]
  rfl

/-- What the body stores is the block's rows normed. -/
theorem pay_eq (x : Vec Ideal S256x1024 .f32) (g : Vec Ideal S1x1024 .f32) :
    k0_pay1 (F := Ideal) x g = Cert.Kernel3Ideal.Value.blkNorm x g := rfl

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0] ∧ t.val < 96 :=
  (by decide +kernel : ∀ t : Fin grid0.N, _)

/-- The rows and the gain. -/
abbrev rows (c : Dev nD) : FVec Ideal S24576x1024 .f32 := m ((c : Thread nD τ).loc main_arg0)
@[inherit_doc rows]
abbrev gain (c : Dev nD) : FVec Ideal S1024 .f32 := m ((c : Thread nD τ).loc main_arg1)

/-- The gain as the kernel reads it: one row. -/
theorem V_gain (c : Dev nD) : V m c main_v0 = shapeCast S1x1024 (gain m c) shapeCasts_S1024_S1x1024 := by
  show StableHlo.after hostOps0 _ (Proc.devRef .tc main_v0) = _
  after_results
  rfl

/-- One point's block is the normed rows at the array indices under it. -/
theorem point (c : Dev nD) (t : Fin cfg0.N) (i : Fin 256) (k : Fin 1024) :
    k0_pay1 (F := Ideal) (iblk m c 0 t) (iblk m c 1 t) (ix2 i k) = normArr (rows m c) (gain m c) (((cfg0.win 2).blk t).view.emb (ix2 i k)) := by
  obtain ⟨e0, e1, e2, ht⟩ := idx t
  have hX : ∀ k : Fin 1024, iblk m c 0 t (ix2 i k) = rows m c (ix2 ⟨t.val * 256 + i.val, by omega⟩ k) := fun k => by
    blk_ext [iblk, V, idx t]
  have hG : ∀ k : Fin 1024, iblk m c 1 t (ix2 0 k) = gain m c (ix1 k) := fun k => by
    have h : iblk m c 1 t (ix2 0 k) = V m c main_v0 (ix2 0 k) := by blk_ext [iblk, idx t]
    rw [h, V_gain]
    pointwise []
  have hO : ((cfg0.win 2).blk t).view.emb (ix2 i k : S256x1024.Idx)
      = (ix2 (⟨t.val * 256 + i.val, by omega⟩ : Fin 24576) k : S24576x1024.Idx) := by
    blk_ext [idx t]
  rw [hO, pay_eq]
  refine (Cert.Kernel3Ideal.Value.blkNorm_at ..).trans ?_
  simp only [hX, hG]
  rfl

/-- The array the kernel leaves is the normed rows. -/
theorem final (c : Dev nD) : (dats m 0 c).arrAt 2 cfg0.N = normArr (rows m c) (gain m c) := by
  refine (dats m 0 c).arrAt_eq_of_covers 2 _ (by decide +kernel) fun t _ y => ?_
  blk_simp
  rw [after0_2]
  frame_out
  obtain ⟨i, l, rfl⟩ : ∃ (i : Fin 256) (l : Fin 1024), y = ix2 i l := ⟨y 0, y 1, eq_ix2 y⟩
  exact point m c t i l

/-- The array the kernel leaves, as the operations after it find it. -/
theorem W_arr (c : Dev nD) : Pipeline.withArrays (cfgs 0).spec c (V0 m c) (fun w => (dats m 0 c).arrAt w (cfgs 0).N) (Proc.devRef .tc main_v1)
    = normArr (rows m c) (gain m c) :=
  (Pipeline.withArrays_arr spec0 (by decide) c (V0 m c) _ 2).trans (final m c)

/-- The first result is the context part of the normed rows. -/
theorem W_ctx (c : Dev nD) : Pipeline.afterTail₀ cfgs (dats m) 0 (V0 m) [hostOps1] c main_v3 = ctxNorm (ctxIn (rows m c)) (gain m c) := by
  rw [← ctx_eq, ← W_arr m c]
  unfold Pipeline.afterTail₀
  after_results
  rfl

/-- The second result is the latent part. -/
theorem W_lat (c : Dev nD) : Pipeline.afterTail₀ cfgs (dats m) 0 (V0 m) [hostOps1] c main_v5 = latNorm (latIn (rows m c)) (gain m c) := by
  rw [← lat_eq, ← W_arr m c]
  unfold Pipeline.afterTail₀
  after_results
  rfl

end Cert.Kernel6Ideal.Value

namespace Cert.Proof
open Cert.Reference3Ideal.Value (ctxIn latIn ctxNorm latNorm)

/-- The reference terminates and leaves its arguments unchanged. -/
theorem norm_frame_ref : Cert.quiescent_Reference6Ideal := by
  intro m g _
  exact (θ_run Cert.Reference6Ideal.defs _ _).mono (fun r h => ⟨fun c => (h c).2.2, sem_eq_zero_of_no_sems (by decide) r.2⟩)
    (Cert.Reference6Ideal.Value.run m g)

/-- The idealized kernel computes the reference's two results. -/
theorem norm_algebraic : Cert.algebraic_Kernel6Ideal_Reference6Ideal := by
  intro m g m' g' _ hagree
  refine ⟨fun c => ctxNorm (ctxIn (Cert.Kernel6Ideal.Value.rows m c)) (Cert.Kernel6Ideal.Value.gain m c),
    fun c => latNorm (latIn (Cert.Kernel6Ideal.Value.rows m c)) (Cert.Kernel6Ideal.Value.gain m c), ?_, ?_⟩
  · refine (θ_run Cert.Kernel6Ideal.defs _ _).mono (fun r h c => ⟨?_, ?_, h.2 c⟩)
      (θ_run_and (Cert.Kernel6Ideal.Gen.run_main m g) (Cert.Kernel6Ideal.Gen.unchanged m g))
    · replace h := h.1
      exact ((h c).2 Cert.Kernel6Ideal.main_v3 (Pipeline.mem_restRefs_of Cert.Kernel6Ideal.main_v3 (by decide) (by decide))).trans
        (Cert.Kernel6Ideal.Value.W_ctx m c)
    · replace h := h.1
      exact ((h c).2 Cert.Kernel6Ideal.main_v5 (Pipeline.mem_restRefs_of Cert.Kernel6Ideal.main_v5 (by decide) (by decide))).trans
        (Cert.Kernel6Ideal.Value.W_lat m c)
  · refine (θ_run Cert.Reference6Ideal.defs _ _).mono (fun r h c => ?_) (Cert.Reference6Ideal.Value.run m' g')
    obtain ⟨h0, h1⟩ := hagree c
    refine ⟨(h c).1.trans ?_, (h c).2.1.trans ?_, (h c).2.2⟩
    · show ctxNorm (ctxIn _) _ = _
      rw [h0, h1]
    · show latNorm (latIn _) _ = _
      rw [h0, h1]

end Cert.Proof

end
-- ==== Proof.Cond.Table.lean ====
/- THE MODULATION TABLE as numbers: each of the conditioning vectors through a sigmoid-weighted unit, times a layer's weights,
   plus its bias. -/
module

public import Idealize.ShloMosaic.Lib.Pipeline.ValueKit
public import Idealize.ShloMosaic.Lib.Pointwise

@[expose] public section

noncomputable section

open Idealize.ShloMosaic

namespace Cert.Cond

/-- A number times its logistic. -/
def silu (x : EReal) : EReal := x * Ideal.logistic x

/-- An entry of the table from a conditioning vector, a column of weights and the bias there. -/
def entry (c w : Fin 1024 → EReal) (b : EReal) : EReal := (∑ k : Fin 1024, silu (c k) * w k) + b

end Cert.Cond

end
-- ==== Proof.Cond.Rows.lean ====
/- WRITING ROWS INTO A MATRIX: a scatter at one literal start row, of a single row or of several rows one below the other, read
   at an index. -/
module

public import Idealize.ShloMosaic.Lib.Routing.OpsOne
public import Idealize.ShloMosaic.Lib.Routing.OpsSet
public import Idealize.ShloMosaic.Lib.Pipeline.ValueKit
public import Idealize.ShloMosaic.Lib.Pointwise

@[expose] public section

noncomputable section

open Idealize.ShloMosaic Idealize.ShloMosaic.Routing

namespace Cert.Rows

/-- Where an element of a single row lands: in the start row, in its own column. -/
theorem row_lands {R C : Nat} (d : ScatterDims (shape2 R C) (shape1 1) (shape1 C)) (hiw : d.insertedWindowDims = [0])
    (hsd : d.scatterDimsToOperandDims = [0]) (idx : IVec (shape1 1) 32) (k : Int) (hidx : (idx (ix1 0)).toInt = k)
    (j : Fin C) (r : Fin R) (e : Fin C) : d.resultIdx? (ix1 j) idx = some (ix2 r e) ↔ k = r.val ∧ j = e := by
  have hm : (0 : Fin 2) ∈ d.scatterDimsToOperandDims := by rw [hsd]; exact List.mem_singleton.2 rfl
  have hkept : d.sKept = [1] := by
    show (shape2 R C).kept d.insertedWindowDims = _
    rw [hiw]
    rfl
  have hwin0 : d.window (ix1 j) 0 = 0 := by
    unfold ScatterDims.window
    rw [dif_neg fun h => (of_decide_eq_true (List.mem_filter.1 h).2) (by rw [hiw]; exact List.mem_singleton.2 rfl)]
  have hwin1 : d.window (ix1 j) 1 = j.val := by
    unfold ScatterDims.window
    rw [dif_pos (by rw [hkept]; exact List.mem_singleton.2 rfl)]
    have q : ∀ X : Fin 1, (ix1 j X).val = j.val := fun X => by
      obtain rfl : X = 0 := Subsingleton.elim _ _
      rfl
    exact q _
  have hstart1 : d.start (ix1 j) idx 1 = 0 := by
    unfold ScatterDims.start
    rw [dif_neg fun h => by rw [hsd] at h; exact absurd (List.mem_singleton.1 h) (by decide : (1 : Fin 2) ≠ 0)]
  have hstart0 : d.start (ix1 j) idx 0 = k := by
    unfold ScatterDims.start
    rw [dif_pos hm]
    have hsi : d.siIdx (ix1 j) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, show ix2 r e = ValueIdx.ix2 r e from ValueIdx.eq_ix2 _, resultIdx?_ix2, hstart0, hwin0, hstart1, hwin1]
  omega

/-- Where an element of several rows lands: its own row below the start row, in its own column. -/
theorem rows_land {R C A : Nat} (d : ScatterDims (shape2 R C) (shape1 1) (shape2 A C)) (hiw : d.insertedWindowDims = [])
    (huw : d.updateWindowDims = [0, 1]) (hsd : d.scatterDimsToOperandDims = [0]) (idx : IVec (shape1 1) 32) (k : Int)
    (hidx : (idx (ix1 0)).toInt = k) (i : Fin A) (j : Fin C) (r : Fin R) (e : Fin C) :
    d.resultIdx? (ix2 i j) idx = some (ix2 r e) ↔ k + i.val = r.val ∧ j = e := by
  have hm : (0 : Fin 2) ∈ d.scatterDimsToOperandDims := by rw [hsd]; exact List.mem_singleton.2 rfl
  have hkept : d.sKept = [0, 1] := by
    show (shape2 R C).kept d.insertedWindowDims = _
    rw [hiw]
    rfl
  have hwin0 : d.window (ix2 i j) 0 = i.val := by
    unfold ScatterDims.window
    rw [dif_pos (by rw [hkept]; simp)]
    have q : ∀ X : Fin 2, X = 0 → (ix2 i j X).val = i.val := fun X h => by subst h; rfl
    refine q _ ?_
    simp only [huw, hkept]
    rfl
  have hwin1 : d.window (ix2 i j) 1 = j.val := by
    unfold ScatterDims.window
    rw [dif_pos (by rw [hkept]; simp)]
    have q : ∀ X : Fin 2, X = 1 → (ix2 i j X).val = j.val := fun X h => by subst h; rfl
    refine q _ ?_
    simp only [huw, hkept]
    rfl
  have hstart1 : d.start (ix2 i j) idx 1 = 0 := by
    unfold ScatterDims.start
    rw [dif_neg fun h => by rw [hsd] at h; exact absurd (List.mem_singleton.1 h) (by decide : (1 : Fin 2) ≠ 0)]
  have hstart0 : d.start (ix2 i j) idx 0 = k := by
    unfold ScatterDims.start
    rw [dif_pos hm]
    have hsi : d.siIdx (ix2 i j) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  rw [Fin.ext_iff, show ix2 r e = ValueIdx.ix2 r e from ValueIdx.eq_ix2 _, resultIdx?_ix2, hstart0, hwin0, hstart1, hwin1]
  omega

/-- A matrix with its row `k` replaced: the new row there, the old matrix elsewhere. -/
theorem row_at {α : Type} {R C : Nat} (d : ScatterDims (shape2 R C) (shape1 1) (shape1 C)) (hiw : d.insertedWindowDims = [0])
    (hsd : d.scatterDimsToOperandDims = [0]) (x : (shape2 R C).Idx → α) (idx : IVec (shape1 1) 32) (u : (shape1 C).Idx → α)
    (k : Nat) (hidx : (idx (ix1 0)).toInt = (k : Int)) (r : Fin R) (e : Fin C) :
    Host.scatter d (fun _ b => b) x idx u (ix2 r e) = if r.val = k then u (ix1 e) else x (ix2 r e) := by
  have hl := row_lands d hiw hsd idx k hidx
  have lands : ∀ j : (shape1 C).Idx, d.resultIdx? j idx = some (ix2 r e) → (k : Int) = r.val ∧ j 0 = e := fun j hj =>
    (hl (j 0) r e).1 ((congrArg (fun t => d.resultIdx? t idx) (eq_ix1 j).symm).trans hj)
  by_cases h : r.val = k
  · rw [if_pos h]
    exact scatter_set_hit d x idx u _ _ (fun j hj => (congrArg u (eq_ix1 j)).trans (congrArg (fun t => u (ix1 t)) (lands j hj).2)) (ix1 e)
      ((hl e r e).2 ⟨by omega, rfl⟩)
  · rw [if_neg h]
    exact scatter_set_miss d x idx u _ fun j hj => h (by have := (lands j hj).1; omega)

/-- A matrix with the rows from `k` on replaced by `A` new ones: the new rows there, the old matrix elsewhere. -/
theorem rows_at {α : Type} {R C A : Nat} (d : ScatterDims (shape2 R C) (shape1 1) (shape2 A C)) (hiw : d.insertedWindowDims = [])
    (huw : d.updateWindowDims = [0, 1]) (hsd : d.scatterDimsToOperandDims = [0]) (x : (shape2 R C).Idx → α) (idx : IVec (shape1 1) 32)
    (u : (shape2 A C).Idx → α) (k : Nat) (hidx : (idx (ix1 0)).toInt = (k : Int)) (r : Fin R) (e : Fin C) :
    Host.scatter d (fun _ b => b) x idx u (ix2 r e)
      = if h : k ≤ r.val ∧ r.val - k < A then u (ix2 ⟨r.val - k, h.2⟩ e) else x (ix2 r e) := by
  have hl := rows_land d hiw huw hsd idx k hidx
  have lands : ∀ j : (shape2 A C).Idx, d.resultIdx? j idx = some (ix2 r e) → (k : Int) + (j 0).val = r.val ∧ j 1 = e := fun j hj =>
    (hl (j 0) (j 1) r e).1 ((congrArg (fun t => d.resultIdx? t idx) (eq_ix2 j).symm).trans hj)
  by_cases h : k ≤ r.val ∧ r.val - k < A
  · rw [dif_pos h]
    refine scatter_set_hit d x idx u _ _ (fun j hj => ?_) (ix2 ⟨r.val - k, h.2⟩ e) ((hl _ e r e).2 ⟨by show (k : Int) + (r.val - k : Nat) = _; omega, rfl⟩)
    obtain ⟨a, b⟩ := lands j hj
    have e0 : j 0 = (⟨r.val - k, h.2⟩ : Fin A) := Fin.ext (by show (j 0).val = r.val - k; omega)
    rw [eq_ix2 j, e0, b]
  · rw [dif_neg h]
    exact scatter_set_miss d x idx u _ fun j hj => h (by have := (lands j hj).1; have h2 : (j 0).val < A := (j 0).isLt; omega)

end Cert.Rows

end
-- ==== Proof.Cond.Region0.lean ====
/- THE MODULATION TABLE the first call leaves: the conditioning vectors as it finds them, row 0 the context's, and the entry of
   the table at every layer, row and column. -/
module

public import proofs.«01_k».proof.Proof.Gen.Kernel7Ideal.Frame
public import proofs.«01_k».proof.Proof.Cond.Table
public import proofs.«01_k».proof.Proof.Cond.Rows

@[expose] public section

set_option maxRecDepth 16384

noncomputable section

open Idealize.ShloMosaic Idealize.ShloMosaic.TcCoe Idealize.SL.Sem

namespace Cert.Kernel7Ideal.Value
open Cert.Kernel7Ideal Cert.Kernel7Ideal.Gen Cert.Cond

/-- The conditioning vectors as the kernel stacks them: the context's in row 0, the samples' in rows 1 to 4, the rest zero. -/
def stacked (c : FVec Ideal S4x1024 .f32) (c0 : FVec Ideal S1024 .f32) : FVec Ideal S8x1024 .f32 :=
  Host.scatter scatter_S8x1024_S1_S4x1024_01_n_0_0 (fun _ b => b)
    (Host.scatter scatter_S8x1024_S1_S1024_0_0_0_0 (fun _ b => b)
      (broadcastInDim S8x1024 ![] bcast_S_S8x1024 (constant (F := Ideal) S_ .f32 0x00000000#32))
      (broadcastInDim S1 ![] bcast_S_S1 (constantI S_ 32 0#32)) c0)
    (broadcastInDim S1 ![] bcast_S_S1 (constantI S_ 32 1#32)) c

theorem stacked_ctx (c : FVec Ideal S4x1024 .f32) (c0 : FVec Ideal S1024 .f32) (k : Fin 1024) : stacked c c0 (ix2 0 k) = c0 (ix1 k) := by
  unfold stacked
  refine (Cert.Rows.rows_at scatter_S8x1024_S1_S4x1024_01_n_0_0 rfl rfl rfl _ _ _ 1 (by pointwise []; rfl) 0 k).trans ?_
  rw [dif_neg (by decide)]
  refine (Cert.Rows.row_at scatter_S8x1024_S1_S1024_0_0_0_0 rfl rfl _ _ _ 0 (by pointwise []; rfl) 0 k).trans ?_
  exact if_pos rfl

theorem stacked_lat (c : FVec Ideal S4x1024 .f32) (c0 : FVec Ideal S1024 .f32) (b : Fin 4) (k : Fin 1024) :
    stacked c c0 (ix2 ⟨1 + b.val, by omega⟩ k) = c (ix2 b k) := by
  unfold stacked
  refine (Cert.Rows.rows_at scatter_S8x1024_S1_S4x1024_01_n_0_0 rfl rfl rfl _ _ _ 1 (by pointwise []; rfl) _ k).trans ?_
  rw [dif_pos ⟨by show 1 ≤ 1 + b.val; omega, by show 1 + b.val - 1 < 4; omega⟩]
  refine congrArg c (congrArg (fun r => ix2 r k) (Fin.ext ?_))
  show 1 + b.val - 1 = b.val
  omega

/-- What the body stores: a block of the table. -/
theorem pay0_at (cv : Vec Ideal S8x1024 .f32) (w : Vec Ideal S1x1024x1024 .f32) (b : Vec Ideal S1x1x1024 .f32) (r : Fin 8) (n : Fin 1024) :
    k0_pay1 (F := Ideal) cv w b (ix3 0 r n) = entry (fun k => cv (ix2 r k)) (fun k => w (ix3 0 k n)) (b (ix3 0 0 n)) := by
  pointwise [k0_pay1, entry, silu]

/-- The table as an array. -/
def tableArr (cv : FVec Ideal S8x1024 .f32) (w : FVec Ideal S4x1024x6144 .f32) (b : FVec Ideal S4x6144 .f32) : FVec Ideal S4x8x6144 .f32 :=
  fun y => entry (fun k => cv (ix2 (y 1) k)) (fun k => w (ix3 (y 0) k (y 2))) (b (ix2 (y 0) (y 2)))

variable (m : (ℓ : Loc nD τ sig) → Buf (Elt Ideal) ℓ) (ρ : Dev nD → PrngReg)

/-- The windows' block indices at every grid point. -/
theorem idx0 : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

/-- The conditioning vectors, the modulation's weights and bias. -/
abbrev conds (c : Dev nD) : FVec Ideal S4x1024 .f32 := m ((c : Thread nD τ).loc main_arg2)
@[inherit_doc conds]
abbrev condCtx (c : Dev nD) : FVec Ideal S1024 .f32 := m ((c : Thread nD τ).loc main_arg3)
@[inherit_doc conds]
abbrev modW (c : Dev nD) : FVec Ideal S4x1024x6144 .f32 := m ((c : Thread nD τ).loc main_arg5)
@[inherit_doc conds]
abbrev modB (c : Dev nD) : FVec Ideal S4x6144 .f32 := m ((c : Thread nD τ).loc main_arg6)

theorem V_stacked (c : Dev nD) : V1 m ρ c main_v7 = stacked (conds m c) (condCtx m c) := by
  show StableHlo.after hostOps0 _ (Proc.devRef .tc main_v7) = _
  after_results
  rfl

theorem V_modW (c : Dev nD) : V1 m ρ c main_arg5 = modW m c := W1_args m ρ c main_arg5 (by decide)

theorem V_modB (c : Dev nD) : V1 m ρ c main_v8 = shapeCast S4x1x6144 (modB m c) shapeCasts_S4x6144_S4x1x6144 := by
  show StableHlo.after hostOps0 _ (Proc.devRef .tc main_v8) = _
  after_results
  rfl

/-- One point's block is the table at the array indices under it. -/
theorem point0 (c : Dev nD) (t : Fin cfg0.N) (r : Fin 8) (n : Fin 1024) :
    k0_pay1 (F := Ideal) (iblk0 (V1 m ρ) c 0 t) (iblk0 (V1 m ρ) c 1 t) (iblk0 (V1 m ρ) c 2 t) (ix3 0 r n)
      = tableArr (stacked (conds m c) (condCtx m c)) (modW m c) (modB m c) (((cfg0.win 3).blk t).view.emb (ix3 0 r n)) := by
  obtain ⟨e0, e1, e2, e3, ht⟩ := idx0 t
  have hC : ∀ k : Fin 1024, iblk0 (V1 m ρ) c 0 t (ix2 r k) = stacked (conds m c) (condCtx m c) (ix2 r k) := fun k => by
    have h : iblk0 (V1 m ρ) c 0 t (ix2 r k) = V1 m ρ c main_v7 (ix2 r k) := by blk_ext [iblk0, idx0 t]
    rw [h, V_stacked]
  have hW : ∀ k : Fin 1024, iblk0 (V1 m ρ) c 1 t (ix3 0 k n)
      = modW m c (ix3 ⟨t.val / 6, by omega⟩ k ⟨t.val % 6 * 1024 + n.val, by omega⟩) := fun k => by
    have h : iblk0 (V1 m ρ) c 1 t (ix3 0 k n)
        = V1 m ρ c main_arg5 (ix3 ⟨t.val / 6, by omega⟩ k ⟨t.val % 6 * 1024 + n.val, by omega⟩) := by blk_ext [iblk0, idx0 t]
    rw [h, V_modW]
  have hB : iblk0 (V1 m ρ) c 2 t (ix3 0 0 n)
      = modB m c (ix2 ⟨t.val / 6, by omega⟩ ⟨t.val % 6 * 1024 + n.val, by omega⟩) := by
    have h : iblk0 (V1 m ρ) c 2 t (ix3 0 0 n)
        = V1 m ρ c main_v8 (ix3 ⟨t.val / 6, by omega⟩ 0 ⟨t.val % 6 * 1024 + n.val, by omega⟩) := by blk_ext [iblk0, idx0 t]
    rw [h, V_modB]
    pointwise []
  have hO : ((cfg0.win 3).blk t).view.emb (ix3 0 r n : S1x8x1024.Idx)
      = (ix3 (⟨t.val / 6, by omega⟩ : Fin 4) r (⟨t.val % 6 * 1024 + n.val, by omega⟩ : Fin 6144) : S4x8x6144.Idx) := by
    blk_ext [idx0 t]
  rw [hO]
  refine (pay0_at ..).trans ?_
  simp only [hC, hW, hB]
  rfl

/-- The array the first call leaves is the table. -/
theorem final0 (c : Dev nD) : (dat0 (V1 m ρ) c).arrAt 3 cfg0.N = tableArr (stacked (conds m c) (condCtx m c)) (modW m c) (modB m c) := by
  refine (dat0 (V1 m ρ) c).arrAt_eq_of_covers 3 _ (by decide +kernel) fun t _ y => ?_
  blk_simp
  rw [after0_3]
  frame_out
  obtain ⟨z, r, n, rfl⟩ : ∃ (z : Fin 1) (r : Fin 8) (n : Fin 1024), y = ix3 z r n := ⟨y 0, y 1, y 2, eq_ix3 y⟩
  obtain rfl : z = 0 := Subsingleton.elim _ _
  exact point0 m ρ c t r n

theorem W2_table (c : Dev nD) : W2 m ρ c (Proc.devRef .tc main_v9) = tableArr (stacked (conds m c) (condCtx m c)) (modW m c) (modB m c) :=
  (W2_arr m ρ c 3).trans (final0 m ρ c)

end Cert.Kernel7Ideal.Value

end
-- ==== Proof.Cond.Keys.lean ====
/- The first layer's NEW KEYS AND VALUES in the reference, read at an index: the modulation from the context's conditioning
   vector, the context tokens' rows normed and modulated, the projection, and the cut into heads. -/
module

public import proofs.«01_k».proof.Proof.Gen.Reference7Ideal.Run
public import proofs.«01_k».proof.Proof.Proj.Reference
public import proofs.«01_k».proof.Proof.Cond.Table

@[expose] public section

set_option maxRecDepth 16384

noncomputable section

open Idealize.ShloMosaic Idealize.ShloMosaic.TcCoe Idealize.SL.Sem

namespace Cert.Reference7Ideal.Value
open Cert.Reference7Ideal Cert.Reference7Ideal.Gen Cert.Proj Cert.Cond
open Cert.Reference3Ideal.Value (ctxNorm ctxDot ctxNorm_at ctxDot_at)

/-- The conditioning vector through the sigmoid-weighted unit. -/
def cond (c : FVec Ideal S1024 .f32) : FVec Ideal S1024 .f32 :=
  mulf c (Host.divf (broadcastInDim S1024 ![] bcast_S_S1024 (constant S_ .f32 0x3F800000#32)) (addf (broadcastInDim S1024 ![] bcast_S_S1024 (constant S_ .f32 0x3F800000#32)) (Host.exp (Host.negf c))))

/-- The modulation of every layer. -/
def modTable (c : FVec Ideal S1024 .f32) (wm : FVec Ideal S4x1024x6144 .f32) (bm : FVec Ideal S4x6144 .f32) : FVec Ideal S4x1x1x6144 .f32 :=
  broadcastInDim S4x1x1x6144 ![0, 3] bcast_S4x6144_S4x1x1x6144_0_3 (addf (Host.dotGeneral dot_S1024_S4x1024x6144_S4x6144_0_1_n_02_n_n none c wm) bm)

/-- The first layer's modulation. -/
def mod0 (T : FVec Ideal S4x1x1x6144 .f32) : FVec Ideal S1x1x6144 .f32 :=
  shapeCast _ (extractStridedSlice S1x1x1x6144 ![0, 0, 0, 0] T slices_S4x1x1x6144_S1x1x1x6144_0_0_0_0) shapeCasts_S1x1x1x6144_S1x1x6144

/-- The first layer's gain. -/
def gain0 (g : FVec Ideal S4x1024 .f32) : FVec Ideal S1024 .f32 :=
  shapeCast _ (extractStridedSlice S1x1024 ![0, 0] g slices_S4x1024_S1x1024_0_0) shapeCasts_S1x1024_S1024

/-- The first layer's weights. -/
def weights0 (W : FVec Ideal S2x1024x3072 .f32) : FVec Ideal S1024x3072 .f32 :=
  shapeCast _ (extractStridedSlice S1x1024x3072 ![0, 0, 0] W slices_S2x1024x3072_S1x1024x3072_0_0_0) shapeCasts_S1x1024x3072_S1024x3072

/-- The rows modulated. -/
def modRows (y : FVec Ideal S32x256x1024 .f32) (M : FVec Ideal S1x1x6144 .f32) : FVec Ideal S32x256x1024 .f32 :=
  addf (mulf y (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] M slices_S1x1x6144_S1x1x1024_0_0_1024)))) (broadcastInDim S32x256x1024 ![0, 1, 2] bcast_S1x1x1024_S32x256x1024_0_1_2 (extractStridedSlice S1x1x1024 ![0, 0, 0] M slices_S1x1x6144_S1x1x1024_0_0_0))

/-- The keys' and the values' columns, cut into heads. -/
def keysOf (y : FVec Ideal S32x256x3072 .f32) : FVec Ideal S32x8x256x64 .f32 :=
  transpose S32x8x256x64 [0, 2, 1, 3] (shapeCast _ (extractStridedSlice S32x256x512 ![0, 0, 512] y slices_S32x256x3072_S32x256x512_0_0_512) shapeCasts_S32x256x512_S32x256x8x64) transposes_S32x256x8x64_S32x8x256x64_0_2_1_3

@[inherit_doc keysOf]
def valuesOf (y : FVec Ideal S32x256x3072 .f32) : FVec Ideal S32x8x256x64 .f32 :=
  transpose S32x8x256x64 [0, 2, 1, 3] (shapeCast _ (extractStridedSlice S32x256x512 ![0, 0, 1024] y slices_S32x256x3072_S32x256x512_0_0_1024) shapeCasts_S32x256x512_S32x256x8x64) transposes_S32x256x8x64_S32x8x256x64_0_2_1_3

/-- The context tokens' projection in the first layer. -/
def projected (X : FVec Ideal S32x256x1024 .f32) (c : FVec Ideal S1024 .f32) (g : FVec Ideal S4x1024 .f32)
    (wm : FVec Ideal S4x1024x6144 .f32) (bm : FVec Ideal S4x6144 .f32) (W : FVec Ideal S2x1024x3072 .f32) : FVec Ideal S32x256x3072 .f32 :=
  ctxDot (modRows (ctxNorm X (gain0 g)) (mod0 (modTable (cond c) wm bm))) (weights0 W)

theorem cond_at (c : FVec Ideal S1024 .f32) (k : Fin 1024) : cond c (ix1 k) = silu (c (ix1 k)) := by
  pointwise [cond, silu]
  rfl

theorem modTable_at (c : FVec Ideal S1024 .f32) (wm : FVec Ideal S4x1024x6144 .f32) (bm : FVec Ideal S4x6144 .f32) (l : Fin 4) (n : Fin 6144) :
    modTable c wm bm (ix4 l 0 0 n) = (∑ k : Fin 1024, c (ix1 k) * wm (ix3 l k n)) + bm (ix2 l n) := by
  pointwise [modTable]

theorem mod0_at (T : FVec Ideal S4x1x1x6144 .f32) (n : Fin 6144) : mod0 T (ix3 0 0 n) = T (ix4 0 0 0 n) := by
  pointwise [mod0]

theorem gain0_at (g : FVec Ideal S4x1024 .f32) (k : Fin 1024) : gain0 g (ix1 k) = g (ix2 0 k) := by
  pointwise [gain0]

theorem weights0_at (W : FVec Ideal S2x1024x3072 .f32) (k : Fin 1024) (l : Fin 3072) : weights0 W (ix2 k l) = W (ix3 0 k l) := by
  pointwise [weights0]

theorem modRows_at (y : FVec Ideal S32x256x1024 .f32) (M : FVec Ideal S1x1x6144 .f32) (b : Fin 32) (i : Fin 256) (k : Fin 1024) :
    modRows y M (ix3 b i k) = y (ix3 b i k) * (Ideal.ofBits .f32 0x3F800000#32 + M (ix3 0 0 ⟨1024 + k.val, by omega⟩))
      + M (ix3 0 0 ⟨k.val, by omega⟩) := by
  pointwise [modRows]

theorem keysOf_at (y : FVec Ideal S32x256x3072 .f32) (b : Fin 32) (h : Fin 8) (i : Fin 256) (d : Fin 64) :
    keysOf y (ix4 b h i d) = y (ix3 b i ⟨512 + (h.val * 64 + d.val), by omega⟩) := by
  pointwise [keysOf]

theorem valuesOf_at (y : FVec Ideal S32x256x3072 .f32) (b : Fin 32) (h : Fin 8) (i : Fin 256) (d : Fin 64) :
    valuesOf y (ix4 b h i d) = y (ix3 b i ⟨1024 + (h.val * 64 + d.val), by omega⟩) := by
  pointwise [valuesOf]

/-- The projection at an index. -/
theorem projected_at (X : FVec Ideal S32x256x1024 .f32) (c : FVec Ideal S1024 .f32) (g : FVec Ideal S4x1024 .f32)
    (wm : FVec Ideal S4x1024x6144 .f32) (bm : FVec Ideal S4x6144 .f32) (W : FVec Ideal S2x1024x3072 .f32) (b : Fin 32) (i : Fin 256) (l : Fin 3072) :
    projected X c g wm bm W (ix3 b i l)
      = ∑ k : Fin 1024, modded (fun j => X (ix3 b i j)) (fun j => g (ix2 0 j))
          (fun j => entry (fun k => c (ix1 k)) (fun k => wm (ix3 0 k ⟨1024 + j.val, by omega⟩)) (bm (ix2 0 ⟨1024 + j.val, by omega⟩)))
          (fun j => entry (fun k => c (ix1 k)) (fun k => wm (ix3 0 k ⟨j.val, by omega⟩)) (bm (ix2 0 ⟨j.val, by omega⟩))) k * W (ix3 0 k l) := by
  rw [projected, ctxDot_at]
  refine Finset.sum_congr rfl fun k _ => ?_
  rw [modRows_at, ctxNorm_at, modded]
  simp only [gain0_at, mod0_at, modTable_at, cond_at, weights0_at, entry]

end Cert.Reference7Ideal.Value

end
-- ==== Proof.Cond.Run.lean ====
/- THE TWO CALLS AS ONE RUN: at its end every buffer of the TensorCore outside the calls holds what the program's operations
   and the two calls, one after the other, leave in it. The launch's set-up is the frame's. -/
module

public import proofs.«01_k».proof.Proof.Gen.Kernel7Ideal.Frame

@[expose] public section

set_option maxRecDepth 16384

noncomputable section

namespace Cert.Kernel7Ideal.Value
open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, and every buffer outside the calls ends at the last boundary's
    contents. -/
theorem run : θ_run defs (onTc (τ := τ) (main (F := F))) ⟨m, fun _ => 0, ρ⟩ (fun r => ∀ (c : Dev nD) (b : Ref sig .tc),
    ¬ (Proc.devRef .tc b : DevRef τ sig).isScoped → r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.Kernel7Ideal.Value

end
-- ==== Proof.Cond.Region1.lean ====
/- THE PROJECTION the second call leaves, from the table the first one left, and the two results cut out of it. -/
module

public import proofs.«01_k».proof.Proof.Cond.Region0
public import proofs.«01_k».proof.Proof.Cond.Keys
public import proofs.«01_k».proof.Proof.Cond.Run
public import proofs.«01_k».proof.Proof.Proj.Ab

@[expose] public section

set_option maxRecDepth 16384

noncomputable section

open Idealize.ShloMosaic Idealize.ShloMosaic.TcCoe Idealize.SL.Sem

namespace Cert.Kernel7Ideal.Value
open Cert.Kernel7Ideal Cert.Kernel7Ideal.Gen Cert.Cond Cert.Proj
open Cert.Reference7Ideal.Value (gain0 weights0 keysOf valuesOf projected gain0_at weights0_at keysOf_at valuesOf_at projected_at)
open Cert.Reference7Ideal (S32x256x3072)
open Cert.Reference3Ideal.Value (REF REF_at rowAt)

/-- The tokens' rows: the prompts, then the samples. -/
def joined (P : FVec Ideal S32x256x1024 .f32) (S : FVec Ideal S4x4096x1024 .f32) : FVec Ideal S24576x1024 .f32 :=
  concatenate S24576x1024 0 [⟨S8192x1024, shapeCast _ P shapeCasts_S32x256x1024_S8192x1024⟩,
    ⟨S16384x1024, shapeCast _ S shapeCasts_S4x4096x1024_S16384x1024⟩] concatenates_S8192x1024_S16384x1024_S24576x1024_d0

/-- The first layer's rows of the table. -/
def tab0 (T : FVec Ideal S4x8x6144 .f32) : FVec Ideal S8x1x6144 .f32 :=
  shapeCast _ (extractStridedSlice S1x8x1x6144 ![0, 0, 0, 0] (shapeCast S4x8x1x6144 T shapeCasts_S4x8x6144_S4x8x1x6144)
    slices_S4x8x1x6144_S1x8x1x6144_0_0_0_0) shapeCasts_S1x8x1x6144_S8x1x6144

/-- The keys' and the values' columns of the context tokens, cut into heads. -/
def keysArr (y : FVec Ideal S24576x3072 .f32) : FVec Ideal S32x8x256x64 .f32 :=
  transpose S32x8x256x64 [0, 2, 1, 3] (shapeCast S32x256x8x64 (extractStridedSlice S8192x512 ![0, 512] y slices_S24576x3072_S8192x512_0_512)
    shapeCasts_S8192x512_S32x256x8x64) transposes_S32x256x8x64_S32x8x256x64_0_2_1_3

@[inherit_doc keysArr]
def valuesArr (y : FVec Ideal S24576x3072 .f32) : FVec Ideal S32x8x256x64 .f32 :=
  transpose S32x8x256x64 [0, 2, 1, 3] (shapeCast S32x256x8x64 (extractStridedSlice S8192x512 ![0, 1024] y slices_S24576x3072_S8192x512_0_1024)
    shapeCasts_S8192x512_S32x256x8x64) transposes_S32x256x8x64_S32x8x256x64_0_2_1_3

theorem joined_ctx (P : FVec Ideal S32x256x1024 .f32) (S : FVec Ideal S4x4096x1024 .f32) (b : Fin 32) (i : Fin 256) (k : Fin 1024) :
    joined P S (ix2 ⟨b.val * 256 + i.val, by omega⟩ k) = P (ix3 b i k) := by
  pointwise [joined]
  exact dif_pos (by omega)

theorem tab0_at (T : FVec Ideal S4x8x6144 .f32) (r : Fin 8) (n : Fin 6144) : tab0 T (ix3 r 0 n) = T (ix3 0 r n) := by
  pointwise [tab0]

theorem keysArr_at (y : FVec Ideal S24576x3072 .f32) (b : Fin 32) (h : Fin 8) (i : Fin 256) (d : Fin 64) :
    keysArr y (ix4 b h i d) = y (ix2 ⟨b.val * 256 + i.val, by omega⟩ ⟨512 + (h.val * 64 + d.val), by omega⟩) := by
  pointwise [keysArr]

theorem valuesArr_at (y : FVec Ideal S24576x3072 .f32) (b : Fin 32) (h : Fin 8) (i : Fin 256) (d : Fin 64) :
    valuesArr y (ix4 b h i d) = y (ix2 ⟨b.val * 256 + i.val, by omega⟩ ⟨1024 + (h.val * 64 + d.val), by omega⟩) := by
  pointwise [valuesArr]

section Context
variable (P : FVec Ideal S32x256x1024 .f32) (S : FVec Ideal S4x4096x1024 .f32) (c : FVec Ideal S4x1024 .f32) (c0 : FVec Ideal S1024 .f32)
  (g : FVec Ideal S4x1024 .f32) (wm : FVec Ideal S4x1024x6144 .f32) (bm : FVec Ideal S4x6144 .f32) (W : FVec Ideal S2x1024x3072 .f32)

/-- The projection of a context token is the reference's. -/
theorem ctx_at (b : Fin 32) (i : Fin 256) (l : Fin 3072) :
    REF (joined P S) (gain0 g) (tab0 (tableArr (stacked c c0) wm bm)) (weights0 W) (ix2 ⟨b.val * 256 + i.val, by omega⟩ l)
      = projected P c0 g wm bm W (ix3 b i l) := by
  rw [REF_at, projected_at]
  refine Finset.sum_congr rfl fun k _ => ?_
  rw [rowAt, modRow_ctx _ (by show b.val * 256 + i.val < 8192; omega)]
  simp only [joined_ctx, gain0_at, weights0_at, tab0_at, tableArr, ix3_0, ix3_1, ix3_2, stacked_ctx]

theorem keys_eq : keysArr (REF (joined P S) (gain0 g) (tab0 (tableArr (stacked c c0) wm bm)) (weights0 W)) = keysOf (projected P c0 g wm bm W) := by
  funext y
  obtain ⟨b, h, i, d, rfl⟩ : ∃ (b : Fin 32) (h : Fin 8) (i : Fin 256) (d : Fin 64), y = ix4 b h i d := ⟨y 0, y 1, y 2, y 3, eq_ix4 y⟩
  rw [keysArr_at, keysOf_at, ctx_at]

theorem values_eq : valuesArr (REF (joined P S) (gain0 g) (tab0 (tableArr (stacked c c0) wm bm)) (weights0 W)) = valuesOf (projected P c0 g wm bm W) := by
  funext y
  obtain ⟨b, h, i, d, rfl⟩ : ∃ (b : Fin 32) (h : Fin 8) (i : Fin 256) (d : Fin 64), y = ix4 b h i d := ⟨y 0, y 1, y 2, y 3, eq_ix4 y⟩
  rw [valuesArr_at, valuesOf_at, ctx_at]

end Context

variable (m : (ℓ : Loc nD τ sig) → Buf (Elt Ideal) ℓ) (ρ : Dev nD → PrngReg)

/-- The prompts, the samples, the layers' gains and input weights. -/
abbrev prompts (c : Dev nD) : FVec Ideal S32x256x1024 .f32 := m ((c : Thread nD τ).loc main_arg0)
@[inherit_doc prompts]
abbrev samples (c : Dev nD) : FVec Ideal S4x4096x1024 .f32 := m ((c : Thread nD τ).loc main_arg1)
@[inherit_doc prompts]
abbrev gains (c : Dev nD) : FVec Ideal S4x1024 .f32 := m ((c : Thread nD τ).loc main_arg4)
@[inherit_doc prompts]
abbrev inW (c : Dev nD) : FVec Ideal S2x1024x3072 .f32 := m ((c : Thread nD τ).loc main_arg7)

/-- The table as the second call finds it. -/
abbrev tabK (c : Dev nD) : FVec Ideal S8x1x6144 .f32 := tab0 (tableArr (stacked (conds m c) (condCtx m c)) (modW m c) (modB m c))

theorem V_rows (c : Dev nD) : V3 m ρ c main_v2 = joined (prompts m c) (samples m c) := by
  refine (W3_of m ρ c main_v2 (by decide)).trans ((W2_of m ρ c main_v2 (by decide +kernel)).trans ?_)
  show StableHlo.after hostOps0 _ (Proc.devRef .tc main_v2) = _
  after_results
  rfl

theorem V_tab (c : Dev nD) : V3 m ρ c main_v14 = tabK m c := by
  have h : V3 m ρ c main_v14 = tab0 (W2 m ρ c (Proc.devRef .tc main_v9)) := by
    show StableHlo.after hostOps1 _ (Proc.devRef .tc main_v14) = _
    after_results
    rfl
  rw [h, W2_table]

theorem V_gain1 (c : Dev nD) : V3 m ρ c main_v18 = shapeCast S1x1024 (gain0 (gains m c)) shapeCasts_S1024_S1x1024 := by
  have h : V3 m ρ c main_v18 = shapeCast S1x1024 (gain0 (W2 m ρ c (Proc.devRef .tc main_arg4))) shapeCasts_S1024_S1x1024 := by
    show StableHlo.after hostOps1 _ (Proc.devRef .tc main_v18) = _
    after_results
    rfl
  rw [h, W2_args m ρ c main_arg4 (by decide)]

theorem V_inW (c : Dev nD) : V3 m ρ c main_v17 = truncf .bf16 (weights0 (inW m c)) bitsLt_bf16_f32 := by
  have h : V3 m ρ c main_v17 = truncf .bf16 (weights0 (W2 m ρ c (Proc.devRef .tc main_arg7))) bitsLt_bf16_f32 := by
    show StableHlo.after hostOps1 _ (Proc.devRef .tc main_v17) = _
    after_results
    rfl
  rw [h, W2_args m ρ c main_arg7 (by decide)]

/-- The windows' block indices at every grid point. -/
theorem idx1 : ∀ t : Fin cfg1.N, win1_0.index t = ![t.val, 0] ∧ win1_1.index t = ![0, 0]
    ∧ win1_2.index t = ![if t.val < 32 then 0 else 1 + (t.val - 32) / 16, 0, 0]
    ∧ win1_3.index t = ![if t.val < 32 then 0 else 1 + (t.val - 32) / 16, 0, 1]
    ∧ win1_4.index t = ![0, 0] ∧ win1_5.index t = ![t.val, 0] ∧ t.val < 96 :=
  (by decide +kernel : ∀ t : Fin grid1.N, _)

/-- The body is the norm and projection's. -/
theorem pay1_eq (x : Vec Ideal S256x1024 .f32) (g : Vec Ideal S1x1024 .f32) (sc sh : Vec Ideal S1x1x1024 .f32) (w : Vec Ideal S1024x3072 .bf16) :
    k1_pay1 (F := Ideal) x g sc sh w = Cert.Kernel3Ideal.Gen.k0_pay1 (F := Ideal) x g sc sh w := by
  have h : k1_pay1 (F := Ideal) x g sc sh w
      = Cert.Kernel3Ideal.Gen.k0_pay1 (F := Ideal) (shapeCast S256x1024 x shapeCasts_S256x1024_S256x1024) g sc sh w := rfl
  rw [h, shapeCast_self]

/-- One point's block is the projection at the array indices under it. -/
theorem point1 (c : Dev nD) (t : Fin cfg1.N) (i : Fin 256) (l : Fin 3072) :
    k1_pay1 (F := Ideal) (iblk1 (V3 m ρ) c 0 t) (iblk1 (V3 m ρ) c 1 t) (iblk1 (V3 m ρ) c 3 t) (iblk1 (V3 m ρ) c 2 t) (iblk1 (V3 m ρ) c 4 t) (ix2 i l)
      = REF (joined (prompts m c) (samples m c)) (gain0 (gains m c)) (tabK m c) (weights0 (inW m c)) (((cfg1.win 5).blk t).view.emb (ix2 i l)) := by
  obtain ⟨e0, e1, e2, e3, e4, e5, ht⟩ := idx1 t
  have hr := Cert.Kernel3Ideal.Value.row_of t.val i.val i.isLt (by omega)
  have hX : ∀ k : Fin 1024, iblk1 (V3 m ρ) c 0 t (ix2 i k) = joined (prompts m c) (samples m c) (ix2 ⟨t.val * 256 + i.val, by omega⟩ k) := fun k => by
    have h : iblk1 (V3 m ρ) c 0 t (ix2 i k) = V3 m ρ c main_v2 (ix2 ⟨t.val * 256 + i.val, by omega⟩ k) := by blk_ext [iblk1, idx1 t]
    rw [h, V_rows]
  have hG : ∀ k : Fin 1024, iblk1 (V3 m ρ) c 1 t (ix2 0 k) = gain0 (gains m c) (ix1 k) := fun k => by
    have h : iblk1 (V3 m ρ) c 1 t (ix2 0 k) = V3 m ρ c main_v18 (ix2 0 k) := by blk_ext [iblk1, idx1 t]
    rw [h, V_gain1]
    pointwise []
  have hB : ∀ k : Fin 1024, iblk1 (V3 m ρ) c 2 t (ix3 0 0 k) = tabK m c (ix3 (modRow ⟨t.val * 256 + i.val, by omega⟩) 0 ⟨k.val, by omega⟩) := fun k => by
    have h : iblk1 (V3 m ρ) c 2 t (ix3 0 0 k) = V3 m ρ c main_v14 (ix3 (modRow ⟨t.val * 256 + i.val, by omega⟩) 0 ⟨k.val, by omega⟩) := by
      blk_ext [iblk1, idx1 t]
    rw [h, V_tab]
  have hS : ∀ k : Fin 1024, iblk1 (V3 m ρ) c 3 t (ix3 0 0 k) = tabK m c (ix3 (modRow ⟨t.val * 256 + i.val, by omega⟩) 0 ⟨1024 + k.val, by omega⟩) := fun k => by
    have h : iblk1 (V3 m ρ) c 3 t (ix3 0 0 k) = V3 m ρ c main_v14 (ix3 (modRow ⟨t.val * 256 + i.val, by omega⟩) 0 ⟨1024 + k.val, by omega⟩) := by
      blk_ext [iblk1, idx1 t]
    rw [h, V_tab]
  have hW : ∀ k : Fin 1024, iblk1 (V3 m ρ) c 4 t (ix2 k l) = weights0 (inW m c) (ix2 k l) := fun k => by
    have h : iblk1 (V3 m ρ) c 4 t (ix2 k l) = V3 m ρ c main_v17 (ix2 k l) := by blk_ext [iblk1, idx1 t]
    rw [h, V_inW]
    pointwise []
  have hO : ((cfg1.win 5).blk t).view.emb (ix2 i l : S256x3072.Idx)
      = (ix2 (⟨t.val * 256 + i.val, by omega⟩ : Fin 24576) l : S24576x3072.Idx) := by
    blk_ext [idx1 t]
  rw [hO, pay1_eq]
  refine (Cert.Kernel3Ideal.Value.pay_at ..).trans (Eq.trans ?_ (REF_at ..).symm)
  simp only [hX, hG, hB, hS, hW, rowAt]

/-- The array the second call leaves is the projection of every token. -/
theorem final1 (c : Dev nD) : (dat1 (V3 m ρ) c).arrAt 5 cfg1.N
    = REF (joined (prompts m c) (samples m c)) (gain0 (gains m c)) (tabK m c) (weights0 (inW m c)) := by
  refine (dat1 (V3 m ρ) c).arrAt_eq_of_covers 5 _ (by decide +kernel) fun t _ y => ?_
  blk_simp
  rw [after1_5]
  frame_out
  obtain ⟨i, l, rfl⟩ : ∃ (i : Fin 256) (l : Fin 3072), y = ix2 i l := ⟨y 0, y 1, eq_ix2 y⟩
  exact point1 m ρ c t i l

/-- The projection as the operations after the second call find it. -/
theorem W4_proj (c : Dev nD) : W4 m ρ c (Proc.devRef .tc main_v19)
    = REF (joined (prompts m c) (samples m c)) (gain0 (gains m c)) (tabK m c) (weights0 (inW m c)) :=
  (W4_arr m ρ c 5).trans (final1 m ρ c)

/-- The reference's projection of the context tokens. -/
abbrev ctxProj (c : Dev nD) : FVec Ideal S32x256x3072 .f32 :=
  projected (prompts m c) (condCtx m c) (gains m c) (modW m c) (modB m c) (inW m c)

/-- The first result is the new keys. -/
theorem W5_keys (c : Dev nD) : W5 m ρ c (Proc.devRef .tc main_v22) = keysOf (ctxProj m c) := by
  rw [ctxProj, ← keys_eq _ (samples m c) (conds m c), ← W4_proj m ρ c]
  show StableHlo.after hostOps2 _ (Proc.devRef .tc main_v22) = _
  after_results
  rfl

/-- The second result is the new values. -/
theorem W5_values (c : Dev nD) : W5 m ρ c (Proc.devRef .tc main_v25) = valuesOf (ctxProj m c) := by
  rw [ctxProj, ← values_eq _ (samples m c) (conds m c), ← W4_proj m ρ c]
  show StableHlo.after hostOps2 _ (Proc.devRef .tc main_v25) = _
  after_results
  rfl

end Cert.Kernel7Ideal.Value

end
-- ==== Proof.Cond.Claims.lean ====
/- THE CLAIMS of the first layer's new keys and values. -/
module

public import proofs.«01_k».proof.Defs
public import proofs.«01_k».proof.Proof.Cond.Region1
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof
open Cert.Reference7Ideal.Value (keysOf valuesOf projected)

/-- The reference terminates and leaves its arguments unchanged. -/
theorem keys_frame_ref : Cert.quiescent_Reference7Ideal := by
  intro m g _
  exact (θ_run Cert.Reference7Ideal.defs _ _).mono (fun r h => ⟨fun c => (h c).2.2, sem_eq_zero_of_no_sems (by decide) r.2⟩)
    (Cert.Reference7Ideal.Value.run m g)

/-- The idealized program computes the reference's keys and values. -/
theorem keys_algebraic : Cert.algebraic_Kernel7Ideal_Reference7Ideal := by
  intro m g m' g' _ hagree
  refine ⟨fun c => keysOf (Cert.Kernel7Ideal.Value.ctxProj m c), fun c => valuesOf (Cert.Kernel7Ideal.Value.ctxProj m c), ?_, ?_⟩
  · exact (θ_run Cert.Kernel7Ideal.defs _ _).mono (fun r h c =>
      ⟨(h.1 c Cert.Kernel7Ideal.main_v22 (by decide)).trans (Cert.Kernel7Ideal.Value.W5_keys m g c),
        (h.1 c Cert.Kernel7Ideal.main_v25 (by decide)).trans (Cert.Kernel7Ideal.Value.W5_values m g c), h.2 c⟩)
      (θ_run_and (Cert.Kernel7Ideal.Value.run m g) (Cert.Kernel7Ideal.Gen.unchanged m g))
  · refine (θ_run Cert.Reference7Ideal.defs _ _).mono (fun r h c => ?_) (Cert.Reference7Ideal.Value.run m' g')
    obtain ⟨h0, h1, h2, h3, h4, h5, h6, h7⟩ := hagree c
    refine ⟨(h c).1.trans ?_, (h c).2.1.trans ?_, (h c).2.2⟩
    · show keysOf (projected _ _ _ _ _ _) = _
      rw [h0, h3, h4, h5, h6, h7]
    · show valuesOf (projected _ _ _ _ _ _) = _
      rw [h0, h3, h4, h5, h6, h7]

end Cert.Proof

end
-- ==== Proof.Cond.Mod.lean ====
/- THE MODULATION TABLE ALONE: the rows of the context and of the four samples in every layer, the reference's entries, and the
   two claims. -/
module

public import proofs.«01_k».proof.Defs
public import proofs.«01_k».proof.Proof.Gen.Kernel9Ideal.Frame
public import proofs.«01_k».proof.Proof.Gen.Reference9Ideal.Run
public import proofs.«01_k».proof.Proof.Cond.Region0
public import proofs.«01_k».proof.Proof.Cond.Keys
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Reference9Ideal.Value
open Cert.Reference9Ideal Cert.Reference9Ideal.Gen Cert.Cond
open Cert.Reference7Ideal.Value (cond cond_at modTable modTable_at)

/-- The samples' conditioning vectors through the sigmoid-weighted unit. -/
def condLat (c : FVec Ideal S4x1024 .f32) : FVec Ideal S4x1024 .f32 :=
  mulf c (Host.divf (broadcastInDim S4x1024 ![] bcast_S_S4x1024 (constant S_ .f32 0x3F800000#32)) (addf (broadcastInDim S4x1024 ![] bcast_S_S4x1024 (constant S_ .f32 0x3F800000#32)) (Host.exp (Host.negf c))))

/-- The samples' modulation in every layer. -/
def modLat (c : FVec Ideal S4x1024 .f32) (wm : FVec Ideal S4x1024x6144 .f32) (bm : FVec Ideal S4x6144 .f32) : FVec Ideal S4x4x1x6144 .f32 :=
  broadcastInDim S4x4x1x6144 ![0, 1, 3] bcast_S4x4x6144_S4x4x1x6144_0_1_3 (addf (transpose S4x4x6144 [0, 2, 1] (Host.dotGeneral dot_S4x1024x6144_S4x1024_S4x6144x4_1_1_02_0_n_n none wm c) transposes_S4x6144x4_S4x4x6144_0_2_1) (broadcastInDim S4x4x6144 ![0, 1, 2] bcast_S4x1x6144_S4x4x6144_0_1_2 (broadcastInDim S4x1x6144 ![0, 2] bcast_S4x6144_S4x1x6144_0_2 bm)))

/-- The two parts joined. -/
def joinMod (a : FVec Ideal S4x1x1x6144 .f32) (b : FVec Ideal S4x4x1x6144 .f32) : FVec Ideal S4x5x1x6144 .f32 :=
  concatenate S4x5x1x6144 1 [⟨S4x1x1x6144, a⟩, ⟨S4x4x1x6144, b⟩] concatenates_S4x1x1x6144_S4x4x1x6144_S4x5x1x6144_d1

/-- The whole reference. -/
def MOD (c : FVec Ideal S4x1024 .f32) (c0 : FVec Ideal S1024 .f32) (wm : FVec Ideal S4x1024x6144 .f32) (bm : FVec Ideal S4x6144 .f32) :
    FVec Ideal S4x5x1x6144 .f32 :=
  joinMod (modTable (cond c0) wm bm) (modLat (condLat c) wm bm)

theorem condLat_at (c : FVec Ideal S4x1024 .f32) (b : Fin 4) (k : Fin 1024) : condLat c (ix2 b k) = silu (c (ix2 b k)) := by
  pointwise [condLat, silu]
  rfl

theorem modLat_at (c : FVec Ideal S4x1024 .f32) (wm : FVec Ideal S4x1024x6144 .f32) (bm : FVec Ideal S4x6144 .f32) (l b : Fin 4) (n : Fin 6144) :
    modLat c wm bm (ix4 l b 0 n) = (∑ k : Fin 1024, c (ix2 b k) * wm (ix3 l k n)) + bm (ix2 l n) := by
  have h : modLat c wm bm (ix4 l b 0 n) = (∑ k : Fin 1024, wm (ix3 l k n) * c (ix2 b k)) + bm (ix2 l n) := by
    pointwise [modLat]
  rw [h]
  simp only [mul_comm]

theorem joinMod_at (a : FVec Ideal S4x1x1x6144 .f32) (b : FVec Ideal S4x4x1x6144 .f32) (l : Fin 4) (r : Fin 5) (n : Fin 6144) :
    joinMod a b (ix4 l r 0 n) = if h : r.val < 1 then a (ix4 l 0 0 n) else b (ix4 l ⟨r.val - 1, by omega⟩ 0 n) := by
  pointwise [joinMod]
  split
  · exact congrArg (fun q => a (ix4 l q 0 n)) (Fin.ext (by show r.val = 0; omega))
  · rfl

end Cert.Reference9Ideal.Value

namespace Cert.Kernel9Ideal.Value
open Cert.Kernel9Ideal Cert.Kernel9Ideal.Gen Cert.Cond
open Cert.Kernel7Ideal.Value (stacked stacked_ctx stacked_lat tableArr pay0_at)
open Cert.Reference9Ideal.Value (MOD condLat modLat_at condLat_at joinMod_at)
open Cert.Reference7Ideal.Value (cond cond_at modTable_at)

/-- The first five rows of every layer. -/
def cut (T : FVec Ideal S4x8x6144 .f32) : FVec Ideal S4x5x1x6144 .f32 :=
  extractStridedSlice S4x5x1x6144 ![0, 0, 0, 0] (shapeCast S4x8x1x6144 T shapeCasts_S4x8x6144_S4x8x1x6144) slices_S4x8x1x6144_S4x5x1x6144_0_0_0_0

theorem cut_at (T : FVec Ideal S4x8x6144 .f32) (l : Fin 4) (r : Fin 5) (n : Fin 6144) :
    cut T (ix4 l r 0 n) = T (ix3 l ⟨r.val, by omega⟩ n) := by
  pointwise [cut]

/-- The table at one index. -/
theorem tableArr_at (cv : FVec Ideal S8x1024 .f32) (w : FVec Ideal S4x1024x6144 .f32) (b : FVec Ideal S4x6144 .f32) (l : Fin 4) (r : Fin 8)
    (n : Fin 6144) : tableArr cv w b (ix3 l r n) = (∑ k : Fin 1024, silu (cv (ix2 r k)) * w (ix3 l k n)) + b (ix2 l n) := rfl

/-- The table's first five rows are the reference's. -/
theorem cut_eq (c : FVec Ideal S4x1024 .f32) (c0 : FVec Ideal S1024 .f32) (wm : FVec Ideal S4x1024x6144 .f32) (bm : FVec Ideal S4x6144 .f32) :
    cut (tableArr (stacked c c0) wm bm) = MOD c c0 wm bm := by
  funext y
  obtain ⟨l, r, z, n, rfl⟩ : ∃ (l : Fin 4) (r : Fin 5) (z : Fin 1) (n : Fin 6144), y = ix4 l r z n := ⟨y 0, y 1, y 2, y 3, eq_ix4 y⟩
  obtain rfl : z = 0 := Subsingleton.elim _ _
  rw [cut_at, MOD, joinMod_at]
  by_cases h : r.val < 1
  · rw [dif_pos h, modTable_at, tableArr_at]
    have e : (⟨r.val, by omega⟩ : Fin 8) = 0 := Fin.ext (by show r.val = 0; omega)
    have hk : ∀ k : Fin 1024, silu (stacked c c0 (ix2 0 k)) = cond c0 (ix1 k) := fun k => by rw [stacked_ctx, cond_at]
    rw [e]
    simp only [hk]
  · rw [dif_neg h, modLat_at, tableArr_at]
    have hr : r.val - 1 < 4 := by omega
    have e : (⟨r.val, by omega⟩ : Fin 8) = ⟨1 + (⟨r.val - 1, hr⟩ : Fin 4).val, by show 1 + (r.val - 1) < 8; omega⟩ :=
      Fin.ext (by show r.val = 1 + (r.val - 1); omega)
    have hk : ∀ k : Fin 1024, silu (stacked c c0 (ix2 ⟨1 + (⟨r.val - 1, hr⟩ : Fin 4).val, by show 1 + (r.val - 1) < 8; omega⟩ k))
        = condLat c (ix2 ⟨r.val - 1, hr⟩ k) := fun k => by rw [stacked_lat, condLat_at]
    rw [e]
    simp only [hk]

/-- The body is the other program's table body. -/
theorem pay_eq (cv : Vec Ideal S8x1024 .f32) (w : Vec Ideal S1x1024x1024 .f32) (b : Vec Ideal S1x1x1024 .f32) :
    k0_pay1 (F := Ideal) cv w b = Cert.Kernel7Ideal.Gen.k0_pay1 (F := Ideal) cv w b := rfl

variable (m : (ℓ : Loc nD τ sig) → Buf (Elt Ideal) ℓ)

/-- The windows' block indices at every grid point. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

/-- The samples' and the context's conditioning vectors, the weights and the bias. -/
abbrev conds (c : Dev nD) : FVec Ideal S4x1024 .f32 := m ((c : Thread nD τ).loc main_arg0)
@[inherit_doc conds]
abbrev condCtx (c : Dev nD) : FVec Ideal S1024 .f32 := m ((c : Thread nD τ).loc main_arg1)
@[inherit_doc conds]
abbrev modW (c : Dev nD) : FVec Ideal S4x1024x6144 .f32 := m ((c : Thread nD τ).loc main_arg2)
@[inherit_doc conds]
abbrev modB (c : Dev nD) : FVec Ideal S4x6144 .f32 := m ((c : Thread nD τ).loc main_arg3)

theorem V_stacked (c : Dev nD) : V m c main_v4 = stacked (conds m c) (condCtx m c) := by
  show StableHlo.after hostOps0 _ (Proc.devRef .tc main_v4) = _
  after_results
  rfl

theorem V_modB (c : Dev nD) : V m c main_v5 = shapeCast S4x1x6144 (modB m c) shapeCasts_S4x6144_S4x1x6144 := by
  show StableHlo.after hostOps0 _ (Proc.devRef .tc main_v5) = _
  after_results
  rfl

/-- One point's block is the table at the array indices under it. -/
theorem point (c : Dev nD) (t : Fin cfg0.N) (r : Fin 8) (n : Fin 1024) :
    k0_pay1 (F := Ideal) (iblk m c 0 t) (iblk m c 1 t) (iblk m c 2 t) (ix3 0 r n)
      = tableArr (stacked (conds m c) (condCtx m c)) (modW m c) (modB m c) (((cfg0.win 3).blk t).view.emb (ix3 0 r n)) := by
  obtain ⟨e0, e1, e2, e3, ht⟩ := idx t
  have hC : ∀ k : Fin 1024, iblk m c 0 t (ix2 r k) = stacked (conds m c) (condCtx m c) (ix2 r k) := fun k => by
    have h : iblk m c 0 t (ix2 r k) = V m c main_v4 (ix2 r k) := by blk_ext [iblk, idx t]
    rw [h, V_stacked]
  have hW : ∀ k : Fin 1024, iblk m c 1 t (ix3 0 k n)
      = modW m c (ix3 ⟨t.val / 6, by omega⟩ k ⟨t.val % 6 * 1024 + n.val, by omega⟩) := fun k => by
    blk_ext [iblk, V, idx t]
  have hB : iblk m c 2 t (ix3 0 0 n)
      = modB m c (ix2 ⟨t.val / 6, by omega⟩ ⟨t.val % 6 * 1024 + n.val, by omega⟩) := by
    have h : iblk m c 2 t (ix3 0 0 n)
        = V m c main_v5 (ix3 ⟨t.val / 6, by omega⟩ 0 ⟨t.val % 6 * 1024 + n.val, by omega⟩) := by blk_ext [iblk, idx t]
    rw [h, V_modB]
    pointwise []
  have hO : ((cfg0.win 3).blk t).view.emb (ix3 0 r n : S1x8x1024.Idx)
      = (ix3 (⟨t.val / 6, by omega⟩ : Fin 4) r (⟨t.val % 6 * 1024 + n.val, by omega⟩ : Fin 6144) : S4x8x6144.Idx) := by
    blk_ext [idx t]
  rw [hO, pay_eq]
  refine (pay0_at ..).trans ?_
  simp only [hC, hW, hB]
  rfl

/-- The array the call leaves is the table. -/
theorem final (c : Dev nD) : (dats m 0 c).arrAt 3 cfg0.N = tableArr (stacked (conds m c) (condCtx m c)) (modW m c) (modB m c) := by
  refine (dats m 0 c).arrAt_eq_of_covers 3 _ (by decide +kernel) fun t _ y => ?_
  blk_simp
  rw [after0_3]
  frame_out
  obtain ⟨z, r, n, rfl⟩ : ∃ (z : Fin 1) (r : Fin 8) (n : Fin 1024), y = ix3 z r n := ⟨y 0, y 1, y 2, eq_ix3 y⟩
  obtain rfl : z = 0 := Subsingleton.elim _ _
  exact point m c t r n

/-- The table, as the operations after the call find it. -/
theorem W_arr (c : Dev nD) : Pipeline.withArrays (cfgs 0).spec c (V0 m c) (fun w => (dats m 0 c).arrAt w (cfgs 0).N) (Proc.devRef .tc main_v6)
    = tableArr (stacked (conds m c) (condCtx m c)) (modW m c) (modB m c) :=
  (Pipeline.withArrays_arr spec0 (by decide) c (V0 m c) _ 3).trans (final m c)

/-- The result is the reference's table. -/
theorem W_mod (c : Dev nD) : Pipeline.afterTail₀ cfgs (dats m) 0 (V0 m) [hostOps1] c main_v8
    = MOD (conds m c) (condCtx m c) (modW m c) (modB m c) := by
  rw [← cut_eq, ← W_arr m c]
  unfold Pipeline.afterTail₀
  after_results
  rfl

end Cert.Kernel9Ideal.Value

namespace Cert.Proof
open Cert.Reference9Ideal.Value (MOD)

/-- The reference terminates and leaves its arguments unchanged. -/
theorem mod_frame_ref : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

/-- The idealized kernel computes the reference's table. -/
theorem mod_algebraic : Cert.algebraic_Kernel9Ideal_Reference9Ideal := by
  intro m g m' g' _ hagree
  refine ⟨fun c => MOD (Cert.Kernel9Ideal.Value.conds m c) (Cert.Kernel9Ideal.Value.condCtx m c) (Cert.Kernel9Ideal.Value.modW m c)
    (Cert.Kernel9Ideal.Value.modB m c), ?_, ?_⟩
  · refine (θ_run Cert.Kernel9Ideal.defs _ _).mono (fun r h c => ⟨?_, h.2 c⟩)
      (θ_run_and (Cert.Kernel9Ideal.Gen.run_main m g) (Cert.Kernel9Ideal.Gen.unchanged m g))
    replace h := h.1
    exact ((h c).2 Cert.Kernel9Ideal.main_v8 (Pipeline.mem_restRefs_of Cert.Kernel9Ideal.main_v8 (by decide) (by decide))).trans
      (Cert.Kernel9Ideal.Value.W_mod m c)
  · refine (θ_run Cert.Reference9Ideal.defs _ _).mono (fun r h c => ?_) (Cert.Reference9Ideal.Value.run m' g')
    obtain ⟨h0, h1, h2, h3⟩ := hagree c
    refine ⟨(h c).1.trans ?_, (h c).2⟩
    show MOD _ _ _ _ = _
    rw [h0, h1, h2, h3]

end Cert.Proof

end
-- ==== Proof.Conv.Block.lean ====
/- The GATED CONVOLUTION's block: what the body stores at one row and channel, and the block's place in its sequence. -/
module

public import proofs.«01_k».proof.Defs
public import proofs.«01_k».proof.Proof.Gen.Kernel8Ideal.Frame
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic

namespace Cert.Kernel8Ideal.Value
open Cert.Kernel8Ideal Cert.Kernel8Ideal.Gen

/-- The block's number within its sequence: a context sequence is one block, a sample sixteen. -/
def place (b : BitVec 32) : BitVec 32 :=
  Scalar.select (Scalar.cmpi .slt b 32#32) (Scalar.select (Scalar.andi (Scalar.xori (Scalar.cmpi .slt (Scalar.remsi b (Scalar.select (Scalar.cmpi .eq 1#32 0#32) 1#32 1#32)) 0#32) (Scalar.cmpi .slt (Scalar.select (Scalar.cmpi .eq 1#32 0#32) 1#32 1#32) 0#32)) (Scalar.cmpi .ne (Scalar.remsi b (Scalar.select (Scalar.cmpi .eq 1#32 0#32) 1#32 1#32)) 0#32)) (Scalar.addi (Scalar.remsi b (Scalar.select (Scalar.cmpi .eq 1#32 0#32) 1#32 1#32)) (Scalar.select (Scalar.cmpi .eq 1#32 0#32) 1#32 1#32)) (Scalar.remsi b (Scalar.select (Scalar.cmpi .eq 1#32 0#32) 1#32 1#32))) (Scalar.select (Scalar.andi (Scalar.xori (Scalar.cmpi .slt (Scalar.remsi (Scalar.subi b 32#32) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (Scalar.subi b 32#32) (Scalar.select (Scalar.cmpi .eq 16#32 0#32) 1#32 16#32)) 0#32)) (Scalar.addi (Scalar.remsi (Scalar.subi b 32#32) (Scalar.select (Scalar.cmpi .eq 16#32 0#32) 1#32 16#32)) (Scalar.select (Scalar.cmpi .eq 16#32 0#32) 1#32 16#32)) (Scalar.remsi (Scalar.subi b 32#32) (Scalar.select (Scalar.cmpi .eq 16#32 0#32) 1#32 16#32)))

/-- Whether the block is its sequence's first. -/
def firstBit (b : BitVec 32) : BitVec 1 := Scalar.cmpi .eq (place b) 0#32

/-- Whether the block is its sequence's last. -/
def lastBit (b : BitVec 32) : BitVec 1 := Scalar.cmpi .eq (place b) (Scalar.subi (Scalar.select (Scalar.cmpi .slt b 32#32) 1#32 16#32) 1#32)

theorem bits_at : ∀ t : Fin grid0.N,
    firstBit (BitVec.ofNat 32 (grid0.coords t 0).val) = (if t.val < 32 ∨ t.val % 16 = 0 then 1#1 else 0#1)
    ∧ lastBit (BitVec.ofNat 32 (grid0.coords t 0).val) = (if t.val < 32 ∨ t.val % 16 = 15 then 1#1 else 0#1) := by
  decide +kernel

/-- The comparison of a row's number with a literal. -/
theorem row_is : ∀ i : Fin 256, (IntOp.cmpi CmpIPredicate.eq (BitVec.ofNat 32 i.val) 0#32 = 1 ↔ i.val = 0)
    ∧ (IntOp.cmpi CmpIPredicate.eq (BitVec.ofNat 32 i.val) 255#32 = 1 ↔ i.val = 255) := by
  decide +kernel

/-- The body's result at one row and channel. -/
theorem pay_at (u v : BitVec 1) (p : FVec Ideal S256x512 .f32) (a g n w0 w1 w2 : FVec Ideal S1x512 .f32) (gb : FVec Ideal S256x512 .f32)
    (i : Fin 256) (j : Fin 512) :
    k0_pay1 (F := Ideal) u v p a g n w0 w1 w2 gb (ix2 i j)
      = gb (ix2 i j) * (((if i.val = 0 then (if u = 1 then 0 else a (ix2 0 j)) else p (ix2 ⟨(i.val + 256 - 1) % 256, by omega⟩ j)) * w0 (ix2 0 j)
        + p (ix2 i j) * w1 (ix2 0 j))
        + (if i.val = 255 then (if v = 1 then 0 else g (ix2 0 j) * n (ix2 0 j)) else p (ix2 ⟨(i.val + 256 - 255) % 256, by omega⟩ j)) * w2 (ix2 0 j)) := by
  unfold k0_pay1
  pointwise []
  simp only [Scalar.select, (row_is i).1, (row_is i).2]

/-- The two products of the gated columns. -/
theorem pay2_at (a b : Vec Ideal S256x512 .f32) (i : Fin 256) (j : Fin 512) : k0_pay2 (F := Ideal) a b (ix2 i j) = a (ix2 i j) * b (ix2 i j) := rfl
@[inherit_doc pay2_at]
theorem pay3_at (a b : Vec Ideal S1x512 .f32) (j : Fin 512) : k0_pay3 (F := Ideal) a b (ix2 0 j) = a (ix2 0 j) * b (ix2 0 j) := rfl

/-- The row a load cuts out of a block. -/
theorem ld1_at (x : Vec Ideal S8x512 .f32) (l : Fin 512) : View.ld x r0_1 (ix2 0 l) = x (ix2 7 l) := by
  refine congrArg x ?_
  idx_ext
@[inherit_doc ld1_at]
theorem ld2_at (x : Vec Ideal S8x512 .f32) (l : Fin 512) : View.ld x r0_2 (ix2 0 l) = x (ix2 0 l) := by
  refine congrArg x ?_
  idx_ext
@[inherit_doc ld1_at]
theorem ld3_at (x : Vec Ideal S3x512 .f32) (l : Fin 512) : View.ld x r0_3 (ix2 0 l) = x (ix2 0 l) := by
  refine congrArg x ?_
  idx_ext
@[inherit_doc ld1_at]
theorem ld4_at (x : Vec Ideal S3x512 .f32) (l : Fin 512) : View.ld x r0_4 (ix2 0 l) = x (ix2 1 l) := by
  refine congrArg x ?_
  idx_ext
@[inherit_doc ld1_at]
theorem ld5_at (x : Vec Ideal S3x512 .f32) (l : Fin 512) : View.ld x r0_5 (ix2 0 l) = x (ix2 2 l) := by
  refine congrArg x ?_
  idx_ext

end Cert.Kernel8Ideal.Value

end
-- ==== Proof.Conv.Reference.lean ====
/- The GATED CONVOLUTION of the reference, in stages, and its entry at one token and channel. A token's two neighbours are those
   of its own sequence; beyond a sequence's ends stands zero. -/
module

public import proofs.«01_k».proof.Defs
public import proofs.«01_k».proof.Proof.Gen.Reference8Ideal.Run
public import Idealize.ShloMosaic.Lib.KernelVsHost
public import Idealize.ShloMosaic.Lib.Pointwise

@[expose] public section

set_option maxRecDepth 16384

noncomputable section

open Idealize.ShloMosaic

namespace Cert.Conv

/-- The product of the two gated columns at token `n`, `n` taken around the end. -/
def cell (X : FVec Ideal ⟨2, ![24576, 3072]⟩ .f32) (n : ℕ) (j : Fin 512) : EReal :=
  X (ix2 ⟨n % 24576, Nat.mod_lt _ (by decide)⟩ ⟨2048 + j.val, by omega⟩) * X (ix2 ⟨n % 24576, Nat.mod_lt _ (by decide)⟩ ⟨2560 + j.val, by omega⟩)

/-- Whether token `n` is the first of its sequence. -/
def isFirst (n : ℕ) : Prop := if n < 8192 then n % 256 = 0 else n % 4096 = 0

/-- Whether token `n` is the last of its sequence. -/
def isLast (n : ℕ) : Prop := if n < 8192 then n % 256 = 255 else n % 4096 = 4095

instance (n : ℕ) : Decidable (isFirst n) := by unfold isFirst; infer_instance
instance (n : ℕ) : Decidable (isLast n) := by unfold isLast; infer_instance

theorem isFirst_ctx {n : ℕ} (h : n < 8192) : isFirst n ↔ n % 256 = 0 := by unfold isFirst; rw [if_pos h]
theorem isFirst_lat {n : ℕ} (h : ¬n < 8192) : isFirst n ↔ n % 4096 = 0 := by unfold isFirst; rw [if_neg h]
theorem isLast_ctx {n : ℕ} (h : n < 8192) : isLast n ↔ n % 256 = 255 := by unfold isLast; rw [if_pos h]
theorem isLast_lat {n : ℕ} (h : ¬n < 8192) : isLast n ↔ n % 4096 = 4095 := by unfold isLast; rw [if_neg h]

/-- The gate times the three taps. -/
def gated (g l p r w0 w1 w2 : EReal) : EReal := g * ((l * w0 + p * w1) + r * w2)

/-- The convolution at one token and channel. -/
def convAt (X : FVec Ideal ⟨2, ![24576, 3072]⟩ .f32) (W : FVec Ideal ⟨2, ![3, 512]⟩ .f32) (n : Fin 24576) (j : Fin 512) : EReal :=
  gated (X (ix2 n ⟨1536 + j.val, by omega⟩)) (if isFirst n.val then 0 else cell X (n.val - 1) j) (cell X n.val j)
    (if isLast n.val then 0 else cell X (n.val + 1) j) (W (ix2 0 j)) (W (ix2 1 j)) (W (ix2 2 j))

theorem cell_eq (X : FVec Ideal ⟨2, ![24576, 3072]⟩ .f32) (n : ℕ) (j : Fin 512) (r : Fin 24576) (k l : Fin 3072) (hr : r.val = n)
    (hk : k.val = 2048 + j.val) (hl : l.val = 2560 + j.val) : X (ix2 r k) * X (ix2 r l) = cell X n j := by
  have e : (⟨n % 24576, Nat.mod_lt _ (by decide)⟩ : Fin 24576) = r :=
    Fin.ext (by show n % 24576 = r.val; rw [← hr]; exact Nat.mod_eq_of_lt r.isLt)
  have ek : (⟨2048 + j.val, by omega⟩ : Fin 3072) = k := Fin.ext hk.symm
  have el : (⟨2560 + j.val, by omega⟩ : Fin 3072) = l := Fin.ext hl.symm
  rw [cell, e, ek, el]

end Cert.Conv

namespace Cert.Reference8Ideal.Value
open Cert.Reference8Ideal Cert.Reference8Ideal.Gen Cert.Conv

/-- The context's columns, one sequence after another. -/
def ctxIn (X : FVec Ideal S24576x3072 .f32) : FVec Ideal S32x256x1536 .f32 :=
  shapeCast _ (extractStridedSlice S8192x1536 ![0, 1536] X slices_S24576x3072_S8192x1536_0_1536) shapeCasts_S8192x1536_S32x256x1536

/-- The samples' columns. -/
def latIn (X : FVec Ideal S24576x3072 .f32) : FVec Ideal S4x4096x1536 .f32 :=
  shapeCast _ (extractStridedSlice S16384x1536 ![8192, 1536] X slices_S24576x3072_S16384x1536_8192_1536) shapeCasts_S16384x1536_S4x4096x1536

/-- The product of the second and third columns, one row of zeros before and one after. -/
def ctxPad (z : FVec Ideal S32x256x1536 .f32) : FVec Ideal S32x258x512 .f32 :=
  pad S32x258x512 ![0, 1, 0] ![0, 1, 0] ![0, 0, 0] (mulf (extractStridedSlice S32x256x512 ![0, 0, 512] z slices_S32x256x1536_S32x256x512_0_0_512) (extractStridedSlice S32x256x512 ![0, 0, 1024] z slices_S32x256x1536_S32x256x512_0_0_1024)) (sitofp .f32 (constantI S_ 32 0#32)) pads_S32x256x512_S32x258x512_000_110_000 h_S_
@[inherit_doc ctxPad]
def latPad (z : FVec Ideal S4x4096x1536 .f32) : FVec Ideal S4x4098x512 .f32 :=
  pad S4x4098x512 ![0, 1, 0] ![0, 1, 0] ![0, 0, 0] (mulf (extractStridedSlice S4x4096x512 ![0, 0, 512] z slices_S4x4096x1536_S4x4096x512_0_0_512) (extractStridedSlice S4x4096x512 ![0, 0, 1024] z slices_S4x4096x1536_S4x4096x512_0_0_1024)) (sitofp .f32 (constantI S_ 32 0#32)) pads_S4x4096x512_S4x4098x512_000_110_000 h_S_

/-- The gate times the three taps of the padded product. -/
def ctxOut (z : FVec Ideal S32x256x1536 .f32) (q : FVec Ideal S32x258x512 .f32) (W : FVec Ideal S3x512 .f32) : FVec Ideal S32x256x512 .f32 :=
  mulf (extractStridedSlice S32x256x512 ![0, 0, 0] z slices_S32x256x1536_S32x256x512_0_0_0) (addf (addf (mulf (extractStridedSlice S32x256x512 ![0, 0, 0] q slices_S32x258x512_S32x256x512_0_0_0) (broadcastInDim S32x256x512 ![0, 1, 2] bcast_S1x1x512_S32x256x512_0_1_2 (broadcastInDim S1x1x512 ![2] bcast_S512_S1x1x512_2 (shapeCast _ (extractStridedSlice S1x512 ![0, 0] W slices_S3x512_S1x512_0_0) shapeCasts_S1x512_S512)))) (mulf (extractStridedSlice S32x256x512 ![0, 1, 0] q slices_S32x258x512_S32x256x512_0_1_0) (broadcastInDim S32x256x512 ![0, 1, 2] bcast_S1x1x512_S32x256x512_0_1_2 (broadcastInDim S1x1x512 ![2] bcast_S512_S1x1x512_2 (shapeCast _ (extractStridedSlice S1x512 ![1, 0] W slices_S3x512_S1x512_1_0) shapeCasts_S1x512_S512))))) (mulf (extractStridedSlice S32x256x512 ![0, 2, 0] q slices_S32x258x512_S32x256x512_0_2_0) (broadcastInDim S32x256x512 ![0, 1, 2] bcast_S1x1x512_S32x256x512_0_1_2 (broadcastInDim S1x1x512 ![2] bcast_S512_S1x1x512_2 (shapeCast _ (extractStridedSlice S1x512 ![2, 0] W slices_S3x512_S1x512_2_0) shapeCasts_S1x512_S512)))))
@[inherit_doc ctxOut]
def latOut (z : FVec Ideal S4x4096x1536 .f32) (q : FVec Ideal S4x4098x512 .f32) (W : FVec Ideal S3x512 .f32) : FVec Ideal S4x4096x512 .f32 :=
  mulf (extractStridedSlice S4x4096x512 ![0, 0, 0] z slices_S4x4096x1536_S4x4096x512_0_0_0) (addf (addf (mulf (extractStridedSlice S4x4096x512 ![0, 0, 0] q slices_S4x4098x512_S4x4096x512_0_0_0) (broadcastInDim S4x4096x512 ![0, 1, 2] bcast_S1x1x512_S4x4096x512_0_1_2 (broadcastInDim S1x1x512 ![2] bcast_S512_S1x1x512_2 (shapeCast _ (extractStridedSlice S1x512 ![0, 0] W slices_S3x512_S1x512_0_0) shapeCasts_S1x512_S512)))) (mulf (extractStridedSlice S4x4096x512 ![0, 1, 0] q slices_S4x4098x512_S4x4096x512_0_1_0) (broadcastInDim S4x4096x512 ![0, 1, 2] bcast_S1x1x512_S4x4096x512_0_1_2 (broadcastInDim S1x1x512 ![2] bcast_S512_S1x1x512_2 (shapeCast _ (extractStridedSlice S1x512 ![1, 0] W slices_S3x512_S1x512_1_0) shapeCasts_S1x512_S512))))) (mulf (extractStridedSlice S4x4096x512 ![0, 2, 0] q slices_S4x4098x512_S4x4096x512_0_2_0) (broadcastInDim S4x4096x512 ![0, 1, 2] bcast_S1x1x512_S4x4096x512_0_1_2 (broadcastInDim S1x1x512 ![2] bcast_S512_S1x1x512_2 (shapeCast _ (extractStridedSlice S1x512 ![2, 0] W slices_S3x512_S1x512_2_0) shapeCasts_S1x512_S512)))))

/-- The two parts joined and rounded. -/
def join (a : FVec Ideal S32x256x512 .f32) (b : FVec Ideal S4x4096x512 .f32) : FVec Ideal S24576x512 .bf16 :=
  truncf .bf16 (concatenate S24576x512 0 [⟨S8192x512, (shapeCast _ a shapeCasts_S32x256x512_S8192x512)⟩, ⟨S16384x512, (shapeCast _ b shapeCasts_S4x4096x512_S16384x512)⟩] concatenates_S8192x512_S16384x512_S24576x512_d0) bitsLt_bf16_f32

/-- The whole reference. -/
def CONV (X : FVec Ideal S24576x3072 .f32) (W : FVec Ideal S3x512 .f32) : FVec Ideal S24576x512 .bf16 :=
  join (ctxOut (ctxIn X) (ctxPad (ctxIn X)) W) (latOut (latIn X) (latPad (latIn X)) W)

theorem ctxIn_at (X : FVec Ideal S24576x3072 .f32) (b : Fin 32) (i : Fin 256) (k : Fin 1536) :
    ctxIn X (ix3 b i k) = X (ix2 ⟨b.val * 256 + i.val, by omega⟩ ⟨1536 + k.val, by omega⟩) := by
  pointwise [ctxIn]

theorem latIn_at (X : FVec Ideal S24576x3072 .f32) (b : Fin 4) (i : Fin 4096) (k : Fin 1536) :
    latIn X (ix3 b i k) = X (ix2 ⟨8192 + (b.val * 4096 + i.val), by omega⟩ ⟨1536 + k.val, by omega⟩) := by
  pointwise [latIn]

theorem zero_at (k : S_.Idx) : (sitofp .f32 (constantI S_ 32 0#32) : FVec Ideal S_ .f32) k = 0 :=
  sitofp_zero

theorem ctxPad_in (z : FVec Ideal S32x256x1536 .f32) (b : Fin 32) (q : Fin 258) (i : Fin 256) (j : Fin 512) (h : q.val = 1 + i.val) :
    ctxPad z (ix3 b q j) = z (ix3 b i ⟨512 + j.val, by omega⟩) * z (ix3 b i ⟨1024 + j.val, by omega⟩) := by
  refine (pad_apply_of_inside _ _ _ _ _ _ _ _ (ix3 b i j) fun a => ?_).trans (by pointwise [])
  fin_cases a
  · show b.val = 0 + b.val * 1; omega
  · show q.val = 1 + i.val * 1; omega
  · show j.val = 0 + j.val * 1; omega

theorem latPad_in (z : FVec Ideal S4x4096x1536 .f32) (b : Fin 4) (q : Fin 4098) (i : Fin 4096) (j : Fin 512) (h : q.val = 1 + i.val) :
    latPad z (ix3 b q j) = z (ix3 b i ⟨512 + j.val, by omega⟩) * z (ix3 b i ⟨1024 + j.val, by omega⟩) := by
  refine (pad_apply_of_inside _ _ _ _ _ _ _ _ (ix3 b i j) fun a => ?_).trans (by pointwise [])
  fin_cases a
  · show b.val = 0 + b.val * 1; omega
  · show q.val = 1 + i.val * 1; omega
  · show j.val = 0 + j.val * 1; omega

theorem ctxPad_out (z : FVec Ideal S32x256x1536 .f32) (b : Fin 32) (q : Fin 258) (j : Fin 512) (h : q.val = 0 ∨ q.val = 257) :
    ctxPad z (ix3 b q j) = 0 := by
  refine (pad_apply_of_not_inside _ _ _ _ _ _ _ _ (1 : Fin 3) ?_).trans (zero_at _)
  show ¬(1 ≤ q.val ∧ (q.val - 1) % 1 = 0 ∧ (q.val - 1) / 1 < 256)
  omega

theorem latPad_out (z : FVec Ideal S4x4096x1536 .f32) (b : Fin 4) (q : Fin 4098) (j : Fin 512) (h : q.val = 0 ∨ q.val = 4097) :
    latPad z (ix3 b q j) = 0 := by
  refine (pad_apply_of_not_inside _ _ _ _ _ _ _ _ (1 : Fin 3) ?_).trans (zero_at _)
  show ¬(1 ≤ q.val ∧ (q.val - 1) % 1 = 0 ∧ (q.val - 1) / 1 < 4096)
  omega

theorem ctxOut_at (z : FVec Ideal S32x256x1536 .f32) (q : FVec Ideal S32x258x512 .f32) (W : FVec Ideal S3x512 .f32) (b : Fin 32) (i : Fin 256)
    (j : Fin 512) : ctxOut z q W (ix3 b i j) = gated (z (ix3 b i ⟨j.val, by omega⟩)) (q (ix3 b ⟨i.val, by omega⟩ j))
      (q (ix3 b ⟨1 + i.val, by omega⟩ j)) (q (ix3 b ⟨2 + i.val, by omega⟩ j)) (W (ix2 0 j)) (W (ix2 1 j)) (W (ix2 2 j)) := by
  pointwise [ctxOut, gated]

theorem latOut_at (z : FVec Ideal S4x4096x1536 .f32) (q : FVec Ideal S4x4098x512 .f32) (W : FVec Ideal S3x512 .f32) (b : Fin 4) (i : Fin 4096)
    (j : Fin 512) : latOut z q W (ix3 b i j) = gated (z (ix3 b i ⟨j.val, by omega⟩)) (q (ix3 b ⟨i.val, by omega⟩ j))
      (q (ix3 b ⟨1 + i.val, by omega⟩ j)) (q (ix3 b ⟨2 + i.val, by omega⟩ j)) (W (ix2 0 j)) (W (ix2 1 j)) (W (ix2 2 j)) := by
  pointwise [latOut, gated]

theorem join_at (a : FVec Ideal S32x256x512 .f32) (b : FVec Ideal S4x4096x512 .f32) (r : Fin 24576) (l : Fin 512) :
    join a b (ix2 r l) = if h : r.val < 8192 then a (ix3 ⟨r.val / 256, by omega⟩ ⟨r.val % 256, by omega⟩ l)
      else b (ix3 ⟨(r.val - 8192) / 4096, by omega⟩ ⟨(r.val - 8192) % 4096, by omega⟩ l) := by
  pointwise [join]

/-- A padded context row that holds token `n`'s product. -/
theorem ctxPad_cell (X : FVec Ideal S24576x3072 .f32) (b : Fin 32) (q : Fin 258) (j : Fin 512) (h1 : 1 ≤ q.val) (h2 : q.val ≤ 256) (n : ℕ)
    (hn : n + 1 = b.val * 256 + q.val) : ctxPad (ctxIn X) (ix3 b q j) = cell X n j := by
  rw [ctxPad_in _ b q ⟨q.val - 1, by omega⟩ j (by show q.val = 1 + (q.val - 1); omega), ctxIn_at, ctxIn_at]
  exact cell_eq X n j _ _ _ (by show b.val * 256 + (q.val - 1) = n; omega) (by show 1536 + (512 + j.val) = 2048 + j.val; omega)
    (by show 1536 + (1024 + j.val) = 2560 + j.val; omega)

/-- A padded sample row that holds token `n`'s product. -/
theorem latPad_cell (X : FVec Ideal S24576x3072 .f32) (b : Fin 4) (q : Fin 4098) (j : Fin 512) (h1 : 1 ≤ q.val) (h2 : q.val ≤ 4096) (n : ℕ)
    (hn : n + 1 = 8192 + (b.val * 4096 + q.val)) : latPad (latIn X) (ix3 b q j) = cell X n j := by
  rw [latPad_in _ b q ⟨q.val - 1, by omega⟩ j (by show q.val = 1 + (q.val - 1); omega), latIn_at, latIn_at]
  exact cell_eq X n j _ _ _ (by show 8192 + (b.val * 4096 + (q.val - 1)) = n; omega) (by show 1536 + (512 + j.val) = 2048 + j.val; omega)
    (by show 1536 + (1024 + j.val) = 2560 + j.val; omega)

/-- The reference at one token and channel. -/
theorem CONV_at (X : FVec Ideal S24576x3072 .f32) (W : FVec Ideal S3x512 .f32) (n : Fin 24576) (j : Fin 512) :
    CONV X W (ix2 n j) = convAt X W n j := by
  rw [CONV, join_at, convAt]
  by_cases h : n.val < 8192
  · rw [dif_pos h, ctxOut_at, ctxIn_at]
    have hl : ctxPad (ctxIn X) (ix3 ⟨n.val / 256, by omega⟩ ⟨n.val % 256, by omega⟩ j) = if isFirst n.val then 0 else cell X (n.val - 1) j := by
      by_cases e : n.val % 256 = 0
      · rw [if_pos ((isFirst_ctx h).mpr e)]; exact ctxPad_out _ _ _ _ (Or.inl e)
      · rw [if_neg fun k => e ((isFirst_ctx h).mp k)]
        exact ctxPad_cell X _ _ _ (by show 1 ≤ n.val % 256; omega) (by show n.val % 256 ≤ 256; omega) _
          (by show n.val - 1 + 1 = n.val / 256 * 256 + n.val % 256; omega)
    have hp : ctxPad (ctxIn X) (ix3 ⟨n.val / 256, by omega⟩ ⟨1 + n.val % 256, by omega⟩ j) = cell X n.val j :=
      ctxPad_cell X _ _ _ (by show 1 ≤ 1 + n.val % 256; omega) (by show 1 + n.val % 256 ≤ 256; omega) _
        (by show n.val + 1 = n.val / 256 * 256 + (1 + n.val % 256); omega)
    have hr : ctxPad (ctxIn X) (ix3 ⟨n.val / 256, by omega⟩ ⟨2 + n.val % 256, by omega⟩ j) = if isLast n.val then 0 else cell X (n.val + 1) j := by
      by_cases e : n.val % 256 = 255
      · rw [if_pos ((isLast_ctx h).mpr e)]; exact ctxPad_out _ _ _ _ (Or.inr (by show 2 + n.val % 256 = 257; omega))
      · rw [if_neg fun k => e ((isLast_ctx h).mp k)]
        exact ctxPad_cell X _ _ _ (by show 1 ≤ 2 + n.val % 256; omega) (by show 2 + n.val % 256 ≤ 256; omega) _
          (by show n.val + 1 + 1 = n.val / 256 * 256 + (2 + n.val % 256); omega)
    have hg : (⟨n.val / 256 * 256 + n.val % 256, by omega⟩ : Fin 24576) = n := Fin.ext (by show n.val / 256 * 256 + n.val % 256 = n.val; omega)
    rw [hl, hp, hr, hg]
  · rw [dif_neg h, latOut_at, latIn_at]
    have hl : latPad (latIn X) (ix3 ⟨(n.val - 8192) / 4096, by omega⟩ ⟨(n.val - 8192) % 4096, by omega⟩ j)
        = if isFirst n.val then 0 else cell X (n.val - 1) j := by
      by_cases e : n.val % 4096 = 0
      · rw [if_pos ((isFirst_lat h).mpr e)]; exact latPad_out _ _ _ _ (Or.inl (by show (n.val - 8192) % 4096 = 0; omega))
      · rw [if_neg fun k => e ((isFirst_lat h).mp k)]
        exact latPad_cell X _ _ _ (by show 1 ≤ (n.val - 8192) % 4096; omega) (by show (n.val - 8192) % 4096 ≤ 4096; omega) _
          (by show n.val - 1 + 1 = 8192 + ((n.val - 8192) / 4096 * 4096 + (n.val - 8192) % 4096); omega)
    have hp : latPad (latIn X) (ix3 ⟨(n.val - 8192) / 4096, by omega⟩ ⟨1 + (n.val - 8192) % 4096, by omega⟩ j) = cell X n.val j :=
      latPad_cell X _ _ _ (by show 1 ≤ 1 + (n.val - 8192) % 4096; omega) (by show 1 + (n.val - 8192) % 4096 ≤ 4096; omega) _
        (by show n.val + 1 = 8192 + ((n.val - 8192) / 4096 * 4096 + (1 + (n.val - 8192) % 4096)); omega)
    have hr : latPad (latIn X) (ix3 ⟨(n.val - 8192) / 4096, by omega⟩ ⟨2 + (n.val - 8192) % 4096, by omega⟩ j)
        = if isLast n.val then 0 else cell X (n.val + 1) j := by
      by_cases e : n.val % 4096 = 4095
      · rw [if_pos ((isLast_lat h).mpr e)]; exact latPad_out _ _ _ _ (Or.inr (by show 2 + (n.val - 8192) % 4096 = 4097; omega))
      · rw [if_neg fun k => e ((isLast_lat h).mp k)]
        exact latPad_cell X _ _ _ (by show 1 ≤ 2 + (n.val - 8192) % 4096; omega) (by show 2 + (n.val - 8192) % 4096 ≤ 4096; omega) _
          (by show n.val + 1 + 1 = 8192 + ((n.val - 8192) / 4096 * 4096 + (2 + (n.val - 8192) % 4096)); omega)
    have hg : (⟨8192 + ((n.val - 8192) / 4096 * 4096 + (n.val - 8192) % 4096), by omega⟩ : Fin 24576) = n :=
      Fin.ext (by show 8192 + ((n.val - 8192) / 4096 * 4096 + (n.val - 8192) % 4096) = n.val; omega)
    rw [hl, hp, hr, hg]

end Cert.Reference8Ideal.Value

end
-- ==== Proof.Conv.Claims.lean ====
/- The GATED CONVOLUTION: the array the kernel leaves is the reference's, and the two claims. -/
module

public import proofs.«01_k».proof.Defs
public import proofs.«01_k».proof.Proof.Conv.Block
public import proofs.«01_k».proof.Proof.Conv.Reference
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kernel8Ideal.Value
open Cert.Kernel8Ideal Cert.Kernel8Ideal.Gen Cert.Conv
open Cert.Reference8Ideal.Value (CONV CONV_at)

variable (m : (ℓ : Loc nD τ sig) → Buf (Elt Ideal) ℓ)

/-- The windows' block indices at every grid point. -/
theorem idx : ∀ t : Fin cfg0.N, win0_0.index t = ![t.val, 3] ∧ win0_1.index t = ![t.val, 4] ∧ win0_2.index t = ![t.val, 5]
    ∧ win0_3.index t = ![t.val * 32 - 1, 4] ∧ win0_4.index t = ![t.val * 32 - 1, 5]
    ∧ win0_5.index t = ![min (t.val * 32 + 32) 3071, 4] ∧ win0_6.index t = ![min (t.val * 32 + 32) 3071, 5]
    ∧ win0_7.index t = ![0, 0] ∧ win0_8.index t = ![t.val, 0] ∧ t.val < 96 :=
  (by decide +kernel : ∀ t : Fin grid0.N, _)

/-- The projected rows and the taps. -/
abbrev rows (c : Dev nD) : FVec Ideal S24576x3072 .f32 := m ((c : Thread nD τ).loc main_arg0)
@[inherit_doc rows]
abbrev taps (c : Dev nD) : FVec Ideal S3x512 .f32 := m ((c : Thread nD τ).loc main_arg1)

/-- What the body stores at grid point `t`. -/
abbrev stored (c : Dev nD) (t : Fin cfg0.N) : FVec Ideal S256x512 .bf16 :=
  k0_pay1 (F := Ideal) (firstBit (BitVec.ofNat 32 (grid0.coords t 0).val)) (lastBit (BitVec.ofNat 32 (grid0.coords t 0).val))
    (k0_pay2 (F := Ideal) (iblk m c 1 t) (iblk m c 2 t)) (k0_pay3 (F := Ideal) (View.ld (iblk m c 3 t) r0_1) (View.ld (iblk m c 4 t) r0_1))
    (View.ld (iblk m c 5 t) r0_2) (View.ld (iblk m c 6 t) r0_2) (View.ld (iblk m c 7 t) r0_3) (View.ld (iblk m c 7 t) r0_4)
    (View.ld (iblk m c 7 t) r0_5) (iblk m c 0 t)

/-- One point's block is the reference at the array indices under it. -/
theorem point (c : Dev nD) (t : Fin cfg0.N) (i : Fin 256) (l : Fin 512) :
    stored m c t (ix2 i l) = CONV (rows m c) (taps m c) (((cfg0.win 8).blk t).view.emb (ix2 i l)) := by
  obtain ⟨e0, e1, e2, e3, e4, e5, e6, e7, e8, ht⟩ := idx t
  have hG : iblk m c 0 t (ix2 i l) = rows m c (ix2 ⟨t.val * 256 + i.val, by omega⟩ ⟨1536 + l.val, by omega⟩) := by
    blk_ext [iblk, V, idx t]
  have h1 : ∀ r : Fin 256, iblk m c 1 t (ix2 r l) = rows m c (ix2 ⟨t.val * 256 + r.val, by omega⟩ ⟨2048 + l.val, by omega⟩) := fun r => by
    blk_ext [iblk, V, idx t]
  have h2 : ∀ r : Fin 256, iblk m c 2 t (ix2 r l) = rows m c (ix2 ⟨t.val * 256 + r.val, by omega⟩ ⟨2560 + l.val, by omega⟩) := fun r => by
    blk_ext [iblk, V, idx t]
  have hP : ∀ r : Fin 256, k0_pay2 (F := Ideal) (iblk m c 1 t) (iblk m c 2 t) (ix2 r l) = cell (rows m c) (t.val * 256 + r.val) l := fun r => by
    refine (pay2_at ..).trans ?_
    rw [h1, h2]
    exact cell_eq (rows m c) _ l _ _ _ rfl rfl rfl
  have hL : ¬t.val = 0 → k0_pay3 (F := Ideal) (View.ld (iblk m c 3 t) r0_1) (View.ld (iblk m c 4 t) r0_1) (ix2 0 l)
      = cell (rows m c) (t.val * 256 - 1) l := fun h0 => by
    have h3 : iblk m c 3 t (ix2 7 l) = rows m c (ix2 ⟨(t.val * 32 - 1) * 8 + 7, by omega⟩ ⟨2048 + l.val, by omega⟩) := by
      blk_ext [iblk, V, idx t]
    have h4 : iblk m c 4 t (ix2 7 l) = rows m c (ix2 ⟨(t.val * 32 - 1) * 8 + 7, by omega⟩ ⟨2560 + l.val, by omega⟩) := by
      blk_ext [iblk, V, idx t]
    refine (pay3_at ..).trans ?_
    rw [(ld1_at _ l).trans h3, (ld1_at _ l).trans h4]
    exact cell_eq (rows m c) _ l _ _ _ (by show (t.val * 32 - 1) * 8 + 7 = t.val * 256 - 1; omega) rfl rfl
  have hR : ¬t.val = 95 → k0_pay3 (F := Ideal) (View.ld (iblk m c 5 t) r0_2) (View.ld (iblk m c 6 t) r0_2) (ix2 0 l)
      = cell (rows m c) (t.val * 256 + 256) l := fun h0 => by
    have h5 : iblk m c 5 t (ix2 0 l) = rows m c (ix2 ⟨min (t.val * 32 + 32) 3071 * 8, by omega⟩ ⟨2048 + l.val, by omega⟩) := by
      blk_ext [iblk, V, idx t]
    have h6 : iblk m c 6 t (ix2 0 l) = rows m c (ix2 ⟨min (t.val * 32 + 32) 3071 * 8, by omega⟩ ⟨2560 + l.val, by omega⟩) := by
      blk_ext [iblk, V, idx t]
    refine (pay3_at ..).trans ?_
    rw [(ld2_at _ l).trans h5, (ld2_at _ l).trans h6]
    exact cell_eq (rows m c) _ l _ _ _ (by show min (t.val * 32 + 32) 3071 * 8 = t.val * 256 + 256; omega) rfl rfl
  have w0 : View.ld (iblk m c 7 t) r0_3 (ix2 0 l) = taps m c (ix2 0 l) := by
    refine (ld3_at _ l).trans ?_
    blk_ext [iblk, V, idx t]
  have w1 : View.ld (iblk m c 7 t) r0_4 (ix2 0 l) = taps m c (ix2 1 l) := by
    refine (ld4_at _ l).trans ?_
    blk_ext [iblk, V, idx t]
  have w2 : View.ld (iblk m c 7 t) r0_5 (ix2 0 l) = taps m c (ix2 2 l) := by
    refine (ld5_at _ l).trans ?_
    blk_ext [iblk, V, idx t]
  have hO : ((cfg0.win 8).blk t).view.emb (ix2 i l : S256x512.Idx)
      = (ix2 (⟨t.val * 256 + i.val, by omega⟩ : Fin 24576) l : S24576x512.Idx) := by
    blk_ext [idx t]
  rw [hO, CONV_at, convAt]
  refine (pay_at ..).trans ?_
  rw [hG, w0, w1, w2, hP i, hP, hP, (bits_at t).1, (bits_at t).2, ← pay3_at (View.ld (iblk m c 5 t) r0_2) (View.ld (iblk m c 6 t) r0_2) l]
  have eL : (if i.val = 0 then (if (if t.val < 32 ∨ t.val % 16 = 0 then 1#1 else 0#1) = 1 then 0
        else k0_pay3 (F := Ideal) (View.ld (iblk m c 3 t) r0_1) (View.ld (iblk m c 4 t) r0_1) (ix2 0 l))
        else cell (rows m c) (t.val * 256 + (i.val + 256 - 1) % 256) l)
      = if isFirst (t.val * 256 + i.val) then 0 else cell (rows m c) (t.val * 256 + i.val - 1) l := by
    by_cases hi : i.val = 0
    · rw [if_pos hi]
      by_cases hf : t.val < 32 ∨ t.val % 16 = 0
      · rw [if_pos hf, if_pos (by decide), if_pos]
        unfold isFirst
        split <;> omega
      · rw [if_neg hf, if_neg (by decide), if_neg, hL (by omega), hi]
        · rfl
        · unfold isFirst
          split <;> omega
    · rw [if_neg hi, if_neg]
      · exact congrArg (fun n => cell (rows m c) n l) (by omega)
      · unfold isFirst
        split <;> omega
  have eR : (if i.val = 255 then (if (if t.val < 32 ∨ t.val % 16 = 15 then 1#1 else 0#1) = 1 then 0
        else k0_pay3 (F := Ideal) (View.ld (iblk m c 5 t) r0_2) (View.ld (iblk m c 6 t) r0_2) (ix2 0 l))
        else cell (rows m c) (t.val * 256 + (i.val + 256 - 255) % 256) l)
      = if isLast (t.val * 256 + i.val) then 0 else cell (rows m c) (t.val * 256 + i.val + 1) l := by
    by_cases hi : i.val = 255
    · rw [if_pos hi]
      by_cases hf : t.val < 32 ∨ t.val % 16 = 15
      · rw [if_pos hf, if_pos (by decide), if_pos]
        unfold isLast
        split <;> omega
      · rw [if_neg hf, if_neg (by decide), if_neg, hR (by omega), hi]
        · unfold isLast
          split <;> omega
    · rw [if_neg hi, if_neg]
      · exact congrArg (fun n => cell (rows m c) n l) (by omega)
      · unfold isLast
        split <;> omega
  rw [eL, eR]
  rfl

/-- The result array is the reference of the arguments. -/
theorem final (c : Dev nD) : (dats m 0 c).arrAt 8 cfg0.N = CONV (rows m c) (taps m c) := by
  refine (dats m 0 c).arrAt_eq_of_covers 8 _ (by decide +kernel) fun t _ y => ?_
  blk_simp
  rw [after0_8]
  frame_out
  obtain ⟨i, l, rfl⟩ : ∃ (i : Fin 256) (l : Fin 512), y = ix2 i l := ⟨y 0, y 1, eq_ix2 y⟩
  exact point m c t i l

end Cert.Kernel8Ideal.Value

namespace Cert.Proof
open Cert.Reference8Ideal.Value (CONV)

/-- The reference terminates and leaves its arguments unchanged. -/
theorem conv_frame_ref : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

/-- The idealized kernel computes the reference. -/
theorem conv_algebraic : Cert.algebraic_Kernel8Ideal_Reference8Ideal := by
  intro m g m' g' _ hagree
  refine ⟨fun c => CONV (Cert.Kernel8Ideal.Value.rows m c) (Cert.Kernel8Ideal.Value.taps m c), ?_, ?_⟩
  · refine (θ_run Cert.Kernel8Ideal.defs _ _).mono (fun r h c => ⟨?_, h.2 c⟩)
      (θ_run_and (Cert.Kernel8Ideal.Gen.run_main m g) (Cert.Kernel8Ideal.Gen.unchanged m g))
    replace h := h.1
    exact ((h c).1 8).trans (Cert.Kernel8Ideal.Value.final m c)
  · refine (θ_run Cert.Reference8Ideal.defs _ _).mono (fun r h c => ?_) (Cert.Reference8Ideal.Value.run m' g')
    obtain ⟨h0, h1⟩ := hagree c
    refine ⟨(h c).1.trans ?_, (h c).2⟩
    show CONV _ _ = _
    rw [h0, h1]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite
public import proofs.«01_k».proof.Proof.Gen.Pre_routed
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference7Ideal.Run
public import proofs.«01_k».proof.Proof.Gen.Reference8Ideal.Run
public import proofs.«01_k».proof.Proof.Gen.Reference9Ideal.Run
public import proofs.«01_k».proof.Proof.Ctx.Claims
public import proofs.«01_k».proof.Proof.Moe.Routed
public import proofs.«01_k».proof.Proof.MoeIdeal.Claims
public import proofs.«01_k».proof.Proof.Proj.Ab
public import proofs.«01_k».proof.Proof.Proj.Cd
public import proofs.«01_k».proof.Proof.Proj.Out
public import proofs.«01_k».proof.Proof.Proj.Norm
public import proofs.«01_k».proof.Proof.Cond.Claims
public import proofs.«01_k».proof.Proof.Cond.Mod
public import proofs.«01_k».proof.Proof.Conv.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts,
    Cert.Kernel7.Gen.facts, Cert.Kernel7Ideal.Gen.facts, Cert.Reference7Ideal.Gen.facts, Cert.Kernel8.Gen.facts,
    Cert.Kernel8Ideal.Gen.facts, Cert.Reference8Ideal.Gen.facts, Cert.Kernel9.Gen.facts, Cert.Kernel9Ideal.Gen.facts,
    Cert.Reference9Ideal.Gen.facts, Cert.Pre_finite.Gen.facts, Cert.Pre_routed.Gen.facts,
    fun m ρ _ => Cert.Kernel.Gen.frame m ρ, fun m ρ _ => Cert.KernelIdeal.Gen.frame m ρ, fun m ρ _ => Cert.KernelIdeal.Gen.frame m ρ,
    ctx_frame_ref, fun m ρ _ => ctx_frame_ref m ρ trivial, moe_frame, moe_frame_ideal, moe_frame_ref,
    fun m ρ _ => Cert.Kernel3.Gen.frame m ρ, fun m ρ _ => Cert.Kernel3Ideal.Gen.frame m ρ, ab_frame_ref,
    fun m ρ _ => Cert.Kernel4.Gen.frame m ρ, fun m ρ _ => Cert.Kernel4Ideal.Gen.frame m ρ, cd_frame_ref,
    fun m ρ _ => Cert.Kernel5.Gen.frame m ρ, fun m ρ _ => Cert.Kernel5Ideal.Gen.frame m ρ, out_frame_ref,
    fun m ρ _ => Cert.Kernel6.Gen.frame m ρ, fun m ρ _ => Cert.Kernel6Ideal.Gen.frame m ρ, norm_frame_ref,
    fun m ρ _ => Cert.Kernel7.Gen.frame m ρ, fun m ρ _ => Cert.Kernel7Ideal.Gen.frame m ρ, keys_frame_ref,
    fun m ρ _ => Cert.Kernel8.Gen.frame m ρ, fun m ρ _ => Cert.Kernel8Ideal.Gen.frame m ρ, conv_frame_ref,
    fun m ρ _ => Cert.Kernel9.Gen.frame m ρ, fun m ρ _ => Cert.Kernel9Ideal.Gen.frame m ρ, mod_frame_ref,
    trivial, ctx_algebraic, trivial, moe_algebraic,
    trivial, ab_algebraic, trivial, cd_algebraic, trivial, out_algebraic, trivial, norm_algebraic,
    trivial, keys_algebraic, trivial, conv_algebraic, trivial, mod_algebraic⟩

end Cert.Proof

end
